-- ==== Defs.lean ====
def Pre_Retention (m : (ℓ : Loc Cert.Retention.nD Cert.Retention.τ Cert.Retention.sig) → Buf (Elt Bits) ℓ) : Prop :=
  True

def Pre_RetentionIdeal (m : (ℓ : Loc Cert.RetentionIdeal.nD Cert.RetentionIdeal.τ Cert.RetentionIdeal.sig) → Buf (Elt Ideal) ℓ) : Prop :=
  True

def Pre_RetentionIdeal_finite [hPre_finite : Cert.Pre_finite.Facts] (m : (ℓ : Loc Cert.RetentionIdeal.nD Cert.RetentionIdeal.τ Cert.RetentionIdeal.sig) → Buf (Elt Ideal) ℓ) : Prop :=
  ∀ c : Dev Cert.RetentionIdeal.nD,
    (Cert.Pre_finite.fn (F := Ideal) (m ((c.tc : Thread Cert.RetentionIdeal.nD Cert.RetentionIdeal.τ).loc Cert.RetentionIdeal.main_arg0)) (m ((c.tc : Thread Cert.RetentionIdeal.nD Cert.RetentionIdeal.τ).loc Cert.RetentionIdeal.main_arg1)) (m ((c.tc : Thread Cert.RetentionIdeal.nD Cert.RetentionIdeal.τ).loc Cert.RetentionIdeal.main_arg2)) (m ((c.tc : Thread Cert.RetentionIdeal.nD Cert.RetentionIdeal.τ).loc Cert.RetentionIdeal.main_arg3)) (m ((c.tc : Thread Cert.RetentionIdeal.nD Cert.RetentionIdeal.τ).loc Cert.RetentionIdeal.main_arg4)) (m ((c.tc : Thread Cert.RetentionIdeal.nD Cert.RetentionIdeal.τ).loc Cert.RetentionIdeal.main_arg5))).1 = (fun _ => 1#1)
    ∧ (Cert.Pre_finite.fn (F := Ideal) (m ((c.tc : Thread Cert.RetentionIdeal.nD Cert.RetentionIdeal.τ).loc Cert.RetentionIdeal.main_arg0)) (m ((c.tc : Thread Cert.RetentionIdeal.nD Cert.RetentionIdeal.τ).loc Cert.RetentionIdeal.main_arg1)) (m ((c.tc : Thread Cert.RetentionIdeal.nD Cert.RetentionIdeal.τ).loc Cert.RetentionIdeal.main_arg2)) (m ((c.tc : Thread Cert.RetentionIdeal.nD Cert.RetentionIdeal.τ).loc Cert.RetentionIdeal.main_arg3)) (m ((c.tc : Thread Cert.RetentionIdeal.nD Cert.RetentionIdeal.τ).loc Cert.RetentionIdeal.main_arg4)) (m ((c.tc : Thread Cert.RetentionIdeal.nD Cert.RetentionIdeal.τ).loc Cert.RetentionIdeal.main_arg5))).2.1 = (fun _ => 1#1)
    ∧ (Cert.Pre_finite.fn (F := Ideal) (m ((c.tc : Thread Cert.RetentionIdeal.nD Cert.RetentionIdeal.τ).loc Cert.RetentionIdeal.main_arg0)) (m ((c.tc : Thread Cert.RetentionIdeal.nD Cert.RetentionIdeal.τ).loc Cert.RetentionIdeal.main_arg1)) (m ((c.tc : Thread Cert.RetentionIdeal.nD Cert.RetentionIdeal.τ).loc Cert.RetentionIdeal.main_arg2)) (m ((c.tc : Thread Cert.RetentionIdeal.nD Cert.RetentionIdeal.τ).loc Cert.RetentionIdeal.main_arg3)) (m ((c.tc : Thread Cert.RetentionIdeal.nD Cert.RetentionIdeal.τ).loc Cert.RetentionIdeal.main_arg4)) (m ((c.tc : Thread Cert.RetentionIdeal.nD Cert.RetentionIdeal.τ).loc Cert.RetentionIdeal.main_arg5))).2.2.1 = (fun _ => 1#1)
    ∧ (Cert.Pre_finite.fn (F := Ideal) (m ((c.tc : Thread Cert.RetentionIdeal.nD Cert.RetentionIdeal.τ).loc Cert.RetentionIdeal.main_arg0)) (m ((c.tc : Thread Cert.RetentionIdeal.nD Cert.RetentionIdeal.τ).loc Cert.RetentionIdeal.main_arg1)) (m ((c.tc : Thread Cert.RetentionIdeal.nD Cert.RetentionIdeal.τ).loc Cert.RetentionIdeal.main_arg2)) (m ((c.tc : Thread Cert.RetentionIdeal.nD Cert.RetentionIdeal.τ).loc Cert.RetentionIdeal.main_arg3)) (m ((c.tc : Thread Cert.RetentionIdeal.nD Cert.RetentionIdeal.τ).loc Cert.RetentionIdeal.main_arg4)) (m ((c.tc : Thread Cert.RetentionIdeal.nD Cert.RetentionIdeal.τ).loc Cert.RetentionIdeal.main_arg5))).2.2.2 = (fun _ => 1#1)

def Pre_RetentionRefIdeal (m : (ℓ : Loc Cert.RetentionRefIdeal.nD Cert.RetentionRefIdeal.τ Cert.RetentionRefIdeal.sig) → Buf (Elt Ideal) ℓ) : Prop :=
  True

def Pre_RetentionRefIdeal_finite [hPre_finite : Cert.Pre_finite.Facts] (m : (ℓ : Loc Cert.RetentionRefIdeal.nD Cert.RetentionRefIdeal.τ Cert.RetentionRefIdeal.sig) → Buf (Elt Ideal) ℓ) : Prop :=
  ∀ c : Dev Cert.RetentionRefIdeal.nD,
    (Cert.Pre_finite.fn (F := Ideal) (m ((c.tc : Thread Cert.RetentionRefIdeal.nD Cert.RetentionRefIdeal.τ).loc Cert.RetentionRefIdeal.main_arg0)) (m ((c.tc : Thread Cert.RetentionRefIdeal.nD Cert.RetentionRefIdeal.τ).loc Cert.RetentionRefIdeal.main_arg1)) (m ((c.tc : Thread Cert.RetentionRefIdeal.nD Cert.RetentionRefIdeal.τ).loc Cert.RetentionRefIdeal.main_arg2)) (m ((c.tc : Thread Cert.RetentionRefIdeal.nD Cert.RetentionRefIdeal.τ).loc Cert.RetentionRefIdeal.main_arg3)) (m ((c.tc : Thread Cert.RetentionRefIdeal.nD Cert.RetentionRefIdeal.τ).loc Cert.RetentionRefIdeal.main_arg4)) (m ((c.tc : Thread Cert.RetentionRefIdeal.nD Cert.RetentionRefIdeal.τ).loc Cert.RetentionRefIdeal.main_arg5))).1 = (fun _ => 1#1)
    ∧ (Cert.Pre_finite.fn (F := Ideal) (m ((c.tc : Thread Cert.RetentionRefIdeal.nD Cert.RetentionRefIdeal.τ).loc Cert.RetentionRefIdeal.main_arg0)) (m ((c.tc : Thread Cert.RetentionRefIdeal.nD Cert.RetentionRefIdeal.τ).loc Cert.RetentionRefIdeal.main_arg1)) (m ((c.tc : Thread Cert.RetentionRefIdeal.nD Cert.RetentionRefIdeal.τ).loc Cert.RetentionRefIdeal.main_arg2)) (m ((c.tc : Thread Cert.RetentionRefIdeal.nD Cert.RetentionRefIdeal.τ).loc Cert.RetentionRefIdeal.main_arg3)) (m ((c.tc : Thread Cert.RetentionRefIdeal.nD Cert.RetentionRefIdeal.τ).loc Cert.RetentionRefIdeal.main_arg4)) (m ((c.tc : Thread Cert.RetentionRefIdeal.nD Cert.RetentionRefIdeal.τ).loc Cert.RetentionRefIdeal.main_arg5))).2.1 = (fun _ => 1#1)
    ∧ (Cert.Pre_finite.fn (F := Ideal) (m ((c.tc : Thread Cert.RetentionRefIdeal.nD Cert.RetentionRefIdeal.τ).loc Cert.RetentionRefIdeal.main_arg0)) (m ((c.tc : Thread Cert.RetentionRefIdeal.nD Cert.RetentionRefIdeal.τ).loc Cert.RetentionRefIdeal.main_arg1)) (m ((c.tc : Thread Cert.RetentionRefIdeal.nD Cert.RetentionRefIdeal.τ).loc Cert.RetentionRefIdeal.main_arg2)) (m ((c.tc : Thread Cert.RetentionRefIdeal.nD Cert.RetentionRefIdeal.τ).loc Cert.RetentionRefIdeal.main_arg3)) (m ((c.tc : Thread Cert.RetentionRefIdeal.nD Cert.RetentionRefIdeal.τ).loc Cert.RetentionRefIdeal.main_arg4)) (m ((c.tc : Thread Cert.RetentionRefIdeal.nD Cert.RetentionRefIdeal.τ).loc Cert.RetentionRefIdeal.main_arg5))).2.2.1 = (fun _ => 1#1)
    ∧ (Cert.Pre_finite.fn (F := Ideal) (m ((c.tc : Thread Cert.RetentionRefIdeal.nD Cert.RetentionRefIdeal.τ).loc Cert.RetentionRefIdeal.main_arg0)) (m ((c.tc : Thread Cert.RetentionRefIdeal.nD Cert.RetentionRefIdeal.τ).loc Cert.RetentionRefIdeal.main_arg1)) (m ((c.tc : Thread Cert.RetentionRefIdeal.nD Cert.RetentionRefIdeal.τ).loc Cert.RetentionRefIdeal.main_arg2)) (m ((c.tc : Thread Cert.RetentionRefIdeal.nD Cert.RetentionRefIdeal.τ).loc Cert.RetentionRefIdeal.main_arg3)) (m ((c.tc : Thread Cert.RetentionRefIdeal.nD Cert.RetentionRefIdeal.τ).loc Cert.RetentionRefIdeal.main_arg4)) (m ((c.tc : Thread Cert.RetentionRefIdeal.nD Cert.RetentionRefIdeal.τ).loc Cert.RetentionRefIdeal.main_arg5))).2.2.2 = (fun _ => 1#1)

def Pre_Experts [hPre_used : Cert.Pre_used.Facts] (m : (ℓ : Loc Cert.Experts.nD Cert.Experts.τ Cert.Experts.sig) → Buf (Elt Bits) ℓ) : Prop :=
  ∀ c : Dev Cert.Experts.nD,
    (Cert.Pre_used.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3))) = (fun _ => 1#1)

def Pre_ExpertsIdeal [hPre_used : Cert.Pre_used.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_used.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3))) = (fun _ => 1#1)

def Pre_ExpertsIdeal_fits [hPre_fits : Cert.Pre_fits.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_fits.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3))).1 = (fun _ => 1#1)
    ∧ (Cert.Pre_fits.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3))).2 = (fun _ => 1#1)

def Pre_ExpertsRefIdeal (m : (ℓ : Loc Cert.ExpertsRefIdeal.nD Cert.ExpertsRefIdeal.τ Cert.ExpertsRefIdeal.sig) → Buf (Elt Ideal) ℓ) : Prop :=
  True

def Pre_ExpertsRefIdeal_fits [hPre_fits : Cert.Pre_fits.Facts] (m : (ℓ : Loc Cert.ExpertsRefIdeal.nD Cert.ExpertsRefIdeal.τ Cert.ExpertsRefIdeal.sig) → Buf (Elt Ideal) ℓ) : Prop :=
  ∀ c : Dev Cert.ExpertsRefIdeal.nD,
    (Cert.Pre_fits.fn (F := Ideal) (m ((c.tc : Thread Cert.ExpertsRefIdeal.nD Cert.ExpertsRefIdeal.τ).loc Cert.ExpertsRefIdeal.main_arg0)) (m ((c.tc : Thread Cert.ExpertsRefIdeal.nD Cert.ExpertsRefIdeal.τ).loc Cert.ExpertsRefIdeal.main_arg1)) (m ((c.tc : Thread Cert.ExpertsRefIdeal.nD Cert.ExpertsRefIdeal.τ).loc Cert.ExpertsRefIdeal.main_arg2)) (m ((c.tc : Thread Cert.ExpertsRefIdeal.nD Cert.ExpertsRefIdeal.τ).loc Cert.ExpertsRefIdeal.main_arg3))).1 = (fun _ => 1#1)
    ∧ (Cert.Pre_fits.fn (F := Ideal) (m ((c.tc : Thread Cert.ExpertsRefIdeal.nD Cert.ExpertsRefIdeal.τ).loc Cert.ExpertsRefIdeal.main_arg0)) (m ((c.tc : Thread Cert.ExpertsRefIdeal.nD Cert.ExpertsRefIdeal.τ).loc Cert.ExpertsRefIdeal.main_arg1)) (m ((c.tc : Thread Cert.ExpertsRefIdeal.nD Cert.ExpertsRefIdeal.τ).loc Cert.ExpertsRefIdeal.main_arg2)) (m ((c.tc : Thread Cert.ExpertsRefIdeal.nD Cert.ExpertsRefIdeal.τ).loc Cert.ExpertsRefIdeal.main_arg3))).2 = (fun _ => 1#1)

def quiescent_Retention [hRetention : Cert.Retention.Facts] : Prop :=
  ∀ (m : (ℓ : Loc Cert.Retention.nD Cert.Retention.τ Cert.Retention.sig) → Buf (Elt Bits) ℓ) (g : Dev Cert.Retention.nD → PrngReg), Pre_Retention m →
    θ_run (Cert.Retention.defs (F := Bits)) (onTc (τ := Cert.Retention.τ) (Cert.Retention.main (F := Bits))) ⟨m, fun _ => 0, g⟩ (fun r => (∀ c : Dev Cert.Retention.nD,
      r.2.mem ((c.tc : Thread Cert.Retention.nD Cert.Retention.τ).loc Cert.Retention.main_arg0) = m ((c.tc : Thread Cert.Retention.nD Cert.Retention.τ).loc Cert.Retention.main_arg0)
      ∧ r.2.mem ((c.tc : Thread Cert.Retention.nD Cert.Retention.τ).loc Cert.Retention.main_arg1) = m ((c.tc : Thread Cert.Retention.nD Cert.Retention.τ).loc Cert.Retention.main_arg1)
      ∧ r.2.mem ((c.tc : Thread Cert.Retention.nD Cert.Retention.τ).loc Cert.Retention.main_arg2) = m ((c.tc : Thread Cert.Retention.nD Cert.Retention.τ).loc Cert.Retention.main_arg2)
      ∧ r.2.mem ((c.tc : Thread Cert.Retention.nD Cert.Retention.τ).loc Cert.Retention.main_arg3) = m ((c.tc : Thread Cert.Retention.nD Cert.Retention.τ).loc Cert.Retention.main_arg3)
      ∧ r.2.mem ((c.tc : Thread Cert.Retention.nD Cert.Retention.τ).loc Cert.Retention.main_arg4) = m ((c.tc : Thread Cert.Retention.nD Cert.Retention.τ).loc Cert.Retention.main_arg4)
      ∧ r.2.mem ((c.tc : Thread Cert.Retention.nD Cert.Retention.τ).loc Cert.Retention.main_arg5) = m ((c.tc : Thread Cert.Retention.nD Cert.Retention.τ).loc Cert.Retention.main_arg5))
      ∧ r.2.sem = fun _ => 0)

def quiescent_RetentionIdeal [hRetentionIdeal : Cert.RetentionIdeal.Facts] : Prop :=
  ∀ (m : (ℓ : Loc Cert.RetentionIdeal.nD Cert.RetentionIdeal.τ Cert.RetentionIdeal.sig) → Buf (Elt Ideal) ℓ) (g : Dev Cert.RetentionIdeal.nD → PrngReg), Pre_RetentionIdeal m →
    θ_run (Cert.RetentionIdeal.defs (F := Ideal)) (onTc (τ := Cert.RetentionIdeal.τ) (Cert.RetentionIdeal.main (F := Ideal))) ⟨m, fun _ => 0, g⟩ (fun r => (∀ c : Dev Cert.RetentionIdeal.nD,
      r.2.mem ((c.tc : Thread Cert.RetentionIdeal.nD Cert.RetentionIdeal.τ).loc Cert.RetentionIdeal.main_arg0) = m ((c.tc : Thread Cert.RetentionIdeal.nD Cert.RetentionIdeal.τ).loc Cert.RetentionIdeal.main_arg0)
      ∧ r.2.mem ((c.tc : Thread Cert.RetentionIdeal.nD Cert.RetentionIdeal.τ).loc Cert.RetentionIdeal.main_arg1) = m ((c.tc : Thread Cert.RetentionIdeal.nD Cert.RetentionIdeal.τ).loc Cert.RetentionIdeal.main_arg1)
      ∧ r.2.mem ((c.tc : Thread Cert.RetentionIdeal.nD Cert.RetentionIdeal.τ).loc Cert.RetentionIdeal.main_arg2) = m ((c.tc : Thread Cert.RetentionIdeal.nD Cert.RetentionIdeal.τ).loc Cert.RetentionIdeal.main_arg2)
      ∧ r.2.mem ((c.tc : Thread Cert.RetentionIdeal.nD Cert.RetentionIdeal.τ).loc Cert.RetentionIdeal.main_arg3) = m ((c.tc : Thread Cert.RetentionIdeal.nD Cert.RetentionIdeal.τ).loc Cert.RetentionIdeal.main_arg3)
      ∧ r.2.mem ((c.tc : Thread Cert.RetentionIdeal.nD Cert.RetentionIdeal.τ).loc Cert.RetentionIdeal.main_arg4) = m ((c.tc : Thread Cert.RetentionIdeal.nD Cert.RetentionIdeal.τ).loc Cert.RetentionIdeal.main_arg4)
      ∧ r.2.mem ((c.tc : Thread Cert.RetentionIdeal.nD Cert.RetentionIdeal.τ).loc Cert.RetentionIdeal.main_arg5) = m ((c.tc : Thread Cert.RetentionIdeal.nD Cert.RetentionIdeal.τ).loc Cert.RetentionIdeal.main_arg5))
      ∧ r.2.sem = fun _ => 0)

def quiescent_RetentionIdeal_pre_finite [hRetentionIdeal : Cert.RetentionIdeal.Facts] [hPre_finite : Cert.Pre_finite.Facts] : Prop :=
  ∀ (m : (ℓ : Loc Cert.RetentionIdeal.nD Cert.RetentionIdeal.τ Cert.RetentionIdeal.sig) → Buf (Elt Ideal) ℓ) (g : Dev Cert.RetentionIdeal.nD → PrngReg), Pre_RetentionIdeal_finite m →
    θ_run (Cert.RetentionIdeal.defs (F := Ideal)) (onTc (τ := Cert.RetentionIdeal.τ) (Cert.RetentionIdeal.main (F := Ideal))) ⟨m, fun _ => 0, g⟩ (fun r => (∀ c : Dev Cert.RetentionIdeal.nD,
      r.2.mem ((c.tc : Thread Cert.RetentionIdeal.nD Cert.RetentionIdeal.τ).loc Cert.RetentionIdeal.main_arg0) = m ((c.tc : Thread Cert.RetentionIdeal.nD Cert.RetentionIdeal.τ).loc Cert.RetentionIdeal.main_arg0)
      ∧ r.2.mem ((c.tc : Thread Cert.RetentionIdeal.nD Cert.RetentionIdeal.τ).loc Cert.RetentionIdeal.main_arg1) = m ((c.tc : Thread Cert.RetentionIdeal.nD Cert.RetentionIdeal.τ).loc Cert.RetentionIdeal.main_arg1)
      ∧ r.2.mem ((c.tc : Thread Cert.RetentionIdeal.nD Cert.RetentionIdeal.τ).loc Cert.RetentionIdeal.main_arg2) = m ((c.tc : Thread Cert.RetentionIdeal.nD Cert.RetentionIdeal.τ).loc Cert.RetentionIdeal.main_arg2)
      ∧ r.2.mem ((c.tc : Thread Cert.RetentionIdeal.nD Cert.RetentionIdeal.τ).loc Cert.RetentionIdeal.main_arg3) = m ((c.tc : Thread Cert.RetentionIdeal.nD Cert.RetentionIdeal.τ).loc Cert.RetentionIdeal.main_arg3)
      ∧ r.2.mem ((c.tc : Thread Cert.RetentionIdeal.nD Cert.RetentionIdeal.τ).loc Cert.RetentionIdeal.main_arg4) = m ((c.tc : Thread Cert.RetentionIdeal.nD Cert.RetentionIdeal.τ).loc Cert.RetentionIdeal.main_arg4)
      ∧ r.2.mem ((c.tc : Thread Cert.RetentionIdeal.nD Cert.RetentionIdeal.τ).loc Cert.RetentionIdeal.main_arg5) = m ((c.tc : Thread Cert.RetentionIdeal.nD Cert.RetentionIdeal.τ).loc Cert.RetentionIdeal.main_arg5))
      ∧ r.2.sem = fun _ => 0)

def quiescent_RetentionRefIdeal [hRetentionRefIdeal : Cert.RetentionRefIdeal.Facts] : Prop :=
  ∀ (m : (ℓ : Loc Cert.RetentionRefIdeal.nD Cert.RetentionRefIdeal.τ Cert.RetentionRefIdeal.sig) → Buf (Elt Ideal) ℓ) (g : Dev Cert.RetentionRefIdeal.nD → PrngReg), Pre_RetentionRefIdeal m →
    θ_run (Cert.RetentionRefIdeal.defs (F := Ideal)) (onTc (τ := Cert.RetentionRefIdeal.τ) (Cert.RetentionRefIdeal.main (F := Ideal))) ⟨m, fun _ => 0, g⟩ (fun r => (∀ c : Dev Cert.RetentionRefIdeal.nD,
      r.2.mem ((c.tc : Thread Cert.RetentionRefIdeal.nD Cert.RetentionRefIdeal.τ).loc Cert.RetentionRefIdeal.main_arg0) = m ((c.tc : Thread Cert.RetentionRefIdeal.nD Cert.RetentionRefIdeal.τ).loc Cert.RetentionRefIdeal.main_arg0)
      ∧ r.2.mem ((c.tc : Thread Cert.RetentionRefIdeal.nD Cert.RetentionRefIdeal.τ).loc Cert.RetentionRefIdeal.main_arg1) = m ((c.tc : Thread Cert.RetentionRefIdeal.nD Cert.RetentionRefIdeal.τ).loc Cert.RetentionRefIdeal.main_arg1)
      ∧ r.2.mem ((c.tc : Thread Cert.RetentionRefIdeal.nD Cert.RetentionRefIdeal.τ).loc Cert.RetentionRefIdeal.main_arg2) = m ((c.tc : Thread Cert.RetentionRefIdeal.nD Cert.RetentionRefIdeal.τ).loc Cert.RetentionRefIdeal.main_arg2)
      ∧ r.2.mem ((c.tc : Thread Cert.RetentionRefIdeal.nD Cert.RetentionRefIdeal.τ).loc Cert.RetentionRefIdeal.main_arg3) = m ((c.tc : Thread Cert.RetentionRefIdeal.nD Cert.RetentionRefIdeal.τ).loc Cert.RetentionRefIdeal.main_arg3)
      ∧ r.2.mem ((c.tc : Thread Cert.RetentionRefIdeal.nD Cert.RetentionRefIdeal.τ).loc Cert.RetentionRefIdeal.main_arg4) = m ((c.tc : Thread Cert.RetentionRefIdeal.nD Cert.RetentionRefIdeal.τ).loc Cert.RetentionRefIdeal.main_arg4)
      ∧ r.2.mem ((c.tc : Thread Cert.RetentionRefIdeal.nD Cert.RetentionRefIdeal.τ).loc Cert.RetentionRefIdeal.main_arg5) = m ((c.tc : Thread Cert.RetentionRefIdeal.nD Cert.RetentionRefIdeal.τ).loc Cert.RetentionRefIdeal.main_arg5))
      ∧ r.2.sem = fun _ => 0)

def quiescent_RetentionRefIdeal_pre_finite [hRetentionRefIdeal : Cert.RetentionRefIdeal.Facts] [hPre_finite : Cert.Pre_finite.Facts] : Prop :=
  ∀ (m : (ℓ : Loc Cert.RetentionRefIdeal.nD Cert.RetentionRefIdeal.τ Cert.RetentionRefIdeal.sig) → Buf (Elt Ideal) ℓ) (g : Dev Cert.RetentionRefIdeal.nD → PrngReg), Pre_RetentionRefIdeal_finite m →
    θ_run (Cert.RetentionRefIdeal.defs (F := Ideal)) (onTc (τ := Cert.RetentionRefIdeal.τ) (Cert.RetentionRefIdeal.main (F := Ideal))) ⟨m, fun _ => 0, g⟩ (fun r => (∀ c : Dev Cert.RetentionRefIdeal.nD,
      r.2.mem ((c.tc : Thread Cert.RetentionRefIdeal.nD Cert.RetentionRefIdeal.τ).loc Cert.RetentionRefIdeal.main_arg0) = m ((c.tc : Thread Cert.RetentionRefIdeal.nD Cert.RetentionRefIdeal.τ).loc Cert.RetentionRefIdeal.main_arg0)
      ∧ r.2.mem ((c.tc : Thread Cert.RetentionRefIdeal.nD Cert.RetentionRefIdeal.τ).loc Cert.RetentionRefIdeal.main_arg1) = m ((c.tc : Thread Cert.RetentionRefIdeal.nD Cert.RetentionRefIdeal.τ).loc Cert.RetentionRefIdeal.main_arg1)
      ∧ r.2.mem ((c.tc : Thread Cert.RetentionRefIdeal.nD Cert.RetentionRefIdeal.τ).loc Cert.RetentionRefIdeal.main_arg2) = m ((c.tc : Thread Cert.RetentionRefIdeal.nD Cert.RetentionRefIdeal.τ).loc Cert.RetentionRefIdeal.main_arg2)
      ∧ r.2.mem ((c.tc : Thread Cert.RetentionRefIdeal.nD Cert.RetentionRefIdeal.τ).loc Cert.RetentionRefIdeal.main_arg3) = m ((c.tc : Thread Cert.RetentionRefIdeal.nD Cert.RetentionRefIdeal.τ).loc Cert.RetentionRefIdeal.main_arg3)
      ∧ r.2.mem ((c.tc : Thread Cert.RetentionRefIdeal.nD Cert.RetentionRefIdeal.τ).loc Cert.RetentionRefIdeal.main_arg4) = m ((c.tc : Thread Cert.RetentionRefIdeal.nD Cert.RetentionRefIdeal.τ).loc Cert.RetentionRefIdeal.main_arg4)
      ∧ r.2.mem ((c.tc : Thread Cert.RetentionRefIdeal.nD Cert.RetentionRefIdeal.τ).loc Cert.RetentionRefIdeal.main_arg5) = m ((c.tc : Thread Cert.RetentionRefIdeal.nD Cert.RetentionRefIdeal.τ).loc Cert.RetentionRefIdeal.main_arg5))
      ∧ r.2.sem = fun _ => 0)

def quiescent_Experts [hExperts : Cert.Experts.Facts] [hPre_used : Cert.Pre_used.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3))
      ∧ r.2.sem = fun _ => 0)

def quiescent_ExpertsIdeal [hExpertsIdeal : Cert.ExpertsIdeal.Facts] [hPre_used : Cert.Pre_used.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3))
      ∧ r.2.sem = fun _ => 0)

def quiescent_ExpertsIdeal_pre_fits [hExpertsIdeal : Cert.ExpertsIdeal.Facts] [hPre_fits : Cert.Pre_fits.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal_fits m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3))
      ∧ r.2.sem = fun _ => 0)

def quiescent_ExpertsRefIdeal [hExpertsRefIdeal : Cert.ExpertsRefIdeal.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3))
      ∧ r.2.sem = fun _ => 0)

def quiescent_ExpertsRefIdeal_pre_fits [hExpertsRefIdeal : Cert.ExpertsRefIdeal.Facts] [hPre_fits : Cert.Pre_fits.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal_fits m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3))
      ∧ r.2.sem = fun _ => 0)

def preserves_Retention_RetentionIdeal : Prop :=
  IdealRules.named_const.Statement Cert.RetentionIdeal.κ "decay0" .f32 0x399ACCA1#32 ((6146015080813575034695417713226912903305888181886472031037824629831672928949925977371885924422256558280598640253784375251182367178077275943508811277617726037926828835493962089938703670916216150637232924767423218594179651908716059369457431352364368667582308905998928857404131059860187300660764250399851094923206841232876192030133070875041117904520293983055025851039902553125047623681 / 20815864389328798163850480654728171077230524494533409610638224700807216119346720596024478883464648369684843227908562015582767132496646929816279813211354641525848259018778440691546366699323167100945918841095379622423387354295096957733925002768876520583464697770622321657076833170056511209332449663781837603694136444406281042053396870977465916057756101739472373801429441421111406337458176 : ℝ) : EReal)
  ∧ IdealRules.named_const.Statement Cert.RetentionIdeal.κ "decay1" .f32 0x3C9160A5#32 ((42774078302235318565319257509240389102448610944058038806438187308967998022705219385729663158638449482363242547246423463242593270189466810827507253377583114893638375653286835591007069102165292454913397853719673918607538604174150929255316756471434149954438683890468730174719505936020561911515555997155458494501519964452840485792481596827492989182299408582213918538682711594745086139424161235245664305277724872062197080286979918058563320302114990397887505300439041 / 2410312426921032588580116606028314112912093247945688951359675039065257391591803200669085024107346049663448766280888004787862416978794958324969612987890774651455213339381625224770782077917681499676845543137387820057597345857904599109461387122099507964997815641342300677629473355281617428411794163967785870370368969109221591943054232011562758450080579587850900993714892283476646631181515063804873375182260506246992837898705971012525843324401232986857004760339316736 : ℝ) : EReal)
  ∧ IdealRules.named_const.Statement Cert.RetentionIdeal.κ "decay2" .f32 0x3E097FCE#32 ((37475942568369757962947522235530371133981530150116838269147324413047700895014398970446404169811997688419833959989077757701150649868243230123056568953964412798172396287429646722188387330264786795375818576214031616869032274669030355559348596733438707526107308633142545065787965914180851284280383384025423970000476770692381976054937465989431021902621277854218705005366130766187721539711495327024166368641272006952024074184121303316623563671196861028284711972009680015975871738940145523351472588749523046764641137000009779131884491317421506561 / 279095111627852376407822673918065072905887935345660252615989519488029661278604994789701101367875859521849524793382568057369148405837577299984720398976429790087982805274893437406788716103454867635208144157749912668657006085226160261808841484862703257771979713923863820038729637520989894984676774385364934677289947762340313157123529922421738738162392233756507666339799675257002539356619747080176786496732679854783185583233878234270370065954615221443190595445898747930123678952192875629172092437548194134594886873249778512829119416327938768896 : ℝ) : EReal)
  ∧ IdealRules.named_const.Statement Cert.RetentionIdeal.κ "decay3" .f32 0x3EBBFC5D#32 ((11865504027970838771731346061683101436994979092949631599037079718981644706917580014911102414175085528643666188591370983920968194011711659169451226844120009995840891480759624977868736986513250783427504228510443452927050635948750086027473241612026344113952918539841083265621530105483498237021333267100718263868013566694893934279056051614332115121424258551337630287851288624870009988393213915090641049449897944231399544068578059227753373776746392142852101691703865017730668871755067274316504625716657064558790363574959526408194231415564059175410672318668947295267860607377447532996550538797464469098486006259918212890625 / 32317006071311007300714876688669951960444102669715484032130345427524655138867890893197201411522913463688717960921898019494119559150490921095088152386448283120630877367300996091750197750389652106796057638384067568276792218642619756161838094338476170470581645852036305042887575891541065808607552399123930385521914333389668342420684974786564569494856176035326322058077805659331026192708460314150258592864177116725943603718461857357598351152301645904403697613233287231227125684710820209725157101726931323469678542580656697935045997268352998638215525166389437335543602135433229604645318478604952148193555853611059596230656 : ℝ) : EReal)

def algebraic_RetentionIdeal_RetentionRefIdeal_pre_finite [hRetentionIdeal : Cert.RetentionIdeal.Facts] [hRetentionRefIdeal : Cert.RetentionRefIdeal.Facts] [hPre_finite : Cert.Pre_finite.Facts] : Prop :=
  ∀ (m : (ℓ : Loc Cert.RetentionIdeal.nD Cert.RetentionIdeal.τ Cert.RetentionIdeal.sig) → Buf (Elt Ideal) ℓ) (g : Dev Cert.RetentionIdeal.nD → PrngReg)
    (m' : (ℓ : Loc Cert.RetentionRefIdeal.nD Cert.RetentionRefIdeal.τ Cert.RetentionRefIdeal.sig) → Buf (Elt Ideal) ℓ) (g' : Dev Cert.RetentionRefIdeal.nD → PrngReg), Pre_RetentionIdeal_finite m →
    (∀ c : Dev Cert.RetentionIdeal.nD,
      m' ((c.tc : Thread Cert.RetentionRefIdeal.nD Cert.RetentionRefIdeal.τ).loc Cert.RetentionRefIdeal.main_arg0) = m ((c.tc : Thread Cert.RetentionIdeal.nD Cert.RetentionIdeal.τ).loc Cert.RetentionIdeal.main_arg0)
      ∧ m' ((c.tc : Thread Cert.RetentionRefIdeal.nD Cert.RetentionRefIdeal.τ).loc Cert.RetentionRefIdeal.main_arg1) = m ((c.tc : Thread Cert.RetentionIdeal.nD Cert.RetentionIdeal.τ).loc Cert.RetentionIdeal.main_arg1)
      ∧ m' ((c.tc : Thread Cert.RetentionRefIdeal.nD Cert.RetentionRefIdeal.τ).loc Cert.RetentionRefIdeal.main_arg2) = m ((c.tc : Thread Cert.RetentionIdeal.nD Cert.RetentionIdeal.τ).loc Cert.RetentionIdeal.main_arg2)
      ∧ m' ((c.tc : Thread Cert.RetentionRefIdeal.nD Cert.RetentionRefIdeal.τ).loc Cert.RetentionRefIdeal.main_arg3) = m ((c.tc : Thread Cert.RetentionIdeal.nD Cert.RetentionIdeal.τ).loc Cert.RetentionIdeal.main_arg3)
      ∧ m' ((c.tc : Thread Cert.RetentionRefIdeal.nD Cert.RetentionRefIdeal.τ).loc Cert.RetentionRefIdeal.main_arg4) = m ((c.tc : Thread Cert.RetentionIdeal.nD Cert.RetentionIdeal.τ).loc Cert.RetentionIdeal.main_arg4)
      ∧ m' ((c.tc : Thread Cert.RetentionRefIdeal.nD Cert.RetentionRefIdeal.τ).loc Cert.RetentionRefIdeal.main_arg5) = m ((c.tc : Thread Cert.RetentionIdeal.nD Cert.RetentionIdeal.τ).loc Cert.RetentionIdeal.main_arg5)) →
    ∃ (v0 : (c : Dev Cert.RetentionIdeal.nD) → Buf (Elt Ideal) ((c.tc : Thread Cert.RetentionIdeal.nD Cert.RetentionIdeal.τ).loc Cert.RetentionIdeal.main_v63)),
      θ_run (Cert.RetentionIdeal.defs (F := Ideal)) (onTc (τ := Cert.RetentionIdeal.τ) (Cert.RetentionIdeal.main (F := Ideal))) ⟨m, fun _ => 0, g⟩ (fun r => ∀ c : Dev Cert.RetentionIdeal.nD,
          r.2.mem ((c.tc : Thread Cert.RetentionIdeal.nD Cert.RetentionIdeal.τ).loc Cert.RetentionIdeal.main_v63) = v0 c
          ∧ r.2.mem ((c.tc : Thread Cert.RetentionIdeal.nD Cert.RetentionIdeal.τ).loc Cert.RetentionIdeal.main_arg0) = m ((c.tc : Thread Cert.RetentionIdeal.nD Cert.RetentionIdeal.τ).loc Cert.RetentionIdeal.main_arg0)
          ∧ r.2.mem ((c.tc : Thread Cert.RetentionIdeal.nD Cert.RetentionIdeal.τ).loc Cert.RetentionIdeal.main_arg1) = m ((c.tc : Thread Cert.RetentionIdeal.nD Cert.RetentionIdeal.τ).loc Cert.RetentionIdeal.main_arg1)
          ∧ r.2.mem ((c.tc : Thread Cert.RetentionIdeal.nD Cert.RetentionIdeal.τ).loc Cert.RetentionIdeal.main_arg2) = m ((c.tc : Thread Cert.RetentionIdeal.nD Cert.RetentionIdeal.τ).loc Cert.RetentionIdeal.main_arg2)
          ∧ r.2.mem ((c.tc : Thread Cert.RetentionIdeal.nD Cert.RetentionIdeal.τ).loc Cert.RetentionIdeal.main_arg3) = m ((c.tc : Thread Cert.RetentionIdeal.nD Cert.RetentionIdeal.τ).loc Cert.RetentionIdeal.main_arg3)
          ∧ r.2.mem ((c.tc : Thread Cert.RetentionIdeal.nD Cert.RetentionIdeal.τ).loc Cert.RetentionIdeal.main_arg4) = m ((c.tc : Thread Cert.RetentionIdeal.nD Cert.RetentionIdeal.τ).loc Cert.RetentionIdeal.main_arg4)
          ∧ r.2.mem ((c.tc : Thread Cert.RetentionIdeal.nD Cert.RetentionIdeal.τ).loc Cert.RetentionIdeal.main_arg5) = m ((c.tc : Thread Cert.RetentionIdeal.nD Cert.RetentionIdeal.τ).loc Cert.RetentionIdeal.main_arg5))
      ∧ θ_run (Cert.RetentionRefIdeal.defs (F := Ideal)) (onTc (τ := Cert.RetentionRefIdeal.τ) (Cert.RetentionRefIdeal.main (F := Ideal))) ⟨m', fun _ => 0, g'⟩ (fun r => ∀ c : Dev Cert.RetentionRefIdeal.nD,
          r.2.mem ((c.tc : Thread Cert.RetentionRefIdeal.nD Cert.RetentionRefIdeal.τ).loc Cert.RetentionRefIdeal.main_v218) = v0 c
          ∧ r.2.mem ((c.tc : Thread Cert.RetentionRefIdeal.nD Cert.RetentionRefIdeal.τ).loc Cert.RetentionRefIdeal.main_arg0) = m' ((c.tc : Thread Cert.RetentionRefIdeal.nD Cert.RetentionRefIdeal.τ).loc Cert.RetentionRefIdeal.main_arg0)
          ∧ r.2.mem ((c.tc : Thread Cert.RetentionRefIdeal.nD Cert.RetentionRefIdeal.τ).loc Cert.RetentionRefIdeal.main_arg1) = m' ((c.tc : Thread Cert.RetentionRefIdeal.nD Cert.RetentionRefIdeal.τ).loc Cert.RetentionRefIdeal.main_arg1)
          ∧ r.2.mem ((c.tc : Thread Cert.RetentionRefIdeal.nD Cert.RetentionRefIdeal.τ).loc Cert.RetentionRefIdeal.main_arg2) = m' ((c.tc : Thread Cert.RetentionRefIdeal.nD Cert.RetentionRefIdeal.τ).loc Cert.RetentionRefIdeal.main_arg2)
          ∧ r.2.mem ((c.tc : Thread Cert.RetentionRefIdeal.nD Cert.RetentionRefIdeal.τ).loc Cert.RetentionRefIdeal.main_arg3) = m' ((c.tc : Thread Cert.RetentionRefIdeal.nD Cert.RetentionRefIdeal.τ).loc Cert.RetentionRefIdeal.main_arg3)
          ∧ r.2.mem ((c.tc : Thread Cert.RetentionRefIdeal.nD Cert.RetentionRefIdeal.τ).loc Cert.RetentionRefIdeal.main_arg4) = m' ((c.tc : Thread Cert.RetentionRefIdeal.nD Cert.RetentionRefIdeal.τ).loc Cert.RetentionRefIdeal.main_arg4)
          ∧ r.2.mem ((c.tc : Thread Cert.RetentionRefIdeal.nD Cert.RetentionRefIdeal.τ).loc Cert.RetentionRefIdeal.main_arg5) = m' ((c.tc : Thread Cert.RetentionRefIdeal.nD Cert.RetentionRefIdeal.τ).loc Cert.RetentionRefIdeal.main_arg5))

def preserves_Experts_ExpertsIdeal : Prop :=
  True

def algebraic_ExpertsIdeal_ExpertsRefIdeal_pre_fits [hExpertsIdeal : Cert.ExpertsIdeal.Facts] [hExpertsRefIdeal : Cert.ExpertsRefIdeal.Facts] [hPre_fits : Cert.Pre_fits.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsRefIdeal.nD Cert.ExpertsRefIdeal.τ Cert.ExpertsRefIdeal.sig) → Buf (Elt Ideal) ℓ) (g' : Dev Cert.ExpertsRefIdeal.nD → PrngReg), Pre_ExpertsIdeal_fits m →
    (∀ c : Dev Cert.ExpertsIdeal.nD,
      m' ((c.tc : Thread Cert.ExpertsRefIdeal.nD Cert.ExpertsRefIdeal.τ).loc Cert.ExpertsRefIdeal.main_arg0) = m ((c.tc : Thread Cert.ExpertsIdeal.nD Cert.ExpertsIdeal.τ).loc Cert.ExpertsIdeal.main_arg0)
      ∧ m' ((c.tc : Thread Cert.ExpertsRefIdeal.nD Cert.ExpertsRefIdeal.τ).loc Cert.ExpertsRefIdeal.main_arg1) = m ((c.tc : Thread Cert.ExpertsIdeal.nD Cert.ExpertsIdeal.τ).loc Cert.ExpertsIdeal.main_arg1)
      ∧ m' ((c.tc : Thread Cert.ExpertsRefIdeal.nD Cert.ExpertsRefIdeal.τ).loc Cert.ExpertsRefIdeal.main_arg2) = m ((c.tc : Thread Cert.ExpertsIdeal.nD Cert.ExpertsIdeal.τ).loc Cert.ExpertsIdeal.main_arg2)
      ∧ m' ((c.tc : Thread Cert.ExpertsRefIdeal.nD Cert.ExpertsRefIdeal.τ).loc Cert.ExpertsRefIdeal.main_arg3) = m ((c.tc : Thread Cert.ExpertsIdeal.nD Cert.ExpertsIdeal.τ).loc Cert.ExpertsIdeal.main_arg3)) →
    ∃ (v0 : (c : Dev Cert.ExpertsIdeal.nD) → Buf (Elt Ideal) ((c.tc : Thread Cert.ExpertsIdeal.nD Cert.ExpertsIdeal.τ).loc Cert.ExpertsIdeal.main_v31)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v31) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3))
      ∧ θ_run (Cert.ExpertsRefIdeal.defs (F := Ideal)) (onTc (τ := Cert.ExpertsRefIdeal.τ) (Cert.ExpertsRefIdeal.main (F := Ideal))) ⟨m', fun _ => 0, g'⟩ (fun r => ∀ c : Dev Cert.ExpertsRefIdeal.nD,
          r.2.mem ((c.tc : Thread Cert.ExpertsRefIdeal.nD Cert.ExpertsRefIdeal.τ).loc Cert.ExpertsRefIdeal.main_v129) = v0 c
          ∧ r.2.mem ((c.tc : Thread Cert.ExpertsRefIdeal.nD Cert.ExpertsRefIdeal.τ).loc Cert.ExpertsRefIdeal.main_arg0) = m' ((c.tc : Thread Cert.ExpertsRefIdeal.nD Cert.ExpertsRefIdeal.τ).loc Cert.ExpertsRefIdeal.main_arg0)
          ∧ r.2.mem ((c.tc : Thread Cert.ExpertsRefIdeal.nD Cert.ExpertsRefIdeal.τ).loc Cert.ExpertsRefIdeal.main_arg1) = m' ((c.tc : Thread Cert.ExpertsRefIdeal.nD Cert.ExpertsRefIdeal.τ).loc Cert.ExpertsRefIdeal.main_arg1)
          ∧ r.2.mem ((c.tc : Thread Cert.ExpertsRefIdeal.nD Cert.ExpertsRefIdeal.τ).loc Cert.ExpertsRefIdeal.main_arg2) = m' ((c.tc : Thread Cert.ExpertsRefIdeal.nD Cert.ExpertsRefIdeal.τ).loc Cert.ExpertsRefIdeal.main_arg2)
          ∧ r.2.mem ((c.tc : Thread Cert.ExpertsRefIdeal.nD Cert.ExpertsRefIdeal.τ).loc Cert.ExpertsRefIdeal.main_arg3) = m' ((c.tc : Thread Cert.ExpertsRefIdeal.nD Cert.ExpertsRefIdeal.τ).loc Cert.ExpertsRefIdeal.main_arg3))

def Claim : Prop :=
  ∃ (hRetention : Cert.Retention.Facts) (hRetentionIdeal : Cert.RetentionIdeal.Facts) (hRetentionRefIdeal : Cert.RetentionRefIdeal.Facts) (hExperts : Cert.Experts.Facts) (hExpertsIdeal : Cert.ExpertsIdeal.Facts) (hExpertsRefIdeal : Cert.ExpertsRefIdeal.Facts) (hPre_finite : Cert.Pre_finite.Facts) (hPre_used : Cert.Pre_used.Facts) (hPre_fits : Cert.Pre_fits.Facts),
    quiescent_Retention (hRetention := hRetention)
    ∧ quiescent_RetentionIdeal (hRetentionIdeal := hRetentionIdeal)
    ∧ quiescent_RetentionIdeal_pre_finite (hRetentionIdeal := hRetentionIdeal) (hPre_finite := hPre_finite)
    ∧ quiescent_RetentionRefIdeal (hRetentionRefIdeal := hRetentionRefIdeal)
    ∧ quiescent_RetentionRefIdeal_pre_finite (hRetentionRefIdeal := hRetentionRefIdeal) (hPre_finite := hPre_finite)
    ∧ quiescent_Experts (hExperts := hExperts) (hPre_used := hPre_used)
    ∧ quiescent_ExpertsIdeal (hExpertsIdeal := hExpertsIdeal) (hPre_used := hPre_used)
    ∧ quiescent_ExpertsIdeal_pre_fits (hExpertsIdeal := hExpertsIdeal) (hPre_fits := hPre_fits)
    ∧ quiescent_ExpertsRefIdeal (hExpertsRefIdeal := hExpertsRefIdeal)
    ∧ quiescent_ExpertsRefIdeal_pre_fits (hExpertsRefIdeal := hExpertsRefIdeal) (hPre_fits := hPre_fits)
    ∧ preserves_Retention_RetentionIdeal
    ∧ algebraic_RetentionIdeal_RetentionRefIdeal_pre_finite (hRetentionIdeal := hRetentionIdeal) (hRetentionRefIdeal := hRetentionRefIdeal) (hPre_finite := hPre_finite)
    ∧ preserves_Experts_ExpertsIdeal
    ∧ algebraic_ExpertsIdeal_ExpertsRefIdeal_pre_fits (hExpertsIdeal := hExpertsIdeal) (hExpertsRefIdeal := hExpertsRefIdeal) (hPre_fits := hPre_fits)
-- ==== Pre_finite.lean ====
abbrev S8x4096x1024 : Shape := ⟨3, ![8, 4096, 1024]⟩
abbrev S8x4096 : Shape := ⟨2, ![8, 4096]⟩
abbrev S8x6144 : Shape := ⟨2, ![8, 6144]⟩
abbrev S1024 : Shape := ⟨1, ![1024]⟩
abbrev S1024x6144 : Shape := ⟨2, ![1024, 6144]⟩
abbrev S2048x1024 : Shape := ⟨2, ![2048, 1024]⟩
abbrev S_ : Shape := ⟨0, ![]⟩

class Facts : Prop where
  bcast_S_S8x4096x1024 : S_.BroadcastsInDim S8x4096x1024 (![] : Fin 0 → Fin S8x4096x1024.rank)
  bcast_S_S8x6144 : S_.BroadcastsInDim S8x6144 (![] : Fin 0 → Fin S8x6144.rank)
  bcast_S_S1024 : S_.BroadcastsInDim S1024 (![] : Fin 0 → Fin S1024.rank)
  bcast_S_S1024x6144 : S_.BroadcastsInDim S1024x6144 (![] : Fin 0 → Fin S1024x6144.rank)

variable [Facts]

def fn {F : FTy → Type} [FloatOps F] (main_arg0 : FVec F S8x4096x1024 .f32) (main_arg1 : IVec S8x4096 32) (main_arg2 : FVec F S8x6144 .f32) (main_arg3 : FVec F S1024 .f32) (main_arg4 : FVec F S1024x6144 .f32) (main_arg5 : FVec F S2048x1024 .f32) : IVec S8x4096x1024 1 × IVec S8x6144 1 × IVec S1024 1 × IVec S1024x6144 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_v3 : FVec F S8x6144 .f32 := Host.absf main_arg2
  let main_cst_0 : FVec F S_ .f32 := constant S_ .f32 0x7F800000#32
  let main_v4 : FVec F S8x6144 .f32 := broadcastInDim S8x6144 ![] bcast_S_S8x6144 main_cst_0
  let main_v5 : IVec S8x6144 1 := cmpf .olt main_v3 main_v4
  let main_v6 : FVec F S1024 .f32 := Host.absf main_arg3
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S1024x6144 .f32 := Host.absf main_arg4
  let main_cst_2 : FVec F S_ .f32 := constant S_ .f32 0x7F800000#32
  let main_v10 : FVec F S1024x6144 .f32 := broadcastInDim S1024x6144 ![] bcast_S_S1024x6144 main_cst_2
  let main_v11 : IVec S1024x6144 1 := cmpf .olt main_v9 main_v10
  (main_v2, main_v5, main_v8, main_v11)
-- ==== Pre_fits.lean ====
abbrev S69632x1024 : Shape := ⟨2, ![69632, 1024]⟩
abbrev S8 : Shape := ⟨1, ![8]⟩
abbrev S8x1024x5632 : Shape := ⟨3, ![8, 1024, 5632]⟩
abbrev S8x2816x1024 : Shape := ⟨3, ![8, 2816, 1024]⟩
abbrev S_ : Shape := ⟨0, ![]⟩
abbrev S1 : Shape := ⟨1, ![1]⟩

class Facts : Prop where
  bcast_S_S8 : S_.BroadcastsInDim S8 (![] : Fin 0 → Fin S8.rank)
  bcast_S_S_ : S_.BroadcastsInDim S_ (![] : Fin 0 → Fin S_.rank)
  reduceWindows_S8_S8_w8s1p7_0 : S8.ReduceWindows (![8] : Fin 1 → Nat) ![1] ![7] ![0] S8
  h_S_ : 0 < S_.numel
  slices_S8_S1_7 : S8.Slices ![7] S1
  shapeCasts_S1_S_ : S1.ShapeCasts S_

variable [Facts]

def fn_where {F : FTy → Type} [FloatOps F] (arg0 : IVec S8 1) (arg1 : IVec S8 32) (arg2 : IVec S8 32) : IVec S8 32 :=
  let v0 : IVec S8 32 := select arg0 arg1 arg2
  v0

def fn_floor_divide {F : FTy → Type} [FloatOps F] (arg0 : IVec S8 32) (arg1 : IVec S_ 32) : IVec S8 32 :=
  let v0 : IVec S_ 32 := id arg1
  let v1 : IVec S8 32 := broadcastInDim S8 ![] bcast_S_S8 v0
  let v2 : IVec S8 32 := Host.divsi arg0 v1
  let v3 : IVec S8 32 := signi arg0
  let v4 : IVec S_ 32 := signi v0
  let v5 : IVec S8 32 := broadcastInDim S8 ![] bcast_S_S8 v4
  let v6 : IVec S8 1 := cmpi .ne v3 v5
  let v7 : IVec S8 32 := broadcastInDim S8 ![] bcast_S_S8 v0
  let v8 : IVec S8 32 := Host.remsi arg0 v7
  let c : IVec S_ 32 := constantI S_ 32 0#32
  let v9 : IVec S8 32 := broadcastInDim S8 ![] bcast_S_S8 c
  let v10 : IVec S8 1 := cmpi .ne v8 v9
  let v11 : IVec S8 1 := andi v6 v10
  let c_0 : IVec S_ 32 := constantI S_ 32 1#32
  let v12 : IVec S8 32 := broadcastInDim S8 ![] bcast_S_S8 c_0
  let v13 : IVec S8 32 := subi v2 v12
  let v14 : IVec S8 32 := fn_where (F := F) v11 v13 v2
  v14

def fn_cumsum_0 {F : FTy → Type} [FloatOps F] (arg0 : IVec S8 32) : IVec S8 32 :=
  let c : IVec S_ 32 := constantI S_ 32 0#32
  let v0 : IVec S_ 32 := broadcastInDim S_ ![] bcast_S_S_ c
  let v1 : IVec S8 32 := (fun x v => Host.reduceWindow IntOp.addi ![8] ![1] ![7] ![0] x v reduceWindows_S8_S8_w8s1p7_0 h_S_) arg0 v0
  v1

def fn_cumsum {F : FTy → Type} [FloatOps F] (arg0 : IVec S8 32) : IVec S8 32 :=
  let v0 : IVec S8 32 := fn_cumsum_0 (F := F) arg0
  v0

def fn {F : FTy → Type} [FloatOps F] (main_arg0 : FVec F S69632x1024 .f32) (main_arg1 : IVec S8 32) (main_arg2 : FVec F S8x1024x5632 .f32) (main_arg3 : FVec F S8x2816x1024 .f32) : IVec S_ 1 × IVec S8 1 :=
  let main_c : IVec S_ 32 := constantI S_ 32 512#32
  let main_v0 : IVec S8 32 := broadcastInDim S8 ![] bcast_S_S8 main_c
  let main_v1 : IVec S8 32 := addi main_arg1 main_v0
  let main_c_0 : IVec S_ 32 := constantI S_ 32 1#32
  let main_v2 : IVec S8 32 := broadcastInDim S8 ![] bcast_S_S8 main_c_0
  let main_v3 : IVec S8 32 := subi main_v1 main_v2
  let main_c_1 : IVec S_ 32 := constantI S_ 32 512#32
  let main_v4 : IVec S8 32 := fn_floor_divide (F := F) main_v3 main_c_1
  let main_v5 : IVec S8 32 := fn_cumsum (F := F) main_v4
  let main_v6 : IVec S1 32 := (extractStridedSlice S1 ![7] · slices_S8_S1_7) main_v5
  let main_v7 : IVec S_ 32 := shapeCast S_ main_v6 shapeCasts_S1_S_
  let main_c_2 : IVec S_ 32 := constantI S_ 32 1#32
  let main_v8 : IVec S_ 1 := cmpi .sge main_v7 main_c_2
  let main_v9 : IVec S1 32 := (extractStridedSlice S1 ![7] · slices_S8_S1_7) main_v5
  let main_v10 : IVec S_ 32 := shapeCast S_ main_v9 shapeCasts_S1_S_
  let main_v11 : IVec S8 32 := broadcastInDim S8 ![] bcast_S_S8 main_v10
  let main_v12 : IVec S8 1 := cmpi .sle main_v5 main_v11
  (main_v8, main_v12)
-- ==== Pre_used.lean ====
abbrev S69632x1024 : Shape := ⟨2, ![69632, 1024]⟩
abbrev S8 : Shape := ⟨1, ![8]⟩
abbrev S8x1024x5632 : Shape := ⟨3, ![8, 1024, 5632]⟩
abbrev S8x2816x1024 : Shape := ⟨3, ![8, 2816, 1024]⟩
abbrev S_ : Shape := ⟨0, ![]⟩
abbrev S1 : Shape := ⟨1, ![1]⟩

class Facts : Prop where
  bcast_S_S8 : S_.BroadcastsInDim S8 (![] : Fin 0 → Fin S8.rank)
  bcast_S_S_ : S_.BroadcastsInDim S_ (![] : Fin 0 → Fin S_.rank)
  reduceWindows_S8_S8_w8s1p7_0 : S8.ReduceWindows (![8] : Fin 1 → Nat) ![1] ![7] ![0] S8
  h_S_ : 0 < S_.numel
  slices_S8_S1_7 : S8.Slices ![7] S1
  shapeCasts_S1_S_ : S1.ShapeCasts S_

variable [Facts]

def fn_where {F : FTy → Type} [FloatOps F] (arg0 : IVec S8 1) (arg1 : IVec S8 32) (arg2 : IVec S8 32) : IVec S8 32 :=
  let v0 : IVec S8 32 := select arg0 arg1 arg2
  v0

def fn_floor_divide {F : FTy → Type} [FloatOps F] (arg0 : IVec S8 32) (arg1 : IVec S_ 32) : IVec S8 32 :=
  let v0 : IVec S_ 32 := id arg1
  let v1 : IVec S8 32 := broadcastInDim S8 ![] bcast_S_S8 v0
  let v2 : IVec S8 32 := Host.divsi arg0 v1
  let v3 : IVec S8 32 := signi arg0
  let v4 : IVec S_ 32 := signi v0
  let v5 : IVec S8 32 := broadcastInDim S8 ![] bcast_S_S8 v4
  let v6 : IVec S8 1 := cmpi .ne v3 v5
  let v7 : IVec S8 32 := broadcastInDim S8 ![] bcast_S_S8 v0
  let v8 : IVec S8 32 := Host.remsi arg0 v7
  let c : IVec S_ 32 := constantI S_ 32 0#32
  let v9 : IVec S8 32 := broadcastInDim S8 ![] bcast_S_S8 c
  let v10 : IVec S8 1 := cmpi .ne v8 v9
  let v11 : IVec S8 1 := andi v6 v10
  let c_0 : IVec S_ 32 := constantI S_ 32 1#32
  let v12 : IVec S8 32 := broadcastInDim S8 ![] bcast_S_S8 c_0
  let v13 : IVec S8 32 := subi v2 v12
  let v14 : IVec S8 32 := fn_where (F := F) v11 v13 v2
  v14

def fn_cumsum_0 {F : FTy → Type} [FloatOps F] (arg0 : IVec S8 32) : IVec S8 32 :=
  let c : IVec S_ 32 := constantI S_ 32 0#32
  let v0 : IVec S_ 32 := broadcastInDim S_ ![] bcast_S_S_ c
  let v1 : IVec S8 32 := (fun x v => Host.reduceWindow IntOp.addi ![8] ![1] ![7] ![0] x v reduceWindows_S8_S8_w8s1p7_0 h_S_) arg0 v0
  v1

def fn_cumsum {F : FTy → Type} [FloatOps F] (arg0 : IVec S8 32) : IVec S8 32 :=
  let v0 : IVec S8 32 := fn_cumsum_0 (F := F) arg0
  v0

def fn {F : FTy → Type} [FloatOps F] (main_arg0 : FVec F S69632x1024 .f32) (main_arg1 : IVec S8 32) (main_arg2 : FVec F S8x1024x5632 .f32) (main_arg3 : FVec F S8x2816x1024 .f32) : IVec S_ 1 :=
  let main_c : IVec S_ 32 := constantI S_ 32 512#32
  let main_v0 : IVec S8 32 := broadcastInDim S8 ![] bcast_S_S8 main_c
  let main_v1 : IVec S8 32 := addi main_arg1 main_v0
  let main_c_0 : IVec S_ 32 := constantI S_ 32 1#32
  let main_v2 : IVec S8 32 := broadcastInDim S8 ![] bcast_S_S8 main_c_0
  let main_v3 : IVec S8 32 := subi main_v1 main_v2
  let main_c_1 : IVec S_ 32 := constantI S_ 32 512#32
  let main_v4 : IVec S8 32 := fn_floor_divide (F := F) main_v3 main_c_1
  let main_v5 : IVec S8 32 := fn_cumsum (F := F) main_v4
  let main_v6 : IVec S1 32 := (extractStridedSlice S1 ![7] · slices_S8_S1_7) main_v5
  let main_v7 : IVec S_ 32 := shapeCast S_ main_v6 shapeCasts_S1_S_
  let main_c_2 : IVec S_ 32 := constantI S_ 32 1#32
  let main_v8 : IVec S_ 1 := cmpi .sge main_v7 main_c_2
  main_v8
-- ==== Retention.lean ====
abbrev S8x4096x1024 : Shape := ⟨3, ![8, 4096, 1024]⟩
abbrev S8x4096 : Shape := ⟨2, ![8, 4096]⟩
abbrev S8x6144 : Shape := ⟨2, ![8, 6144]⟩
abbrev S1024 : Shape := ⟨1, ![1024]⟩
abbrev S1024x6144 : Shape := ⟨2, ![1024, 6144]⟩
abbrev S2048x1024 : Shape := ⟨2, ![2048, 1024]⟩
abbrev S8x6x1024 : Shape := ⟨3, ![8, 6, 1024]⟩
abbrev S4 : Shape := ⟨1, ![4]⟩
abbrev S_ : Shape := ⟨0, ![]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S4x1x1 : Shape := ⟨3, ![4, 1, 1]⟩
abbrev S1x256x256 : Shape := ⟨3, ![1, 256, 256]⟩
abbrev S4x256x256 : Shape := ⟨3, ![4, 256, 256]⟩
abbrev S4x1 : Shape := ⟨2, ![4, 1]⟩
abbrev S4x256 : Shape := ⟨2, ![4, 256]⟩
abbrev S256x4 : Shape := ⟨2, ![256, 4]⟩
abbrev S256x4x256 : Shape := ⟨3, ![256, 4, 256]⟩
abbrev S256x1024 : Shape := ⟨2, ![256, 1024]⟩
abbrev S128 : Shape := ⟨1, ![128]⟩
abbrev S8x4096x1 : Shape := ⟨3, ![8, 4096, 1]⟩
abbrev S1x1024 : Shape := ⟨2, ![1, 1024]⟩
abbrev S1x128 : Shape := ⟨2, ![1, 128]⟩
abbrev S1x512x1024 : Shape := ⟨3, ![1, 512, 1024]⟩
abbrev S1x512x1 : Shape := ⟨3, ![1, 512, 1]⟩
abbrev S1x6x1024 : Shape := ⟨3, ![1, 6, 1024]⟩
abbrev S4x256x512 : Shape := ⟨3, ![4, 256, 512]⟩
abbrev S512x1024 : Shape := ⟨2, ![512, 1024]⟩
abbrev S512x2048 : Shape := ⟨2, ![512, 2048]⟩
abbrev S6x1024 : Shape := ⟨2, ![6, 1024]⟩
abbrev S1x256x1024 : Shape := ⟨3, ![1, 256, 1024]⟩
abbrev S1x256x1 : Shape := ⟨3, ![1, 256, 1]⟩
abbrev S256x128 : Shape := ⟨2, ![256, 128]⟩
abbrev S1024x256 : Shape := ⟨2, ![1024, 256]⟩
abbrev S1024x512 : Shape := ⟨2, ![1024, 512]⟩
abbrev S256x512 : Shape := ⟨2, ![256, 512]⟩
abbrev S1x256x512 : Shape := ⟨3, ![1, 256, 512]⟩
abbrev S256x2048 : Shape := ⟨2, ![256, 2048]⟩

abbrev nBuf : Space → Nat
  | .hbm => 85
  | .vmem => 23
  | .smem => 0
  | _ => 0

abbrev bufTy : (tb : Table) → Fin (tcTables nBuf tb) → BufTy
  | .hbm, ⟨0, _⟩ => ⟨S8x4096x1024, .f32⟩
  | .hbm, ⟨1, _⟩ => ⟨S8x4096, .i32⟩
  | .hbm, ⟨2, _⟩ => ⟨S8x6144, .f32⟩
  | .hbm, ⟨3, _⟩ => ⟨S1024, .f32⟩
  | .hbm, ⟨4, _⟩ => ⟨S1024x6144, .f32⟩
  | .hbm, ⟨5, _⟩ => ⟨S2048x1024, .f32⟩
  | .hbm, ⟨6, _⟩ => ⟨S8x6x1024, .f32⟩
  | .hbm, ⟨7, _⟩ => ⟨S4, .f32⟩
  | .hbm, ⟨8, _⟩ => ⟨S_, .f32⟩
  | .hbm, ⟨9, _⟩ => ⟨S4, .f32⟩
  | .hbm, ⟨10, _⟩ => ⟨S4, .f32⟩
  | .hbm, ⟨11, _⟩ => ⟨S_, .f32⟩
  | .hbm, ⟨12, _⟩ => ⟨S4, .f32⟩
  | .hbm, ⟨13, _⟩ => ⟨S4, .f32⟩
  | .hbm, ⟨14, _⟩ => ⟨S4, .f32⟩
  | .hbm, ⟨15, _⟩ => ⟨S4, .f32⟩
  | .hbm, ⟨16, _⟩ => ⟨S256, .f32⟩
  | .hbm, ⟨17, _⟩ => ⟨S256x1, .f32⟩
  | .hbm, ⟨18, _⟩ => ⟨S1x256, .f32⟩
  | .hbm, ⟨19, _⟩ => ⟨S256x256, .f32⟩
  | .hbm, ⟨20, _⟩ => ⟨S256x256, .f32⟩
  | .hbm, ⟨21, _⟩ => ⟨S256x256, .f32⟩
  | .hbm, ⟨22, _⟩ => ⟨S_, .f32⟩
  | .hbm, ⟨23, _⟩ => ⟨S256x256, .f32⟩
  | .hbm, ⟨24, _⟩ => ⟨S256x256, .i1⟩
  | .hbm, ⟨25, _⟩ => ⟨S4x1x1, .f32⟩
  | .hbm, ⟨26, _⟩ => ⟨S_, .f32⟩
  | .hbm, ⟨27, _⟩ => ⟨S256x256, .f32⟩
  | .hbm, ⟨28, _⟩ => ⟨S256x256, .f32⟩
  | .hbm, ⟨29, _⟩ => ⟨S1x256x256, .f32⟩
  | .hbm, ⟨30, _⟩ => ⟨S4x256x256, .f32⟩
  | .hbm, ⟨31, _⟩ => ⟨S4x256x256, .f32⟩
  | .hbm, ⟨32, _⟩ => ⟨S4x256x256, .f32⟩
  | .hbm, ⟨33, _⟩ => ⟨S4x256x256, .f32⟩
  | .hbm, ⟨34, _⟩ => ⟨S_, .f32⟩
  | .hbm, ⟨35, _⟩ => ⟨S_, .f32⟩
  | .hbm, ⟨36, _⟩ => ⟨S4x256x256, .i1⟩
  | .hbm, ⟨37, _⟩ => ⟨S4x256x256, .f32⟩
  | .hbm, ⟨38, _⟩ => ⟨S4x256x256, .f32⟩
  | .hbm, ⟨39, _⟩ => ⟨S4x1, .f32⟩
  | .hbm, ⟨40, _⟩ => ⟨S_, .f32⟩
  | .hbm, ⟨41, _⟩ => ⟨S256, .f32⟩
  | .hbm, ⟨42, _⟩ => ⟨S256, .f32⟩
  | .hbm, ⟨43, _⟩ => ⟨S1x256, .f32⟩
  | .hbm, ⟨44, _⟩ => ⟨S4x256, .f32⟩
  | .hbm, ⟨45, _⟩ => ⟨S4x256, .f32⟩
  | .hbm, ⟨46, _⟩ => ⟨S4x256, .f32⟩
  | .hbm, ⟨47, _⟩ => ⟨S4x256, .f32⟩
  | .hbm, ⟨48, _⟩ => ⟨S4x1, .f32⟩
  | .hbm, ⟨49, _⟩ => ⟨S_, .f32⟩
  | .hbm, ⟨50, _⟩ => ⟨S256, .f32⟩
  | .hbm, ⟨51, _⟩ => ⟨S256, .f32⟩
  | .hbm, ⟨52, _⟩ => ⟨S1x256, .f32⟩
  | .hbm, ⟨53, _⟩ => ⟨S4x256, .f32⟩
  | .hbm, ⟨54, _⟩ => ⟨S4x256, .f32⟩
  | .hbm, ⟨55, _⟩ => ⟨S4x256, .f32⟩
  | .hbm, ⟨56, _⟩ => ⟨S4x256, .f32⟩
  | .hbm, ⟨57, _⟩ => ⟨S256x4, .f32⟩
  | .hbm, ⟨58, _⟩ => ⟨S256x4x256, .f32⟩
  | .hbm, ⟨59, _⟩ => ⟨S256x1024, .f32⟩
  | .hbm, ⟨60, _⟩ => ⟨S256x4, .f32⟩
  | .hbm, ⟨61, _⟩ => ⟨S256x4x256, .f32⟩
  | .hbm, ⟨62, _⟩ => ⟨S256x1024, .f32⟩
  | .hbm, ⟨63, _⟩ => ⟨S128, .f32⟩
  | .hbm, ⟨64, _⟩ => ⟨S_, .f32⟩
  | .hbm, ⟨65, _⟩ => ⟨S128, .f32⟩
  | .hbm, ⟨66, _⟩ => ⟨S128, .f32⟩
  | .hbm, ⟨67, _⟩ => ⟨S_, .f32⟩
  | .hbm, ⟨68, _⟩ => ⟨S128, .f32⟩
  | .hbm, ⟨69, _⟩ => ⟨S128, .f32⟩
  | .hbm, ⟨70, _⟩ => ⟨S_, .f32⟩
  | .hbm, ⟨71, _⟩ => ⟨S128, .f32⟩
  | .hbm, ⟨72, _⟩ => ⟨S128, .f32⟩
  | .hbm, ⟨73, _⟩ => ⟨S_, .f32⟩
  | .hbm, ⟨74, _⟩ => ⟨S128, .f32⟩
  | .hbm, ⟨75, _⟩ => ⟨S128, .f32⟩
  | .hbm, ⟨76, _⟩ => ⟨S_, .f32⟩
  | .hbm, ⟨77, _⟩ => ⟨S128, .f32⟩
  | .hbm, ⟨78, _⟩ => ⟨S128, .f32⟩
  | .hbm, ⟨79, _⟩ => ⟨S8x4096x1, .i32⟩
  | .hbm, ⟨80, _⟩ => ⟨S1x1024, .f32⟩
  | .hbm, ⟨81, _⟩ => ⟨S1x128, .f32⟩
  | .hbm, ⟨82, _⟩ => ⟨S1024x6144, .bf16⟩
  | .hbm, ⟨83, _⟩ => ⟨S2048x1024, .bf16⟩
  | .hbm, ⟨84, _⟩ => ⟨S8x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1, .i32⟩
  | .local _ .vmem, ⟨3, _⟩ => ⟨S1x512x1, .i32⟩
  | .local _ .vmem, ⟨4, _⟩ => ⟨S1x6x1024, .f32⟩
  | .local _ .vmem, ⟨5, _⟩ => ⟨S1x6x1024, .f32⟩
  | .local _ .vmem, ⟨6, _⟩ => ⟨S1x1024, .f32⟩
  | .local _ .vmem, ⟨7, _⟩ => ⟨S1x128, .f32⟩
  | .local _ .vmem, ⟨8, _⟩ => ⟨S1024x6144, .bf16⟩
  | .local _ .vmem, ⟨9, _⟩ => ⟨S2048x1024, .bf16⟩
  | .local _ .vmem, ⟨10, _⟩ => ⟨S4x256x256, .f32⟩
  | .local _ .vmem, ⟨11, _⟩ => ⟨S256x1024, .f32⟩
  | .local _ .vmem, ⟨12, _⟩ => ⟨S256x1024, .f32⟩
  | .local _ .vmem, ⟨13, _⟩ => ⟨S1x512x1024, .f32⟩
  | .local _ .vmem, ⟨14, _⟩ => ⟨S1x512x1024, .f32⟩
  | .local _ .vmem, ⟨15, _⟩ => ⟨S4x256x512, .f32⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x2048, .bf16⟩
  | .local _ .vmem, ⟨21, _⟩ => ⟨S512x2048, .bf16⟩
  | .local _ .vmem, ⟨22, _⟩ => ⟨S512x2048, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_5 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_6 : Ref sig .tc := ⟨.hbm, 64, rfl⟩
abbrev main_v48 : Ref sig .tc := ⟨.hbm, 65, rfl⟩
abbrev main_v49 : Ref sig .tc := ⟨.hbm, 66, rfl⟩
abbrev main_cst_7 : Ref sig .tc := ⟨.hbm, 67, rfl⟩
abbrev main_v50 : Ref sig .tc := ⟨.hbm, 68, rfl⟩
abbrev main_v51 : Ref sig .tc := ⟨.hbm, 69, rfl⟩
abbrev main_cst_8 : Ref sig .tc := ⟨.hbm, 70, rfl⟩
abbrev main_v52 : Ref sig .tc := ⟨.hbm, 71, rfl⟩
abbrev main_v53 : Ref sig .tc := ⟨.hbm, 72, rfl⟩
abbrev main_cst_9 : Ref sig .tc := ⟨.hbm, 73, rfl⟩
abbrev main_v54 : Ref sig .tc := ⟨.hbm, 74, rfl⟩
abbrev main_v55 : Ref sig .tc := ⟨.hbm, 75, rfl⟩
abbrev main_cst_10 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_scratch4 : Ref sig .tc := ⟨.vmem, 19, rfl⟩
abbrev cc0_scratch5 : Ref sig .tc := ⟨.vmem, 20, rfl⟩
abbrev cc0_scratch6 : Ref sig .tc := ⟨.vmem, 21, rfl⟩
abbrev cc0_scratch7 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x6x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x6144 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2048x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S4x256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S256x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== RetentionIdeal.lean ====
variable {F : FTy → Type} [FloatOps F] [Named F]
def κ : String → Option EReal := fun
  | "decay0" => some ((6146015080813575034695417713226912903305888181886472031037824629831672928949925977371885924422256558280598640253784375251182367178077275943508811277617726037926828835493962089938703670916216150637232924767423218594179651908716059369457431352364368667582308905998928857404131059860187300660764250399851094923206841232876192030133070875041117904520293983055025851039902553125047623681 / 20815864389328798163850480654728171077230524494533409610638224700807216119346720596024478883464648369684843227908562015582767132496646929816279813211354641525848259018778440691546366699323167100945918841095379622423387354295096957733925002768876520583464697770622321657076833170056511209332449663781837603694136444406281042053396870977465916057756101739472373801429441421111406337458176 : ℝ) : EReal)
  | "decay1" => some ((42774078302235318565319257509240389102448610944058038806438187308967998022705219385729663158638449482363242547246423463242593270189466810827507253377583114893638375653286835591007069102165292454913397853719673918607538604174150929255316756471434149954438683890468730174719505936020561911515555997155458494501519964452840485792481596827492989182299408582213918538682711594745086139424161235245664305277724872062197080286979918058563320302114990397887505300439041 / 2410312426921032588580116606028314112912093247945688951359675039065257391591803200669085024107346049663448766280888004787862416978794958324969612987890774651455213339381625224770782077917681499676845543137387820057597345857904599109461387122099507964997815641342300677629473355281617428411794163967785870370368969109221591943054232011562758450080579587850900993714892283476646631181515063804873375182260506246992837898705971012525843324401232986857004760339316736 : ℝ) : EReal)
  | "decay2" => some ((37475942568369757962947522235530371133981530150116838269147324413047700895014398970446404169811997688419833959989077757701150649868243230123056568953964412798172396287429646722188387330264786795375818576214031616869032274669030355559348596733438707526107308633142545065787965914180851284280383384025423970000476770692381976054937465989431021902621277854218705005366130766187721539711495327024166368641272006952024074184121303316623563671196861028284711972009680015975871738940145523351472588749523046764641137000009779131884491317421506561 / 279095111627852376407822673918065072905887935345660252615989519488029661278604994789701101367875859521849524793382568057369148405837577299984720398976429790087982805274893437406788716103454867635208144157749912668657006085226160261808841484862703257771979713923863820038729637520989894984676774385364934677289947762340313157123529922421738738162392233756507666339799675257002539356619747080176786496732679854783185583233878234270370065954615221443190595445898747930123678952192875629172092437548194134594886873249778512829119416327938768896 : ℝ) : EReal)
  | "decay3" => some ((11865504027970838771731346061683101436994979092949631599037079718981644706917580014911102414175085528643666188591370983920968194011711659169451226844120009995840891480759624977868736986513250783427504228510443452927050635948750086027473241612026344113952918539841083265621530105483498237021333267100718263868013566694893934279056051614332115121424258551337630287851288624870009988393213915090641049449897944231399544068578059227753373776746392142852101691703865017730668871755067274316504625716657064558790363574959526408194231415564059175410672318668947295267860607377447532996550538797464469098486006259918212890625 / 32317006071311007300714876688669951960444102669715484032130345427524655138867890893197201411522913463688717960921898019494119559150490921095088152386448283120630877367300996091750197750389652106796057638384067568276792218642619756161838094338476170470581645852036305042887575891541065808607552399123930385521914333389668342420684974786564569494856176035326322058077805659331026192708460314150258592864177116725943603718461857357598351152301645904403697613233287231227125684710820209725157101726931323469678542580656697935045997268352998638215525166389437335543602135433229604645318478604952148193555853611059596230656 : ℝ) : EReal)
  | _ => none
-- ==== RetentionRefIdeal.lean ====
abbrev S8x4096x1024 : Shape := ⟨3, ![8, 4096, 1024]⟩
abbrev S8x4096 : Shape := ⟨2, ![8, 4096]⟩
abbrev S8x6144 : Shape := ⟨2, ![8, 6144]⟩
abbrev S1024 : Shape := ⟨1, ![1024]⟩
abbrev S1024x6144 : Shape := ⟨2, ![1024, 6144]⟩
abbrev S2048x1024 : Shape := ⟨2, ![2048, 1024]⟩
abbrev S8x1024 : Shape := ⟨2, ![8, 1024]⟩
abbrev S8x1x1024 : Shape := ⟨3, ![8, 1, 1024]⟩
abbrev S_ : Shape := ⟨0, ![]⟩
abbrev S8x4096x1 : Shape := ⟨3, ![8, 4096, 1]⟩
abbrev S1x1x1024 : Shape := ⟨3, ![1, 1, 1024]⟩
abbrev S8x4096x6144 : Shape := ⟨3, ![8, 4096, 6144]⟩
abbrev S8x4096x2048 : Shape := ⟨3, ![8, 4096, 2048]⟩
abbrev S8x4096x4x256 : Shape := ⟨4, ![8, 4096, 4, 256]⟩
abbrev S128 : Shape := ⟨1, ![128]⟩
abbrev S1x1x128 : Shape := ⟨3, ![1, 1, 128]⟩
abbrev S8x4096x128 : Shape := ⟨3, ![8, 4096, 128]⟩
abbrev S8x4096x1x128 : Shape := ⟨4, ![8, 4096, 1, 128]⟩
abbrev S8x4096x4x128 : Shape := ⟨4, ![8, 4096, 4, 128]⟩
abbrev S8x4096x4x512 : Shape := ⟨4, ![8, 4096, 4, 512]⟩
abbrev S8x32x128x4x256 : Shape := ⟨5, ![8, 32, 128, 4, 256]⟩
abbrev S32x8x4x128x256 : Shape := ⟨5, ![32, 8, 4, 128, 256]⟩
abbrev S8x32x128x4x512 : Shape := ⟨5, ![8, 32, 128, 4, 512]⟩
abbrev S32x8x4x128x512 : Shape := ⟨5, ![32, 8, 4, 128, 512]⟩
abbrev S4 : Shape := ⟨1, ![4]⟩
abbrev S128x1 : Shape := ⟨2, ![128, 1]⟩
abbrev S1x128 : Shape := ⟨2, ![1, 128]⟩
abbrev S128x128 : Shape := ⟨2, ![128, 128]⟩
abbrev S4x1x1 : Shape := ⟨3, ![4, 1, 1]⟩
abbrev S1x128x128 : Shape := ⟨3, ![1, 128, 128]⟩
abbrev S4x128x128 : Shape := ⟨3, ![4, 128, 128]⟩
abbrev S4x1 : Shape := ⟨2, ![4, 1]⟩
abbrev S4x128 : Shape := ⟨2, ![4, 128]⟩
abbrev S1x4x128x1 : Shape := ⟨4, ![1, 4, 128, 1]⟩
abbrev S1x4x1x1 : Shape := ⟨4, ![1, 4, 1, 1]⟩
abbrev S8x4x256x512 : Shape := ⟨4, ![8, 4, 256, 512]⟩
abbrev S1x8x4x128x256 : Shape := ⟨5, ![1, 8, 4, 128, 256]⟩
abbrev S8x4x128x256 : Shape := ⟨4, ![8, 4, 128, 256]⟩
abbrev S1x8x4x128x512 : Shape := ⟨5, ![1, 8, 4, 128, 512]⟩
abbrev S8x4x128x512 : Shape := ⟨4, ![8, 4, 128, 512]⟩
abbrev S8x4x128x128 : Shape := ⟨4, ![8, 4, 128, 128]⟩
abbrev S1x4x128x128 : Shape := ⟨4, ![1, 4, 128, 128]⟩
abbrev S8x4096x4 : Shape := ⟨3, ![8, 4096, 4]⟩
abbrev S8x4096x4x1 : Shape := ⟨4, ![8, 4096, 4, 1]⟩

abbrev nBuf : Space → Nat
  | .hbm => 321
  | .vmem => 0
  | .smem => 0
  | _ => 0

abbrev hbmTy0_0 (i : Nat) : BufTy := match i % 128 with
  | 0 => ⟨S8x4096x1024, .f32⟩
  | 1 => ⟨S8x4096, .i32⟩
  | 2 => ⟨S8x6144, .f32⟩
  | 3 => ⟨S1024, .f32⟩
  | 4 => ⟨S1024x6144, .f32⟩
  | 5 => ⟨S2048x1024, .f32⟩
  | 6 => ⟨S8x1024, .f32⟩
  | 7 => ⟨S8x1024, .f32⟩
  | 8 => ⟨S8x1024, .f32⟩
  | 9 => ⟨S8x1024, .f32⟩
  | 10 => ⟨S8x1024, .f32⟩
  | 11 => ⟨S8x1024, .f32⟩
  | 12 => ⟨S8x1x1024, .f32⟩
  | 13 => ⟨S8x1x1024, .f32⟩
  | 14 => ⟨S8x1x1024, .f32⟩
  | 15 => ⟨S8x1x1024, .f32⟩
  | 16 => ⟨S8x1x1024, .f32⟩
  | 17 => ⟨S8x1x1024, .f32⟩
  | 18 => ⟨S8x4096x1024, .f32⟩
  | 19 => ⟨S_, .f32⟩
  | 20 => ⟨S8x4096, .f32⟩
  | 21 => ⟨S8x4096x1, .f32⟩
  | 22 => ⟨S_, .f32⟩
  | 23 => ⟨S8x4096x1, .f32⟩
  | 24 => ⟨S8x4096x1, .f32⟩
  | 25 => ⟨S_, .f32⟩
  | 26 => ⟨S8x4096x1, .f32⟩
  | 27 => ⟨S8x4096x1, .f32⟩
  | 28 => ⟨S8x4096x1, .f32⟩
  | 29 => ⟨S8x4096x1024, .f32⟩
  | 30 => ⟨S8x4096x1024, .f32⟩
  | 31 => ⟨S1x1x1024, .f32⟩
  | 32 => ⟨S8x4096x1024, .f32⟩
  | 33 => ⟨S8x4096x1024, .f32⟩
  | 34 => ⟨S_, .f32⟩
  | 35 => ⟨S8x1x1024, .f32⟩
  | 36 => ⟨S8x1x1024, .f32⟩
  | 37 => ⟨S8x4096x1024, .f32⟩
  | 38 => ⟨S8x4096x1024, .f32⟩
  | 39 => ⟨S8x4096x1024, .f32⟩
  | 40 => ⟨S8x4096x1024, .f32⟩
  | 41 => ⟨S8x4096x6144, .f32⟩
  | 42 => ⟨S8x4096x1024, .f32⟩
  | 43 => ⟨S8x4096x1024, .f32⟩
  | 44 => ⟨S8x4096x2048, .f32⟩
  | 45 => ⟨S8x4096x2048, .f32⟩
  | 46 => ⟨S8x4096x4x256, .f32⟩
  | 47 => ⟨S128, .f32⟩
  | 48 => ⟨S_, .f32⟩
  | 49 => ⟨S128, .f32⟩
  | 50 => ⟨S128, .f32⟩
  | 51 => ⟨S_, .f32⟩
  | 52 => ⟨S128, .f32⟩
  | 53 => ⟨S128, .f32⟩
  | 54 => ⟨S_, .f32⟩
  | 55 => ⟨S128, .f32⟩
  | 56 => ⟨S128, .f32⟩
  | 57 => ⟨S_, .f32⟩
  | 58 => ⟨S128, .f32⟩
  | 59 => ⟨S128, .f32⟩
  | 60 => ⟨S_, .f32⟩
  | 61 => ⟨S128, .f32⟩
  | 62 => ⟨S128, .f32⟩
  | 63 => ⟨S8x4096, .f32⟩
  | 64 => ⟨S8x4096x1, .f32⟩
  | 65 => ⟨S1x1x128, .f32⟩
  | 66 => ⟨S8x4096x128, .f32⟩
  | 67 => ⟨S8x4096x128, .f32⟩
  | 68 => ⟨S8x4096x128, .f32⟩
  | 69 => ⟨S8x4096x128, .f32⟩
  | 70 => ⟨S8x4096x1x128, .f32⟩
  | 71 => ⟨S8x4096x128, .f32⟩
  | 72 => ⟨S8x4096x1x128, .f32⟩
  | 73 => ⟨S8x4096x4x128, .f32⟩
  | 74 => ⟨S8x4096x4x128, .f32⟩
  | 75 => ⟨S8x4096x4x128, .f32⟩
  | 76 => ⟨S8x4096x4x128, .f32⟩
  | 77 => ⟨S8x4096x4x128, .f32⟩
  | 78 => ⟨S8x4096x4x128, .f32⟩
  | 79 => ⟨S8x4096x4x128, .f32⟩
  | 80 => ⟨S8x4096x4x128, .f32⟩
  | 81 => ⟨S8x4096x4x128, .f32⟩
  | 82 => ⟨S8x4096x4x128, .f32⟩
  | 83 => ⟨S8x4096x4x128, .f32⟩
  | 84 => ⟨S8x4096x4x128, .f32⟩
  | 85 => ⟨S8x4096x4x256, .f32⟩
  | 86 => ⟨S8x4096x4x256, .f32⟩
  | 87 => ⟨S128, .f32⟩
  | 88 => ⟨S_, .f32⟩
  | 89 => ⟨S128, .f32⟩
  | 90 => ⟨S128, .f32⟩
  | 91 => ⟨S_, .f32⟩
  | 92 => ⟨S128, .f32⟩
  | 93 => ⟨S128, .f32⟩
  | 94 => ⟨S_, .f32⟩
  | 95 => ⟨S128, .f32⟩
  | 96 => ⟨S128, .f32⟩
  | 97 => ⟨S_, .f32⟩
  | 98 => ⟨S128, .f32⟩
  | 99 => ⟨S128, .f32⟩
  | 100 => ⟨S_, .f32⟩
  | 101 => ⟨S128, .f32⟩
  | 102 => ⟨S128, .f32⟩
  | 103 => ⟨S8x4096, .f32⟩
  | 104 => ⟨S8x4096x1, .f32⟩
  | 105 => ⟨S1x1x128, .f32⟩
  | 106 => ⟨S8x4096x128, .f32⟩
  | 107 => ⟨S8x4096x128, .f32⟩
  | 108 => ⟨S8x4096x128, .f32⟩
  | 109 => ⟨S8x4096x128, .f32⟩
  | 110 => ⟨S8x4096x1x128, .f32⟩
  | 111 => ⟨S8x4096x128, .f32⟩
  | 112 => ⟨S8x4096x1x128, .f32⟩
  | 113 => ⟨S8x4096x4x128, .f32⟩
  | 114 => ⟨S8x4096x4x128, .f32⟩
  | 115 => ⟨S8x4096x4x128, .f32⟩
  | 116 => ⟨S8x4096x4x128, .f32⟩
  | 117 => ⟨S8x4096x4x128, .f32⟩
  | 118 => ⟨S8x4096x4x128, .f32⟩
  | 119 => ⟨S8x4096x4x128, .f32⟩
  | 120 => ⟨S8x4096x4x128, .f32⟩
  | 121 => ⟨S8x4096x4x128, .f32⟩
  | 122 => ⟨S8x4096x4x128, .f32⟩
  | 123 => ⟨S8x4096x4x128, .f32⟩
  | 124 => ⟨S8x4096x4x128, .f32⟩
  | 125 => ⟨S8x4096x4x256, .f32⟩
  | 126 => ⟨S_, .f32⟩
  | 127 => ⟨S8x4096x4x256, .f32⟩
  | _ => ⟨S8x4096x1024, .f32⟩

abbrev hbmTy0_1 (i : Nat) : BufTy := match i % 128 with
  | 0 => ⟨S8x4096x4x256, .f32⟩
  | 1 => ⟨S8x4096x4x512, .f32⟩
  | 2 => ⟨S8x32x128x4x256, .f32⟩
  | 3 => ⟨S32x8x4x128x256, .f32⟩
  | 4 => ⟨S8x32x128x4x256, .f32⟩
  | 5 => ⟨S32x8x4x128x256, .f32⟩
  | 6 => ⟨S8x32x128x4x512, .f32⟩
  | 7 => ⟨S32x8x4x128x512, .f32⟩
  | 8 => ⟨S4, .f32⟩
  | 9 => ⟨S_, .f32⟩
  | 10 => ⟨S4, .f32⟩
  | 11 => ⟨S4, .f32⟩
  | 12 => ⟨S_, .f32⟩
  | 13 => ⟨S4, .f32⟩
  | 14 => ⟨S4, .f32⟩
  | 15 => ⟨S4, .f32⟩
  | 16 => ⟨S4, .f32⟩
  | 17 => ⟨S128, .f32⟩
  | 18 => ⟨S128x1, .f32⟩
  | 19 => ⟨S1x128, .f32⟩
  | 20 => ⟨S128x128, .f32⟩
  | 21 => ⟨S128x128, .f32⟩
  | 22 => ⟨S128x128, .f32⟩
  | 23 => ⟨S_, .f32⟩
  | 24 => ⟨S128x128, .f32⟩
  | 25 => ⟨S128x128, .i1⟩
  | 26 => ⟨S4x1x1, .f32⟩
  | 27 => ⟨S_, .f32⟩
  | 28 => ⟨S128x128, .f32⟩
  | 29 => ⟨S128x128, .f32⟩
  | 30 => ⟨S1x128x128, .f32⟩
  | 31 => ⟨S4x128x128, .f32⟩
  | 32 => ⟨S4x128x128, .f32⟩
  | 33 => ⟨S4x128x128, .f32⟩
  | 34 => ⟨S4x128x128, .f32⟩
  | 35 => ⟨S_, .f32⟩
  | 36 => ⟨S_, .f32⟩
  | 37 => ⟨S4x128x128, .i1⟩
  | 38 => ⟨S4x128x128, .f32⟩
  | 39 => ⟨S4x128x128, .f32⟩
  | 40 => ⟨S4x1, .f32⟩
  | 41 => ⟨S_, .f32⟩
  | 42 => ⟨S128, .f32⟩
  | 43 => ⟨S128, .f32⟩
  | 44 => ⟨S1x128, .f32⟩
  | 45 => ⟨S4x128, .f32⟩
  | 46 => ⟨S4x128, .f32⟩
  | 47 => ⟨S4x128, .f32⟩
  | 48 => ⟨S4x128, .f32⟩
  | 49 => ⟨S1x4x128x1, .f32⟩
  | 50 => ⟨S4x1, .f32⟩
  | 51 => ⟨S_, .f32⟩
  | 52 => ⟨S128, .f32⟩
  | 53 => ⟨S128, .f32⟩
  | 54 => ⟨S1x128, .f32⟩
  | 55 => ⟨S4x128, .f32⟩
  | 56 => ⟨S4x128, .f32⟩
  | 57 => ⟨S4x128, .f32⟩
  | 58 => ⟨S4x128, .f32⟩
  | 59 => ⟨S1x4x128x1, .f32⟩
  | 60 => ⟨S_, .f32⟩
  | 61 => ⟨S4, .f32⟩
  | 62 => ⟨S4, .f32⟩
  | 63 => ⟨S4, .f32⟩
  | 64 => ⟨S1x4x1x1, .f32⟩
  | 65 => ⟨S_, .f32⟩
  | 66 => ⟨S8x4x256x512, .f32⟩
  | 67 => ⟨S_, .f32⟩
  | 68 => ⟨S32x8x4x128x512, .f32⟩
  | 69 => ⟨S_, .i32⟩
  | 70 => ⟨S32x8x4x128x256, .f32⟩
  | 71 => ⟨S32x8x4x128x256, .f32⟩
  | 72 => ⟨S32x8x4x128x512, .f32⟩
  | 73 => ⟨S4x128x128, .f32⟩
  | 74 => ⟨S1x4x128x1, .f32⟩
  | 75 => ⟨S1x4x1x1, .f32⟩
  | 76 => ⟨S1x4x128x1, .f32⟩
  | 77 => ⟨S_, .i32⟩
  | 78 => ⟨S8x4x256x512, .f32⟩
  | 79 => ⟨S32x8x4x128x512, .f32⟩
  | 80 => ⟨S_, .i32⟩
  | 81 => ⟨S_, .i1⟩
  | 82 => ⟨S_, .i32⟩
  | 83 => ⟨S_, .i32⟩
  | 84 => ⟨S_, .i32⟩
  | 85 => ⟨S_, .i32⟩
  | 86 => ⟨S1x8x4x128x256, .f32⟩
  | 87 => ⟨S8x4x128x256, .f32⟩
  | 88 => ⟨S_, .i32⟩
  | 89 => ⟨S_, .i32⟩
  | 90 => ⟨S_, .i32⟩
  | 91 => ⟨S_, .i32⟩
  | 92 => ⟨S1x8x4x128x256, .f32⟩
  | 93 => ⟨S8x4x128x256, .f32⟩
  | 94 => ⟨S_, .i32⟩
  | 95 => ⟨S_, .i32⟩
  | 96 => ⟨S_, .i32⟩
  | 97 => ⟨S_, .i32⟩
  | 98 => ⟨S1x8x4x128x512, .f32⟩
  | 99 => ⟨S8x4x128x512, .f32⟩
  | 100 => ⟨S8x4x128x128, .f32⟩
  | 101 => ⟨S1x4x128x128, .f32⟩
  | 102 => ⟨S8x4x128x128, .f32⟩
  | 103 => ⟨S8x4x128x128, .f32⟩
  | 104 => ⟨S8x4x128x512, .f32⟩
  | 105 => ⟨S8x4x128x512, .f32⟩
  | 106 => ⟨S8x4x128x512, .f32⟩
  | 107 => ⟨S8x4x128x512, .f32⟩
  | 108 => ⟨S8x4x128x512, .f32⟩
  | 109 => ⟨S8x4x256x512, .f32⟩
  | 110 => ⟨S8x4x256x512, .f32⟩
  | 111 => ⟨S8x4x128x512, .f32⟩
  | 112 => ⟨S8x4x128x512, .f32⟩
  | 113 => ⟨S8x4x256x512, .f32⟩
  | 114 => ⟨S8x4x256x512, .f32⟩
  | 115 => ⟨S1x8x4x128x512, .f32⟩
  | 116 => ⟨S_, .i32⟩
  | 117 => ⟨S_, .i32⟩
  | 118 => ⟨S_, .i32⟩
  | 119 => ⟨S_, .i32⟩
  | 120 => ⟨S32x8x4x128x512, .f32⟩
  | 121 => ⟨S_, .i32⟩
  | 122 => ⟨S_, .i32⟩
  | 123 => ⟨S8x1024, .f32⟩
  | 124 => ⟨S8x1024, .f32⟩
  | 125 => ⟨S8x1024, .f32⟩
  | 126 => ⟨S8x1024, .f32⟩
  | 127 => ⟨S8x1024, .f32⟩
  | _ => ⟨S8x4096x1024, .f32⟩

abbrev hbmTy0_2 (i : Nat) : BufTy := match i % 128 with
  | 0 => ⟨S8x1024, .f32⟩
  | 1 => ⟨S8x1x1024, .f32⟩
  | 2 => ⟨S8x1x1024, .f32⟩
  | 3 => ⟨S8x1x1024, .f32⟩
  | 4 => ⟨S8x1x1024, .f32⟩
  | 5 => ⟨S8x1x1024, .f32⟩
  | 6 => ⟨S8x1x1024, .f32⟩
  | 7 => ⟨S8x4096x1024, .f32⟩
  | 8 => ⟨S_, .f32⟩
  | 9 => ⟨S8x4096, .f32⟩
  | 10 => ⟨S8x4096x1, .f32⟩
  | 11 => ⟨S_, .f32⟩
  | 12 => ⟨S8x4096x1, .f32⟩
  | 13 => ⟨S8x4096x1, .f32⟩
  | 14 => ⟨S_, .f32⟩
  | 15 => ⟨S8x4096x1, .f32⟩
  | 16 => ⟨S8x4096x1, .f32⟩
  | 17 => ⟨S8x4096x1, .f32⟩
  | 18 => ⟨S8x4096x1024, .f32⟩
  | 19 => ⟨S8x4096x1024, .f32⟩
  | 20 => ⟨S1x1x1024, .f32⟩
  | 21 => ⟨S8x4096x1024, .f32⟩
  | 22 => ⟨S8x4096x1024, .f32⟩
  | 23 => ⟨S_, .f32⟩
  | 24 => ⟨S8x1x1024, .f32⟩
  | 25 => ⟨S8x1x1024, .f32⟩
  | 26 => ⟨S8x4096x1024, .f32⟩
  | 27 => ⟨S8x4096x1024, .f32⟩
  | 28 => ⟨S8x4096x1024, .f32⟩
  | 29 => ⟨S8x4096x1024, .f32⟩
  | 30 => ⟨S8x4096x6144, .f32⟩
  | 31 => ⟨S8x4096x1024, .f32⟩
  | 32 => ⟨S8x4096x1024, .f32⟩
  | 33 => ⟨S8x4096x2048, .f32⟩
  | 34 => ⟨S8x4096x2048, .f32⟩
  | 35 => ⟨S8x32x128x4x512, .f32⟩
  | 36 => ⟨S8x4096x4x512, .f32⟩
  | 37 => ⟨S8x4096x4x512, .f32⟩
  | 38 => ⟨S_, .f32⟩
  | 39 => ⟨S8x4096x4, .f32⟩
  | 40 => ⟨S8x4096x4x1, .f32⟩
  | 41 => ⟨S_, .f32⟩
  | 42 => ⟨S8x4096x4x1, .f32⟩
  | 43 => ⟨S8x4096x4x1, .f32⟩
  | 44 => ⟨S_, .f32⟩
  | 45 => ⟨S8x4096x4x1, .f32⟩
  | 46 => ⟨S8x4096x4x1, .f32⟩
  | 47 => ⟨S8x4096x4x1, .f32⟩
  | 48 => ⟨S8x4096x4x512, .f32⟩
  | 49 => ⟨S8x4096x4x512, .f32⟩
  | 50 => ⟨S8x4096x2048, .f32⟩
  | 51 => ⟨S8x4096x2048, .f32⟩
  | 52 => ⟨S8x4096x2048, .f32⟩
  | 53 => ⟨S_, .f32⟩
  | 54 => ⟨S8x4096x2048, .f32⟩
  | 55 => ⟨S8x4096x2048, .f32⟩
  | 56 => ⟨S_, .f32⟩
  | 57 => ⟨S8x4096x2048, .f32⟩
  | 58 => ⟨S8x4096x2048, .f32⟩
  | 59 => ⟨S8x4096x2048, .f32⟩
  | 60 => ⟨S8x4096x2048, .f32⟩
  | 61 => ⟨S8x4096x1024, .f32⟩
  | 62 => ⟨S8x4096x1024, .f32⟩
  | 63 => ⟨S8x4096x1024, .f32⟩
  | 64 => ⟨S8x4096x1024, .f32⟩
  | _ => ⟨S8x4096x1024, .f32⟩

abbrev hbmTy (i : Nat) : BufTy := match i / 128 with
  | 0 => hbmTy0_0 i
  | 1 => hbmTy0_1 i
  | 2 => hbmTy0_2 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_cst_0 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_2 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_3 : Ref sig .tc := ⟨.hbm, 48, rfl⟩
abbrev main_v38 : Ref sig .tc := ⟨.hbm, 49, rfl⟩
abbrev main_v39 : Ref sig .tc := ⟨.hbm, 50, rfl⟩
abbrev main_cst_4 : Ref sig .tc := ⟨.hbm, 51, rfl⟩
abbrev main_v40 : Ref sig .tc := ⟨.hbm, 52, rfl⟩
abbrev main_v41 : Ref sig .tc := ⟨.hbm, 53, rfl⟩
abbrev main_cst_5 : Ref sig .tc := ⟨.hbm, 54, rfl⟩
abbrev main_v42 : Ref sig .tc := ⟨.hbm, 55, rfl⟩
abbrev main_v43 : Ref sig .tc := ⟨.hbm, 56, rfl⟩
abbrev main_cst_6 : Ref sig .tc := ⟨.hbm, 57, rfl⟩
abbrev main_v44 : Ref sig .tc := ⟨.hbm, 58, rfl⟩
abbrev main_v45 : Ref sig .tc := ⟨.hbm, 59, rfl⟩
abbrev main_cst_7 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_cst_8 : Ref sig .tc := ⟨.hbm, 88, rfl⟩
abbrev main_v73 : Ref sig .tc := ⟨.hbm, 89, rfl⟩
abbrev main_v74 : Ref sig .tc := ⟨.hbm, 90, rfl⟩
abbrev main_cst_9 : Ref sig .tc := ⟨.hbm, 91, rfl⟩
abbrev main_v75 : Ref sig .tc := ⟨.hbm, 92, rfl⟩
abbrev main_v76 : Ref sig .tc := ⟨.hbm, 93, rfl⟩
abbrev main_cst_10 : Ref sig .tc := ⟨.hbm, 94, rfl⟩
abbrev main_v77 : Ref sig .tc := ⟨.hbm, 95, rfl⟩
abbrev main_v78 : Ref sig .tc := ⟨.hbm, 96, rfl⟩
abbrev main_cst_11 : Ref sig .tc := ⟨.hbm, 97, rfl⟩
abbrev main_v79 : Ref sig .tc := ⟨.hbm, 98, rfl⟩
abbrev main_v80 : Ref sig .tc := ⟨.hbm, 99, rfl⟩
abbrev main_cst_12 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_cst_13 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_cst_14 : Ref sig .tc := ⟨.hbm, 137, rfl⟩
abbrev main_v116 : Ref sig .tc := ⟨.hbm, 138, rfl⟩
abbrev main_v117 : Ref sig .tc := ⟨.hbm, 139, rfl⟩
abbrev main_cst_15 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩
abbrev main_v122 : Ref sig .tc := ⟨.hbm, 145, rfl⟩
abbrev main_v123 : Ref sig .tc := ⟨.hbm, 146, rfl⟩
abbrev main_v124 : Ref sig .tc := ⟨.hbm, 147, rfl⟩
abbrev main_v125 : Ref sig .tc := ⟨.hbm, 148, rfl⟩
abbrev main_v126 : Ref sig .tc := ⟨.hbm, 149, rfl⟩
abbrev main_v127 : Ref sig .tc := ⟨.hbm, 150, rfl⟩
abbrev main_cst_16 : Ref sig .tc := ⟨.hbm, 151, rfl⟩
abbrev main_v128 : Ref sig .tc := ⟨.hbm, 152, rfl⟩
abbrev main_v129 : Ref sig .tc := ⟨.hbm, 153, rfl⟩
abbrev main_v130 : Ref sig .tc := ⟨.hbm, 154, rfl⟩
abbrev main_cst_17 : Ref sig .tc := ⟨.hbm, 155, rfl⟩
abbrev main_v131 : Ref sig .tc := ⟨.hbm, 156, rfl⟩
abbrev main_v132 : Ref sig .tc := ⟨.hbm, 157, rfl⟩
abbrev main_v133 : Ref sig .tc := ⟨.hbm, 158, rfl⟩
abbrev main_v134 : Ref sig .tc := ⟨.hbm, 159, rfl⟩
abbrev main_v135 : Ref sig .tc := ⟨.hbm, 160, rfl⟩
abbrev main_v136 : Ref sig .tc := ⟨.hbm, 161, rfl⟩
abbrev main_v137 : Ref sig .tc := ⟨.hbm, 162, rfl⟩
abbrev main_cst_18 : Ref sig .tc := ⟨.hbm, 163, rfl⟩
abbrev main_call0_v0 : Ref sig .tc := ⟨.hbm, 164, rfl⟩
abbrev main_call0_v1 : Ref sig .tc := ⟨.hbm, 165, rfl⟩
abbrev main_call0_v2 : Ref sig .tc := ⟨.hbm, 166, rfl⟩
abbrev main_v138 : Ref sig .tc := ⟨.hbm, 167, rfl⟩
abbrev main_v139 : Ref sig .tc := ⟨.hbm, 168, rfl⟩
abbrev main_cst_19 : Ref sig .tc := ⟨.hbm, 169, rfl⟩
abbrev main_v140 : Ref sig .tc := ⟨.hbm, 170, rfl⟩
abbrev main_v141 : Ref sig .tc := ⟨.hbm, 171, rfl⟩
abbrev main_v142 : Ref sig .tc := ⟨.hbm, 172, rfl⟩
abbrev main_v143 : Ref sig .tc := ⟨.hbm, 173, rfl⟩
abbrev main_v144 : Ref sig .tc := ⟨.hbm, 174, rfl⟩
abbrev main_v145 : Ref sig .tc := ⟨.hbm, 175, rfl⟩
abbrev main_v146 : Ref sig .tc := ⟨.hbm, 176, rfl⟩
abbrev main_v147 : Ref sig .tc := ⟨.hbm, 177, rfl⟩
abbrev main_v148 : Ref sig .tc := ⟨.hbm, 178, rfl⟩
abbrev main_cst_20 : Ref sig .tc := ⟨.hbm, 179, rfl⟩
abbrev main_v149 : Ref sig .tc := ⟨.hbm, 180, rfl⟩
abbrev main_v150 : Ref sig .tc := ⟨.hbm, 181, rfl⟩
abbrev main_v151 : Ref sig .tc := ⟨.hbm, 182, rfl⟩
abbrev main_v152 : Ref sig .tc := ⟨.hbm, 183, rfl⟩
abbrev main_v153 : Ref sig .tc := ⟨.hbm, 184, rfl⟩
abbrev main_v154 : Ref sig .tc := ⟨.hbm, 185, rfl⟩
abbrev main_v155 : Ref sig .tc := ⟨.hbm, 186, rfl⟩
abbrev main_v156 : Ref sig .tc := ⟨.hbm, 187, rfl⟩
abbrev main_cst_21 : Ref sig .tc := ⟨.hbm, 188, rfl⟩
abbrev main_v157 : Ref sig .tc := ⟨.hbm, 189, rfl⟩
abbrev main_v158 : Ref sig .tc := ⟨.hbm, 190, rfl⟩
abbrev main_v159 : Ref sig .tc := ⟨.hbm, 191, rfl⟩
abbrev main_v160 : Ref sig .tc := ⟨.hbm, 192, rfl⟩
abbrev main_cst_22 : Ref sig .tc := ⟨.hbm, 193, rfl⟩
abbrev main_v161 : Ref sig .tc := ⟨.hbm, 194, rfl⟩
abbrev main_cst_23 : Ref sig .tc := ⟨.hbm, 195, rfl⟩
abbrev main_v162 : Ref sig .tc := ⟨.hbm, 196, rfl⟩
abbrev main_c : Ref sig .tc := ⟨.hbm, 197, rfl⟩
abbrev main_v163_0 : Ref sig .tc := ⟨.hbm, 198, rfl⟩
abbrev main_v163_1 : Ref sig .tc := ⟨.hbm, 199, rfl⟩
abbrev main_v163_2 : Ref sig .tc := ⟨.hbm, 200, rfl⟩
abbrev main_v163_3 : Ref sig .tc := ⟨.hbm, 201, rfl⟩
abbrev main_v163_4 : Ref sig .tc := ⟨.hbm, 202, rfl⟩
abbrev main_v163_5 : Ref sig .tc := ⟨.hbm, 203, rfl⟩
abbrev main_v163_6 : Ref sig .tc := ⟨.hbm, 204, rfl⟩
abbrev main_v163_7 : Ref sig .tc := ⟨.hbm, 205, rfl⟩
abbrev main_v163_8 : Ref sig .tc := ⟨.hbm, 206, rfl⟩
abbrev main_v163_9 : Ref sig .tc := ⟨.hbm, 207, rfl⟩
abbrev main_while0c_c_40 : Ref sig .tc := ⟨.hbm, 208, rfl⟩
abbrev main_while0c_v219 : Ref sig .tc := ⟨.hbm, 209, rfl⟩
abbrev main_while0b_call1_c : Ref sig .tc := ⟨.hbm, 210, rfl⟩
abbrev main_while0b_call1_c_0 : Ref sig .tc := ⟨.hbm, 211, rfl⟩
abbrev main_while0b_call1_c_1 : Ref sig .tc := ⟨.hbm, 212, rfl⟩
abbrev main_while0b_call1_c_2 : Ref sig .tc := ⟨.hbm, 213, rfl⟩
abbrev main_while0b_call1_v0 : Ref sig .tc := ⟨.hbm, 214, rfl⟩
abbrev main_while0b_v219 : Ref sig .tc := ⟨.hbm, 215, rfl⟩
abbrev main_while0b_call2_c : Ref sig .tc := ⟨.hbm, 216, rfl⟩
abbrev main_while0b_call2_c_0 : Ref sig .tc := ⟨.hbm, 217, rfl⟩
abbrev main_while0b_call2_c_1 : Ref sig .tc := ⟨.hbm, 218, rfl⟩
abbrev main_while0b_call2_c_2 : Ref sig .tc := ⟨.hbm, 219, rfl⟩
abbrev main_while0b_call2_v0 : Ref sig .tc := ⟨.hbm, 220, rfl⟩
abbrev main_while0b_v220 : Ref sig .tc := ⟨.hbm, 221, rfl⟩
abbrev main_while0b_call3_c : Ref sig .tc := ⟨.hbm, 222, rfl⟩
abbrev main_while0b_call3_c_0 : Ref sig .tc := ⟨.hbm, 223, rfl⟩
abbrev main_while0b_call3_c_1 : Ref sig .tc := ⟨.hbm, 224, rfl⟩
abbrev main_while0b_call3_c_2 : Ref sig .tc := ⟨.hbm, 225, rfl⟩
abbrev main_while0b_call3_v0 : Ref sig .tc := ⟨.hbm, 226, rfl⟩
abbrev main_while0b_v221 : Ref sig .tc := ⟨.hbm, 227, rfl⟩
abbrev main_while0b_v222 : Ref sig .tc := ⟨.hbm, 228, rfl⟩
abbrev main_while0b_v223 : Ref sig .tc := ⟨.hbm, 229, rfl⟩
abbrev main_while0b_v224 : Ref sig .tc := ⟨.hbm, 230, rfl⟩
abbrev main_while0b_v225 : Ref sig .tc := ⟨.hbm, 231, rfl⟩
abbrev main_while0b_v226 : Ref sig .tc := ⟨.hbm, 232, rfl⟩
abbrev main_while0b_v227 : Ref sig .tc := ⟨.hbm, 233, rfl⟩
abbrev main_while0b_v228 : Ref sig .tc := ⟨.hbm, 234, rfl⟩
abbrev main_while0b_v229 : Ref sig .tc := ⟨.hbm, 235, rfl⟩
abbrev main_while0b_v230 : Ref sig .tc := ⟨.hbm, 236, rfl⟩
abbrev main_while0b_v231 : Ref sig .tc := ⟨.hbm, 237, rfl⟩
abbrev main_while0b_v232 : Ref sig .tc := ⟨.hbm, 238, rfl⟩
abbrev main_while0b_v233 : Ref sig .tc := ⟨.hbm, 239, rfl⟩
abbrev main_while0b_v234 : Ref sig .tc := ⟨.hbm, 240, rfl⟩
abbrev main_while0b_v235 : Ref sig .tc := ⟨.hbm, 241, rfl⟩
abbrev main_while0b_v236 : Ref sig .tc := ⟨.hbm, 242, rfl⟩
abbrev main_while0b_call4_v0 : Ref sig .tc := ⟨.hbm, 243, rfl⟩
abbrev main_while0b_call4_c : Ref sig .tc := ⟨.hbm, 244, rfl⟩
abbrev main_while0b_call4_c_0 : Ref sig .tc := ⟨.hbm, 245, rfl⟩
abbrev main_while0b_call4_c_1 : Ref sig .tc := ⟨.hbm, 246, rfl⟩
abbrev main_while0b_call4_c_2 : Ref sig .tc := ⟨.hbm, 247, rfl⟩
abbrev main_while0b_v237 : Ref sig .tc := ⟨.hbm, 248, rfl⟩
abbrev main_while0b_c_40 : Ref sig .tc := ⟨.hbm, 249, rfl⟩
abbrev main_while0b_v238 : Ref sig .tc := ⟨.hbm, 250, rfl⟩
abbrev main_v164 : Ref sig .tc := ⟨.hbm, 251, rfl⟩
abbrev main_v165 : Ref sig .tc := ⟨.hbm, 252, rfl⟩
abbrev main_v166 : Ref sig .tc := ⟨.hbm, 253, rfl⟩
abbrev main_v167 : Ref sig .tc := ⟨.hbm, 254, rfl⟩
abbrev main_v168 : Ref sig .tc := ⟨.hbm, 255, rfl⟩
abbrev main_v169 : Ref sig .tc := ⟨.hbm, 256, rfl⟩
abbrev main_v170 : Ref sig .tc := ⟨.hbm, 257, rfl⟩
abbrev main_v171 : Ref sig .tc := ⟨.hbm, 258, rfl⟩
abbrev main_v172 : Ref sig .tc := ⟨.hbm, 259, rfl⟩
abbrev main_v173 : Ref sig .tc := ⟨.hbm, 260, rfl⟩
abbrev main_v174 : Ref sig .tc := ⟨.hbm, 261, rfl⟩
abbrev main_v175 : Ref sig .tc := ⟨.hbm, 262, rfl⟩
abbrev main_v176 : Ref sig .tc := ⟨.hbm, 263, rfl⟩
abbrev main_cst_24 : Ref sig .tc := ⟨.hbm, 264, rfl⟩
abbrev main_v177 : Ref sig .tc := ⟨.hbm, 265, rfl⟩
abbrev main_v178 : Ref sig .tc := ⟨.hbm, 266, rfl⟩
abbrev main_cst_25 : Ref sig .tc := ⟨.hbm, 267, rfl⟩
abbrev main_v179 : Ref sig .tc := ⟨.hbm, 268, rfl⟩
abbrev main_v180 : Ref sig .tc := ⟨.hbm, 269, rfl⟩
abbrev main_cst_26 : Ref sig .tc := ⟨.hbm, 270, rfl⟩
abbrev main_v181 : Ref sig .tc := ⟨.hbm, 271, rfl⟩
abbrev main_v182 : Ref sig .tc := ⟨.hbm, 272, rfl⟩
abbrev main_v183 : Ref sig .tc := ⟨.hbm, 273, rfl⟩
abbrev main_v184 : Ref sig .tc := ⟨.hbm, 274, rfl⟩
abbrev main_v185 : Ref sig .tc := ⟨.hbm, 275, rfl⟩
abbrev main_v186 : Ref sig .tc := ⟨.hbm, 276, rfl⟩
abbrev main_v187 : Ref sig .tc := ⟨.hbm, 277, rfl⟩
abbrev main_v188 : Ref sig .tc := ⟨.hbm, 278, rfl⟩
abbrev main_cst_27 : Ref sig .tc := ⟨.hbm, 279, rfl⟩
abbrev main_v189 : Ref sig .tc := ⟨.hbm, 280, rfl⟩
abbrev main_v190 : Ref sig .tc := ⟨.hbm, 281, rfl⟩
abbrev main_v191 : Ref sig .tc := ⟨.hbm, 282, rfl⟩
abbrev main_v192 : Ref sig .tc := ⟨.hbm, 283, rfl⟩
abbrev main_v193 : Ref sig .tc := ⟨.hbm, 284, rfl⟩
abbrev main_v194 : Ref sig .tc := ⟨.hbm, 285, rfl⟩
abbrev main_v195 : Ref sig .tc := ⟨.hbm, 286, rfl⟩
abbrev main_v196 : Ref sig .tc := ⟨.hbm, 287, rfl⟩
abbrev main_v197 : Ref sig .tc := ⟨.hbm, 288, rfl⟩
abbrev main_v198 : Ref sig .tc := ⟨.hbm, 289, rfl⟩
abbrev main_v199 : Ref sig .tc := ⟨.hbm, 290, rfl⟩
abbrev main_v200 : Ref sig .tc := ⟨.hbm, 291, rfl⟩
abbrev main_v201 : Ref sig .tc := ⟨.hbm, 292, rfl⟩
abbrev main_v202 : Ref sig .tc := ⟨.hbm, 293, rfl⟩
abbrev main_cst_28 : Ref sig .tc := ⟨.hbm, 294, rfl⟩
abbrev main_v203 : Ref sig .tc := ⟨.hbm, 295, rfl⟩
abbrev main_v204 : Ref sig .tc := ⟨.hbm, 296, rfl⟩
abbrev main_cst_29 : Ref sig .tc := ⟨.hbm, 297, rfl⟩
abbrev main_v205 : Ref sig .tc := ⟨.hbm, 298, rfl⟩
abbrev main_v206 : Ref sig .tc := ⟨.hbm, 299, rfl⟩
abbrev main_cst_30 : Ref sig .tc := ⟨.hbm, 300, rfl⟩
abbrev main_v207 : Ref sig .tc := ⟨.hbm, 301, rfl⟩
abbrev main_v208 : Ref sig .tc := ⟨.hbm, 302, rfl⟩
abbrev main_v209 : Ref sig .tc := ⟨.hbm, 303, rfl⟩
abbrev main_v210 : Ref sig .tc := ⟨.hbm, 304, rfl⟩
abbrev main_v211 : Ref sig .tc := ⟨.hbm, 305, rfl⟩
abbrev main_v212 : Ref sig .tc := ⟨.hbm, 306, rfl⟩
abbrev main_call5_v0 : Ref sig .tc := ⟨.hbm, 307, rfl⟩
abbrev main_call5_v1 : Ref sig .tc := ⟨.hbm, 308, rfl⟩
abbrev main_call5_cst : Ref sig .tc := ⟨.hbm, 309, rfl⟩
abbrev main_call5_v2 : Ref sig .tc := ⟨.hbm, 310, rfl⟩
abbrev main_call5_v3 : Ref sig .tc := ⟨.hbm, 311, rfl⟩
abbrev main_call5_cst_0 : Ref sig .tc := ⟨.hbm, 312, rfl⟩
abbrev main_call5_v4 : Ref sig .tc := ⟨.hbm, 313, rfl⟩
abbrev main_call5_v5 : Ref sig .tc := ⟨.hbm, 314, rfl⟩
abbrev main_v213 : Ref sig .tc := ⟨.hbm, 315, rfl⟩
abbrev main_v214 : Ref sig .tc := ⟨.hbm, 316, rfl⟩
abbrev main_v215 : Ref sig .tc := ⟨.hbm, 317, rfl⟩
abbrev main_v216 : Ref sig .tc := ⟨.hbm, 318, rfl⟩
abbrev main_v217 : Ref sig .tc := ⟨.hbm, 319, rfl⟩
abbrev main_v218 : Ref sig .tc := ⟨.hbm, 320, rfl⟩

abbrev nD : Nat := 1
abbrev τ : Topo := Topo.v7x

variable {F : FTy → Type} [FloatOps F]

abbrev main_while0_count : Scf.Loop 32 := ⟨0#32, 32#32, 1#32⟩
-- ==== Experts.lean ====
abbrev S69632x1024 : Shape := ⟨2, ![69632, 1024]⟩
abbrev S8 : Shape := ⟨1, ![8]⟩
abbrev S8x1024x5632 : Shape := ⟨3, ![8, 1024, 5632]⟩
abbrev S8x2816x1024 : Shape := ⟨3, ![8, 2816, 1024]⟩
abbrev S_ : Shape := ⟨0, ![]⟩
abbrev S1 : Shape := ⟨1, ![1]⟩
abbrev S136 : Shape := ⟨1, ![136]⟩
abbrev S136x1 : Shape := ⟨2, ![136, 1]⟩
abbrev S1x8 : Shape := ⟨2, ![1, 8]⟩
abbrev S136x8 : Shape := ⟨2, ![136, 8]⟩
abbrev S557056x128 : Shape := ⟨2, ![557056, 128]⟩
abbrev S4096x128 : Shape := ⟨2, ![4096, 128]⟩
abbrev S1x1024x5632 : Shape := ⟨3, ![1, 1024, 5632]⟩
abbrev S1x2816x1024 : Shape := ⟨3, ![1, 2816, 1024]⟩
abbrev S512x128 : Shape := ⟨2, ![512, 128]⟩
abbrev S512x1024 : Shape := ⟨2, ![512, 1024]⟩
abbrev S1x1024x256 : Shape := ⟨3, ![1, 1024, 256]⟩
abbrev S1024x256 : Shape := ⟨2, ![1024, 256]⟩
abbrev S512x256 : Shape := ⟨2, ![512, 256]⟩
abbrev S1x256x1024 : Shape := ⟨3, ![1, 256, 1024]⟩
abbrev S256x1024 : Shape := ⟨2, ![256, 1024]⟩

abbrev nBuf : Space → Nat
  | .hbm => 61
  | .vmem => 8
  | .smem => 2
  | _ => 0

abbrev bufTy : (tb : Table) → Fin (tcTables nBuf tb) → BufTy
  | .hbm, ⟨0, _⟩ => ⟨S69632x1024, .f32⟩
  | .hbm, ⟨1, _⟩ => ⟨S8, .i32⟩
  | .hbm, ⟨2, _⟩ => ⟨S8x1024x5632, .f32⟩
  | .hbm, ⟨3, _⟩ => ⟨S8x2816x1024, .f32⟩
  | .hbm, ⟨4, _⟩ => ⟨S_, .i32⟩
  | .hbm, ⟨5, _⟩ => ⟨S8, .i32⟩
  | .hbm, ⟨6, _⟩ => ⟨S8, .i32⟩
  | .hbm, ⟨7, _⟩ => ⟨S_, .i32⟩
  | .hbm, ⟨8, _⟩ => ⟨S8, .i32⟩
  | .hbm, ⟨9, _⟩ => ⟨S8, .i32⟩
  | .hbm, ⟨10, _⟩ => ⟨S_, .i32⟩
  | .hbm, ⟨11, _⟩ => ⟨S_, .i32⟩
  | .hbm, ⟨12, _⟩ => ⟨S8, .i32⟩
  | .hbm, ⟨13, _⟩ => ⟨S8, .i32⟩
  | .hbm, ⟨14, _⟩ => ⟨S8, .i32⟩
  | .hbm, ⟨15, _⟩ => ⟨S_, .i32⟩
  | .hbm, ⟨16, _⟩ => ⟨S8, .i32⟩
  | .hbm, ⟨17, _⟩ => ⟨S8, .i1⟩
  | .hbm, ⟨18, _⟩ => ⟨S8, .i32⟩
  | .hbm, ⟨19, _⟩ => ⟨S8, .i32⟩
  | .hbm, ⟨20, _⟩ => ⟨S_, .i32⟩
  | .hbm, ⟨21, _⟩ => ⟨S8, .i32⟩
  | .hbm, ⟨22, _⟩ => ⟨S8, .i1⟩
  | .hbm, ⟨23, _⟩ => ⟨S8, .i1⟩
  | .hbm, ⟨24, _⟩ => ⟨S_, .i32⟩
  | .hbm, ⟨25, _⟩ => ⟨S8, .i32⟩
  | .hbm, ⟨26, _⟩ => ⟨S8, .i32⟩
  | .hbm, ⟨27, _⟩ => ⟨S8, .i32⟩
  | .hbm, ⟨28, _⟩ => ⟨S_, .i32⟩
  | .hbm, ⟨29, _⟩ => ⟨S_, .i32⟩
  | .hbm, ⟨30, _⟩ => ⟨S8, .i32⟩
  | .hbm, ⟨31, _⟩ => ⟨S1, .i32⟩
  | .hbm, ⟨32, _⟩ => ⟨S_, .i32⟩
  | .hbm, ⟨33, _⟩ => ⟨S136, .i32⟩
  | .hbm, ⟨34, _⟩ => ⟨S136x1, .i32⟩
  | .hbm, ⟨35, _⟩ => ⟨S1x8, .i32⟩
  | .hbm, ⟨36, _⟩ => ⟨S136x8, .i32⟩
  | .hbm, ⟨37, _⟩ => ⟨S136x8, .i32⟩
  | .hbm, ⟨38, _⟩ => ⟨S136x8, .i1⟩
  | .hbm, ⟨39, _⟩ => ⟨S136x8, .i32⟩
  | .hbm, ⟨40, _⟩ => ⟨S_, .i32⟩
  | .hbm, ⟨41, _⟩ => ⟨S136, .i32⟩
  | .hbm, ⟨42, _⟩ => ⟨S_, .i32⟩
  | .hbm, ⟨43, _⟩ => ⟨S136, .i32⟩
  | .hbm, ⟨44, _⟩ => ⟨S136, .i32⟩
  | .hbm, ⟨45, _⟩ => ⟨S136, .i32⟩
  | .hbm, ⟨46, _⟩ => ⟨S136, .i1⟩
  | .hbm, ⟨47, _⟩ => ⟨S_, .i32⟩
  | .hbm, ⟨48, _⟩ => ⟨S_, .i32⟩
  | .hbm, ⟨49, _⟩ => ⟨S_, .i32⟩
  | .hbm, ⟨50, _⟩ => ⟨S_, .i1⟩
  | .hbm, ⟨51, _⟩ => ⟨S_, .i32⟩
  | .hbm, ⟨52, _⟩ => ⟨S_, .i32⟩
  | .hbm, ⟨53, _⟩ => ⟨S_, .i32⟩
  | .hbm, ⟨54, _⟩ => ⟨S1, .i32⟩
  | .hbm, ⟨55, _⟩ => ⟨S_, .i32⟩
  | .hbm, ⟨56, _⟩ => ⟨S136, .i32⟩
  | .hbm, ⟨57, _⟩ => ⟨S557056x128, .f32⟩
  | .hbm, ⟨58, _⟩ => ⟨S8x1024x5632, .bf16⟩
  | .hbm, ⟨59, _⟩ => ⟨S8x2816x1024, .bf16⟩
  | .hbm, ⟨60, _⟩ => ⟨S557056x128, .f32⟩
  | .local _ .vmem, ⟨0, _⟩ => ⟨S4096x128, .f32⟩
  | .local _ .vmem, ⟨1, _⟩ => ⟨S4096x128, .f32⟩
  | .local _ .vmem, ⟨2, _⟩ => ⟨S1x1024x5632, .bf16⟩
  | .local _ .vmem, ⟨3, _⟩ => ⟨S1x1024x5632, .bf16⟩
  | .local _ .vmem, ⟨4, _⟩ => ⟨S1x2816x1024, .bf16⟩
  | .local _ .vmem, ⟨5, _⟩ => ⟨S1x2816x1024, .bf16⟩
  | .local _ .vmem, ⟨6, _⟩ => ⟨S4096x128, .f32⟩
  | .local _ .vmem, ⟨7, _⟩ => ⟨S4096x128, .f32⟩
  | .local _ .smem, ⟨0, _⟩ => ⟨S136, .i32⟩
  | .local _ .smem, ⟨1, _⟩ => ⟨S1, .i32⟩
  | _, _ => ⟨S69632x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_c_1 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v4 : Ref sig .tc := ⟨.hbm, 27, rfl⟩
abbrev main_call1_call0_c : Ref sig .tc := ⟨.hbm, 28, rfl⟩
abbrev main_call1_call0_v0 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_c_2 : Ref sig .tc := ⟨.hbm, 40, rfl⟩
abbrev main_v15 : Ref sig .tc := ⟨.hbm, 41, rfl⟩
abbrev main_c_3 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_c_4 : Ref sig .tc := ⟨.hbm, 47, rfl⟩
abbrev main_v20 : Ref sig .tc := ⟨.hbm, 48, rfl⟩
abbrev main_c_5 : Ref sig .tc := ⟨.hbm, 49, rfl⟩
abbrev main_v21 : Ref sig .tc := ⟨.hbm, 50, rfl⟩
abbrev main_c_6 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_call2_v0 : Ref sig .tc := ⟨.hbm, 56, rfl⟩
abbrev main_v27 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v26 : Ref sig .tc := ⟨.smem, 0, rfl⟩
abbrev main_v28 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![136], ![false]⟩

abbrev pre0 : Pipeline.Prefetch sig := ⟨2, ![main_v26.idx, main_v28.idx], fun | 0 => main_v26.names | 1 => main_v28.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S136) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S136) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2816x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ExpertsRefIdeal.lean ====
abbrev S69632x1024 : Shape := ⟨2, ![69632, 1024]⟩
abbrev S8 : Shape := ⟨1, ![8]⟩
abbrev S8x1024x5632 : Shape := ⟨3, ![8, 1024, 5632]⟩
abbrev S8x2816x1024 : Shape := ⟨3, ![8, 2816, 1024]⟩
abbrev S_ : Shape := ⟨0, ![]⟩
abbrev S69632 : Shape := ⟨1, ![69632]⟩
abbrev S69632x1 : Shape := ⟨2, ![69632, 1]⟩
abbrev S1x8 : Shape := ⟨2, ![1, 8]⟩
abbrev S69632x8 : Shape := ⟨2, ![69632, 8]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S69632x5632 : Shape := ⟨2, ![69632, 5632]⟩
abbrev S69632x2816 : Shape := ⟨2, ![69632, 2816]⟩
abbrev S557056x128 : Shape := ⟨2, ![557056, 128]⟩

abbrev nBuf : Space → Nat
  | .hbm => 243
  | .vmem => 0
  | .smem => 0
  | _ => 0

abbrev hbmTy0_0 (i : Nat) : BufTy := match i % 128 with
  | 0 => ⟨S69632x1024, .f32⟩
  | 1 => ⟨S8, .i32⟩
  | 2 => ⟨S8x1024x5632, .f32⟩
  | 3 => ⟨S8x2816x1024, .f32⟩
  | 4 => ⟨S_, .i32⟩
  | 5 => ⟨S8, .i32⟩
  | 6 => ⟨S8, .i32⟩
  | 7 => ⟨S_, .i32⟩
  | 8 => ⟨S8, .i32⟩
  | 9 => ⟨S8, .i32⟩
  | 10 => ⟨S_, .i32⟩
  | 11 => ⟨S_, .i32⟩
  | 12 => ⟨S8, .i32⟩
  | 13 => ⟨S8, .i32⟩
  | 14 => ⟨S8, .i32⟩
  | 15 => ⟨S_, .i32⟩
  | 16 => ⟨S8, .i32⟩
  | 17 => ⟨S8, .i1⟩
  | 18 => ⟨S8, .i32⟩
  | 19 => ⟨S8, .i32⟩
  | 20 => ⟨S_, .i32⟩
  | 21 => ⟨S8, .i32⟩
  | 22 => ⟨S8, .i1⟩
  | 23 => ⟨S8, .i1⟩
  | 24 => ⟨S_, .i32⟩
  | 25 => ⟨S8, .i32⟩
  | 26 => ⟨S8, .i32⟩
  | 27 => ⟨S8, .i32⟩
  | 28 => ⟨S_, .i32⟩
  | 29 => ⟨S_, .i32⟩
  | 30 => ⟨S8, .i32⟩
  | 31 => ⟨S69632, .i32⟩
  | 32 => ⟨S_, .i32⟩
  | 33 => ⟨S_, .i32⟩
  | 34 => ⟨S69632, .i32⟩
  | 35 => ⟨S69632, .i32⟩
  | 36 => ⟨S69632, .i32⟩
  | 37 => ⟨S_, .i32⟩
  | 38 => ⟨S69632, .i32⟩
  | 39 => ⟨S69632, .i1⟩
  | 40 => ⟨S69632, .i32⟩
  | 41 => ⟨S69632, .i32⟩
  | 42 => ⟨S_, .i32⟩
  | 43 => ⟨S69632, .i32⟩
  | 44 => ⟨S69632, .i1⟩
  | 45 => ⟨S69632, .i1⟩
  | 46 => ⟨S_, .i32⟩
  | 47 => ⟨S69632, .i32⟩
  | 48 => ⟨S69632, .i32⟩
  | 49 => ⟨S69632, .i32⟩
  | 50 => ⟨S69632x1, .i32⟩
  | 51 => ⟨S1x8, .i32⟩
  | 52 => ⟨S69632x8, .i32⟩
  | 53 => ⟨S69632x8, .i32⟩
  | 54 => ⟨S69632x8, .i1⟩
  | 55 => ⟨S69632x8, .i32⟩
  | 56 => ⟨S_, .i32⟩
  | 57 => ⟨S69632, .i32⟩
  | 58 => ⟨S69632x1, .i32⟩
  | 59 => ⟨S1x8, .i32⟩
  | 60 => ⟨S69632x8, .i32⟩
  | 61 => ⟨S69632x8, .i32⟩
  | 62 => ⟨S69632x8, .i1⟩
  | 63 => ⟨S69632x8, .f32⟩
  | 64 => ⟨S_, .f32⟩
  | 65 => ⟨S69632x1024, .f32⟩
  | 66 => ⟨S69632x1, .f32⟩
  | 67 => ⟨S1x1024x5632, .f32⟩
  | 68 => ⟨S1024x5632, .f32⟩
  | 69 => ⟨S1x2816x1024, .f32⟩
  | 70 => ⟨S2816x1024, .f32⟩
  | 71 => ⟨S69632x5632, .f32⟩
  | 72 => ⟨S69632x2816, .f32⟩
  | 73 => ⟨S69632x2816, .f32⟩
  | 74 => ⟨S69632x2816, .f32⟩
  | 75 => ⟨S69632x2816, .f32⟩
  | 76 => ⟨S_, .f32⟩
  | 77 => ⟨S69632x2816, .f32⟩
  | 78 => ⟨S69632x2816, .f32⟩
  | 79 => ⟨S_, .f32⟩
  | 80 => ⟨S69632x2816, .f32⟩
  | 81 => ⟨S69632x2816, .f32⟩
  | 82 => ⟨S69632x2816, .f32⟩
  | 83 => ⟨S69632x2816, .f32⟩
  | 84 => ⟨S69632x1024, .f32⟩
  | 85 => ⟨S69632x1024, .f32⟩
  | 86 => ⟨S69632x1024, .f32⟩
  | 87 => ⟨S69632x1024, .f32⟩
  | 88 => ⟨S69632x1, .f32⟩
  | 89 => ⟨S1x1024x5632, .f32⟩
  | 90 => ⟨S1024x5632, .f32⟩
  | 91 => ⟨S1x2816x1024, .f32⟩
  | 92 => ⟨S2816x1024, .f32⟩
  | 93 => ⟨S69632x5632, .f32⟩
  | 94 => ⟨S69632x2816, .f32⟩
  | 95 => ⟨S69632x2816, .f32⟩
  | 96 => ⟨S69632x2816, .f32⟩
  | 97 => ⟨S69632x2816, .f32⟩
  | 98 => ⟨S_, .f32⟩
  | 99 => ⟨S69632x2816, .f32⟩
  | 100 => ⟨S69632x2816, .f32⟩
  | 101 => ⟨S_, .f32⟩
  | 102 => ⟨S69632x2816, .f32⟩
  | 103 => ⟨S69632x2816, .f32⟩
  | 104 => ⟨S69632x2816, .f32⟩
  | 105 => ⟨S69632x2816, .f32⟩
  | 106 => ⟨S69632x1024, .f32⟩
  | 107 => ⟨S69632x1024, .f32⟩
  | 108 => ⟨S69632x1024, .f32⟩
  | 109 => ⟨S69632x1024, .f32⟩
  | 110 => ⟨S69632x1, .f32⟩
  | 111 => ⟨S1x1024x5632, .f32⟩
  | 112 => ⟨S1024x5632, .f32⟩
  | 113 => ⟨S1x2816x1024, .f32⟩
  | 114 => ⟨S2816x1024, .f32⟩
  | 115 => ⟨S69632x5632, .f32⟩
  | 116 => ⟨S69632x2816, .f32⟩
  | 117 => ⟨S69632x2816, .f32⟩
  | 118 => ⟨S69632x2816, .f32⟩
  | 119 => ⟨S69632x2816, .f32⟩
  | 120 => ⟨S_, .f32⟩
  | 121 => ⟨S69632x2816, .f32⟩
  | 122 => ⟨S69632x2816, .f32⟩
  | 123 => ⟨S_, .f32⟩
  | 124 => ⟨S69632x2816, .f32⟩
  | 125 => ⟨S69632x2816, .f32⟩
  | 126 => ⟨S69632x2816, .f32⟩
  | 127 => ⟨S69632x2816, .f32⟩
  | _ => ⟨S69632x1024, .f32⟩

abbrev hbmTy0_1 (i : Nat) : BufTy := match i % 128 with
  | 0 => ⟨S69632x1024, .f32⟩
  | 1 => ⟨S69632x1024, .f32⟩
  | 2 => ⟨S69632x1024, .f32⟩
  | 3 => ⟨S69632x1024, .f32⟩
  | 4 => ⟨S69632x1, .f32⟩
  | 5 => ⟨S1x1024x5632, .f32⟩
  | 6 => ⟨S1024x5632, .f32⟩
  | 7 => ⟨S1x2816x1024, .f32⟩
  | 8 => ⟨S2816x1024, .f32⟩
  | 9 => ⟨S69632x5632, .f32⟩
  | 10 => ⟨S69632x2816, .f32⟩
  | 11 => ⟨S69632x2816, .f32⟩
  | 12 => ⟨S69632x2816, .f32⟩
  | 13 => ⟨S69632x2816, .f32⟩
  | 14 => ⟨S_, .f32⟩
  | 15 => ⟨S69632x2816, .f32⟩
  | 16 => ⟨S69632x2816, .f32⟩
  | 17 => ⟨S_, .f32⟩
  | 18 => ⟨S69632x2816, .f32⟩
  | 19 => ⟨S69632x2816, .f32⟩
  | 20 => ⟨S69632x2816, .f32⟩
  | 21 => ⟨S69632x2816, .f32⟩
  | 22 => ⟨S69632x1024, .f32⟩
  | 23 => ⟨S69632x1024, .f32⟩
  | 24 => ⟨S69632x1024, .f32⟩
  | 25 => ⟨S69632x1024, .f32⟩
  | 26 => ⟨S69632x1, .f32⟩
  | 27 => ⟨S1x1024x5632, .f32⟩
  | 28 => ⟨S1024x5632, .f32⟩
  | 29 => ⟨S1x2816x1024, .f32⟩
  | 30 => ⟨S2816x1024, .f32⟩
  | 31 => ⟨S69632x5632, .f32⟩
  | 32 => ⟨S69632x2816, .f32⟩
  | 33 => ⟨S69632x2816, .f32⟩
  | 34 => ⟨S69632x2816, .f32⟩
  | 35 => ⟨S69632x2816, .f32⟩
  | 36 => ⟨S_, .f32⟩
  | 37 => ⟨S69632x2816, .f32⟩
  | 38 => ⟨S69632x2816, .f32⟩
  | 39 => ⟨S_, .f32⟩
  | 40 => ⟨S69632x2816, .f32⟩
  | 41 => ⟨S69632x2816, .f32⟩
  | 42 => ⟨S69632x2816, .f32⟩
  | 43 => ⟨S69632x2816, .f32⟩
  | 44 => ⟨S69632x1024, .f32⟩
  | 45 => ⟨S69632x1024, .f32⟩
  | 46 => ⟨S69632x1024, .f32⟩
  | 47 => ⟨S69632x1024, .f32⟩
  | 48 => ⟨S69632x1, .f32⟩
  | 49 => ⟨S1x1024x5632, .f32⟩
  | 50 => ⟨S1024x5632, .f32⟩
  | 51 => ⟨S1x2816x1024, .f32⟩
  | 52 => ⟨S2816x1024, .f32⟩
  | 53 => ⟨S69632x5632, .f32⟩
  | 54 => ⟨S69632x2816, .f32⟩
  | 55 => ⟨S69632x2816, .f32⟩
  | 56 => ⟨S69632x2816, .f32⟩
  | 57 => ⟨S69632x2816, .f32⟩
  | 58 => ⟨S_, .f32⟩
  | 59 => ⟨S69632x2816, .f32⟩
  | 60 => ⟨S69632x2816, .f32⟩
  | 61 => ⟨S_, .f32⟩
  | 62 => ⟨S69632x2816, .f32⟩
  | 63 => ⟨S69632x2816, .f32⟩
  | 64 => ⟨S69632x2816, .f32⟩
  | 65 => ⟨S69632x2816, .f32⟩
  | 66 => ⟨S69632x1024, .f32⟩
  | 67 => ⟨S69632x1024, .f32⟩
  | 68 => ⟨S69632x1024, .f32⟩
  | 69 => ⟨S69632x1024, .f32⟩
  | 70 => ⟨S69632x1, .f32⟩
  | 71 => ⟨S1x1024x5632, .f32⟩
  | 72 => ⟨S1024x5632, .f32⟩
  | 73 => ⟨S1x2816x1024, .f32⟩
  | 74 => ⟨S2816x1024, .f32⟩
  | 75 => ⟨S69632x5632, .f32⟩
  | 76 => ⟨S69632x2816, .f32⟩
  | 77 => ⟨S69632x2816, .f32⟩
  | 78 => ⟨S69632x2816, .f32⟩
  | 79 => ⟨S69632x2816, .f32⟩
  | 80 => ⟨S_, .f32⟩
  | 81 => ⟨S69632x2816, .f32⟩
  | 82 => ⟨S69632x2816, .f32⟩
  | 83 => ⟨S_, .f32⟩
  | 84 => ⟨S69632x2816, .f32⟩
  | 85 => ⟨S69632x2816, .f32⟩
  | 86 => ⟨S69632x2816, .f32⟩
  | 87 => ⟨S69632x2816, .f32⟩
  | 88 => ⟨S69632x1024, .f32⟩
  | 89 => ⟨S69632x1024, .f32⟩
  | 90 => ⟨S69632x1024, .f32⟩
  | 91 => ⟨S69632x1024, .f32⟩
  | 92 => ⟨S69632x1, .f32⟩
  | 93 => ⟨S1x1024x5632, .f32⟩
  | 94 => ⟨S1024x5632, .f32⟩
  | 95 => ⟨S1x2816x1024, .f32⟩
  | 96 => ⟨S2816x1024, .f32⟩
  | 97 => ⟨S69632x5632, .f32⟩
  | 98 => ⟨S69632x2816, .f32⟩
  | 99 => ⟨S69632x2816, .f32⟩
  | 100 => ⟨S69632x2816, .f32⟩
  | 101 => ⟨S69632x2816, .f32⟩
  | 102 => ⟨S_, .f32⟩
  | 103 => ⟨S69632x2816, .f32⟩
  | 104 => ⟨S69632x2816, .f32⟩
  | 105 => ⟨S_, .f32⟩
  | 106 => ⟨S69632x2816, .f32⟩
  | 107 => ⟨S69632x2816, .f32⟩
  | 108 => ⟨S69632x2816, .f32⟩
  | 109 => ⟨S69632x2816, .f32⟩
  | 110 => ⟨S69632x1024, .f32⟩
  | 111 => ⟨S69632x1024, .f32⟩
  | 112 => ⟨S69632x1024, .f32⟩
  | 113 => ⟨S69632x1024, .f32⟩
  | 114 => ⟨S557056x128, .f32⟩
  | _ => ⟨S69632x1024, .f32⟩

abbrev hbmTy (i : Nat) : BufTy := match i / 128 with
  | 0 => hbmTy0_0 i
  | 1 => hbmTy0_1 i
  | _ => ⟨S69632x1024, .f32⟩

abbrev bufTy : (tb : Table) → Fin (tcTables nBuf tb) → BufTy
  | .hbm, ⟨i, _⟩ => hbmTy i
  | _, _ => ⟨S69632x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_c_1 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v4 : Ref sig .tc := ⟨.hbm, 27, rfl⟩
abbrev main_call1_call0_c : Ref sig .tc := ⟨.hbm, 28, rfl⟩
abbrev main_call1_call0_v0 : Ref sig .tc := ⟨.hbm, 29, rfl⟩
abbrev main_v5 : Ref sig .tc := ⟨.hbm, 30, rfl⟩
abbrev main_v6 : Ref sig .tc := ⟨.hbm, 31, rfl⟩
abbrev main_c_2 : Ref sig .tc := ⟨.hbm, 32, rfl⟩
abbrev main_call2_v0 : Ref sig .tc := ⟨.hbm, 33, rfl⟩
abbrev main_call2_v1 : Ref sig .tc := ⟨.hbm, 34, rfl⟩
abbrev main_call2_v2 : Ref sig .tc := ⟨.hbm, 35, rfl⟩
abbrev main_call2_v3 : Ref sig .tc := ⟨.hbm, 36, rfl⟩
abbrev main_call2_v4 : Ref sig .tc := ⟨.hbm, 37, rfl⟩
abbrev main_call2_v5 : Ref sig .tc := ⟨.hbm, 38, rfl⟩
abbrev main_call2_v6 : Ref sig .tc := ⟨.hbm, 39, rfl⟩
abbrev main_call2_v7 : Ref sig .tc := ⟨.hbm, 40, rfl⟩
abbrev main_call2_v8 : Ref sig .tc := ⟨.hbm, 41, rfl⟩
abbrev main_call2_c : Ref sig .tc := ⟨.hbm, 42, rfl⟩
abbrev main_call2_v9 : Ref sig .tc := ⟨.hbm, 43, rfl⟩
abbrev main_call2_v10 : Ref sig .tc := ⟨.hbm, 44, rfl⟩
abbrev main_call2_v11 : Ref sig .tc := ⟨.hbm, 45, rfl⟩
abbrev main_call2_c_0 : Ref sig .tc := ⟨.hbm, 46, rfl⟩
abbrev main_call2_v12 : Ref sig .tc := ⟨.hbm, 47, rfl⟩
abbrev main_call2_v13 : Ref sig .tc := ⟨.hbm, 48, rfl⟩
abbrev main_v7 : Ref sig .tc := ⟨.hbm, 49, rfl⟩
abbrev main_v8 : Ref sig .tc := ⟨.hbm, 50, rfl⟩
abbrev main_v9 : Ref sig .tc := ⟨.hbm, 51, rfl⟩
abbrev main_v10 : Ref sig .tc := ⟨.hbm, 52, rfl⟩
abbrev main_v11 : Ref sig .tc := ⟨.hbm, 53, rfl⟩
abbrev main_v12 : Ref sig .tc := ⟨.hbm, 54, rfl⟩
abbrev main_v13 : Ref sig .tc := ⟨.hbm, 55, rfl⟩
abbrev main_c_3 : Ref sig .tc := ⟨.hbm, 56, rfl⟩
abbrev main_v14 : Ref sig .tc := ⟨.hbm, 57, rfl⟩
abbrev main_call3_v0 : Ref sig .tc := ⟨.hbm, 58, rfl⟩
abbrev main_call3_v1 : Ref sig .tc := ⟨.hbm, 59, rfl⟩
abbrev main_call3_v2 : Ref sig .tc := ⟨.hbm, 60, rfl⟩
abbrev main_call3_v3 : Ref sig .tc := ⟨.hbm, 61, rfl⟩
abbrev main_call3_v4 : Ref sig .tc := ⟨.hbm, 62, rfl⟩
abbrev main_v15 : Ref sig .tc := ⟨.hbm, 63, rfl⟩
abbrev main_cst : Ref sig .tc := ⟨.hbm, 64, rfl⟩
abbrev main_v16 : Ref sig .tc := ⟨.hbm, 65, rfl⟩
abbrev main_v17 : Ref sig .tc := ⟨.hbm, 66, rfl⟩
abbrev main_v18 : Ref sig .tc := ⟨.hbm, 67, rfl⟩
abbrev main_v19 : Ref sig .tc := ⟨.hbm, 68, rfl⟩
abbrev main_v20 : Ref sig .tc := ⟨.hbm, 69, rfl⟩
abbrev main_v21 : Ref sig .tc := ⟨.hbm, 70, rfl⟩
abbrev main_v22 : Ref sig .tc := ⟨.hbm, 71, rfl⟩
abbrev main_v23 : Ref sig .tc := ⟨.hbm, 72, rfl⟩
abbrev main_v24 : Ref sig .tc := ⟨.hbm, 73, rfl⟩
abbrev main_call4_v0 : Ref sig .tc := ⟨.hbm, 74, rfl⟩
abbrev main_call4_v1 : Ref sig .tc := ⟨.hbm, 75, rfl⟩
abbrev main_call4_cst : Ref sig .tc := ⟨.hbm, 76, rfl⟩
abbrev main_call4_v2 : Ref sig .tc := ⟨.hbm, 77, rfl⟩
abbrev main_call4_v3 : Ref sig .tc := ⟨.hbm, 78, rfl⟩
abbrev main_call4_cst_0 : Ref sig .tc := ⟨.hbm, 79, rfl⟩
abbrev main_call4_v4 : Ref sig .tc := ⟨.hbm, 80, rfl⟩
abbrev main_call4_v5 : Ref sig .tc := ⟨.hbm, 81, rfl⟩
abbrev main_v25 : Ref sig .tc := ⟨.hbm, 82, rfl⟩
abbrev main_v26 : Ref sig .tc := ⟨.hbm, 83, rfl⟩
abbrev main_v27 : Ref sig .tc := ⟨.hbm, 84, rfl⟩
abbrev main_v28 : Ref sig .tc := ⟨.hbm, 85, rfl⟩
abbrev main_v29 : Ref sig .tc := ⟨.hbm, 86, rfl⟩
abbrev main_v30 : Ref sig .tc := ⟨.hbm, 87, rfl⟩
abbrev main_v31 : Ref sig .tc := ⟨.hbm, 88, rfl⟩
abbrev main_v32 : Ref sig .tc := ⟨.hbm, 89, rfl⟩
abbrev main_v33 : Ref sig .tc := ⟨.hbm, 90, rfl⟩
abbrev main_v34 : Ref sig .tc := ⟨.hbm, 91, rfl⟩
abbrev main_v35 : Ref sig .tc := ⟨.hbm, 92, rfl⟩
abbrev main_v36 : Ref sig .tc := ⟨.hbm, 93, rfl⟩
abbrev main_v37 : Ref sig .tc := ⟨.hbm, 94, rfl⟩
abbrev main_v38 : Ref sig .tc := ⟨.hbm, 95, rfl⟩
abbrev main_call5_v0 : Ref sig .tc := ⟨.hbm, 96, rfl⟩
abbrev main_call5_v1 : Ref sig .tc := ⟨.hbm, 97, rfl⟩
abbrev main_call5_cst : Ref sig .tc := ⟨.hbm, 98, rfl⟩
abbrev main_call5_v2 : Ref sig .tc := ⟨.hbm, 99, rfl⟩
abbrev main_call5_v3 : Ref sig .tc := ⟨.hbm, 100, rfl⟩
abbrev main_call5_cst_0 : Ref sig .tc := ⟨.hbm, 101, rfl⟩
abbrev main_call5_v4 : Ref sig .tc := ⟨.hbm, 102, rfl⟩
abbrev main_call5_v5 : Ref sig .tc := ⟨.hbm, 103, rfl⟩
abbrev main_v39 : Ref sig .tc := ⟨.hbm, 104, rfl⟩
abbrev main_v40 : Ref sig .tc := ⟨.hbm, 105, rfl⟩
abbrev main_v41 : Ref sig .tc := ⟨.hbm, 106, rfl⟩
abbrev main_v42 : Ref sig .tc := ⟨.hbm, 107, rfl⟩
abbrev main_v43 : Ref sig .tc := ⟨.hbm, 108, rfl⟩
abbrev main_v44 : Ref sig .tc := ⟨.hbm, 109, rfl⟩
abbrev main_v45 : Ref sig .tc := ⟨.hbm, 110, rfl⟩
abbrev main_v46 : Ref sig .tc := ⟨.hbm, 111, rfl⟩
abbrev main_v47 : Ref sig .tc := ⟨.hbm, 112, rfl⟩
abbrev main_v48 : Ref sig .tc := ⟨.hbm, 113, rfl⟩
abbrev main_v49 : Ref sig .tc := ⟨.hbm, 114, rfl⟩
abbrev main_v50 : Ref sig .tc := ⟨.hbm, 115, rfl⟩
abbrev main_v51 : Ref sig .tc := ⟨.hbm, 116, rfl⟩
abbrev main_v52 : Ref sig .tc := ⟨.hbm, 117, rfl⟩
abbrev main_call6_v0 : Ref sig .tc := ⟨.hbm, 118, rfl⟩
abbrev main_call6_v1 : Ref sig .tc := ⟨.hbm, 119, rfl⟩
abbrev main_call6_cst : Ref sig .tc := ⟨.hbm, 120, rfl⟩
abbrev main_call6_v2 : Ref sig .tc := ⟨.hbm, 121, rfl⟩
abbrev main_call6_v3 : Ref sig .tc := ⟨.hbm, 122, rfl⟩
abbrev main_call6_cst_0 : Ref sig .tc := ⟨.hbm, 123, rfl⟩
abbrev main_call6_v4 : Ref sig .tc := ⟨.hbm, 124, rfl⟩
abbrev main_call6_v5 : Ref sig .tc := ⟨.hbm, 125, rfl⟩
abbrev main_v53 : Ref sig .tc := ⟨.hbm, 126, rfl⟩
abbrev main_v54 : Ref sig .tc := ⟨.hbm, 127, rfl⟩
abbrev main_v55 : Ref sig .tc := ⟨.hbm, 128, rfl⟩
abbrev main_v56 : Ref sig .tc := ⟨.hbm, 129, rfl⟩
abbrev main_v57 : Ref sig .tc := ⟨.hbm, 130, rfl⟩
abbrev main_v58 : Ref sig .tc := ⟨.hbm, 131, rfl⟩
abbrev main_v59 : Ref sig .tc := ⟨.hbm, 132, rfl⟩
abbrev main_v60 : Ref sig .tc := ⟨.hbm, 133, rfl⟩
abbrev main_v61 : Ref sig .tc := ⟨.hbm, 134, rfl⟩
abbrev main_v62 : Ref sig .tc := ⟨.hbm, 135, rfl⟩
abbrev main_v63 : Ref sig .tc := ⟨.hbm, 136, rfl⟩
abbrev main_v64 : Ref sig .tc := ⟨.hbm, 137, rfl⟩
abbrev main_v65 : Ref sig .tc := ⟨.hbm, 138, rfl⟩
abbrev main_v66 : Ref sig .tc := ⟨.hbm, 139, rfl⟩
abbrev main_call7_v0 : Ref sig .tc := ⟨.hbm, 140, rfl⟩
abbrev main_call7_v1 : Ref sig .tc := ⟨.hbm, 141, rfl⟩
abbrev main_call7_cst : Ref sig .tc := ⟨.hbm, 142, rfl⟩
abbrev main_call7_v2 : Ref sig .tc := ⟨.hbm, 143, rfl⟩
abbrev main_call7_v3 : Ref sig .tc := ⟨.hbm, 144, rfl⟩
abbrev main_call7_cst_0 : Ref sig .tc := ⟨.hbm, 145, rfl⟩
abbrev main_call7_v4 : Ref sig .tc := ⟨.hbm, 146, rfl⟩
abbrev main_call7_v5 : Ref sig .tc := ⟨.hbm, 147, rfl⟩
abbrev main_v67 : Ref sig .tc := ⟨.hbm, 148, rfl⟩
abbrev main_v68 : Ref sig .tc := ⟨.hbm, 149, rfl⟩
abbrev main_v69 : Ref sig .tc := ⟨.hbm, 150, rfl⟩
abbrev main_v70 : Ref sig .tc := ⟨.hbm, 151, rfl⟩
abbrev main_v71 : Ref sig .tc := ⟨.hbm, 152, rfl⟩
abbrev main_v72 : Ref sig .tc := ⟨.hbm, 153, rfl⟩
abbrev main_v73 : Ref sig .tc := ⟨.hbm, 154, rfl⟩
abbrev main_v74 : Ref sig .tc := ⟨.hbm, 155, rfl⟩
abbrev main_v75 : Ref sig .tc := ⟨.hbm, 156, rfl⟩
abbrev main_v76 : Ref sig .tc := ⟨.hbm, 157, rfl⟩
abbrev main_v77 : Ref sig .tc := ⟨.hbm, 158, rfl⟩
abbrev main_v78 : Ref sig .tc := ⟨.hbm, 159, rfl⟩
abbrev main_v79 : Ref sig .tc := ⟨.hbm, 160, rfl⟩
abbrev main_v80 : Ref sig .tc := ⟨.hbm, 161, rfl⟩
abbrev main_call8_v0 : Ref sig .tc := ⟨.hbm, 162, rfl⟩
abbrev main_call8_v1 : Ref sig .tc := ⟨.hbm, 163, rfl⟩
abbrev main_call8_cst : Ref sig .tc := ⟨.hbm, 164, rfl⟩
abbrev main_call8_v2 : Ref sig .tc := ⟨.hbm, 165, rfl⟩
abbrev main_call8_v3 : Ref sig .tc := ⟨.hbm, 166, rfl⟩
abbrev main_call8_cst_0 : Ref sig .tc := ⟨.hbm, 167, rfl⟩
abbrev main_call8_v4 : Ref sig .tc := ⟨.hbm, 168, rfl⟩
abbrev main_call8_v5 : Ref sig .tc := ⟨.hbm, 169, rfl⟩
abbrev main_v81 : Ref sig .tc := ⟨.hbm, 170, rfl⟩
abbrev main_v82 : Ref sig .tc := ⟨.hbm, 171, rfl⟩
abbrev main_v83 : Ref sig .tc := ⟨.hbm, 172, rfl⟩
abbrev main_v84 : Ref sig .tc := ⟨.hbm, 173, rfl⟩
abbrev main_v85 : Ref sig .tc := ⟨.hbm, 174, rfl⟩
abbrev main_v86 : Ref sig .tc := ⟨.hbm, 175, rfl⟩
abbrev main_v87 : Ref sig .tc := ⟨.hbm, 176, rfl⟩
abbrev main_v88 : Ref sig .tc := ⟨.hbm, 177, rfl⟩
abbrev main_v89 : Ref sig .tc := ⟨.hbm, 178, rfl⟩
abbrev main_v90 : Ref sig .tc := ⟨.hbm, 179, rfl⟩
abbrev main_v91 : Ref sig .tc := ⟨.hbm, 180, rfl⟩
abbrev main_v92 : Ref sig .tc := ⟨.hbm, 181, rfl⟩
abbrev main_v93 : Ref sig .tc := ⟨.hbm, 182, rfl⟩
abbrev main_v94 : Ref sig .tc := ⟨.hbm, 183, rfl⟩
abbrev main_call9_v0 : Ref sig .tc := ⟨.hbm, 184, rfl⟩
abbrev main_call9_v1 : Ref sig .tc := ⟨.hbm, 185, rfl⟩
abbrev main_call9_cst : Ref sig .tc := ⟨.hbm, 186, rfl⟩
abbrev main_call9_v2 : Ref sig .tc := ⟨.hbm, 187, rfl⟩
abbrev main_call9_v3 : Ref sig .tc := ⟨.hbm, 188, rfl⟩
abbrev main_call9_cst_0 : Ref sig .tc := ⟨.hbm, 189, rfl⟩
abbrev main_call9_v4 : Ref sig .tc := ⟨.hbm, 190, rfl⟩
abbrev main_call9_v5 : Ref sig .tc := ⟨.hbm, 191, rfl⟩
abbrev main_v95 : Ref sig .tc := ⟨.hbm, 192, rfl⟩
abbrev main_v96 : Ref sig .tc := ⟨.hbm, 193, rfl⟩
abbrev main_v97 : Ref sig .tc := ⟨.hbm, 194, rfl⟩
abbrev main_v98 : Ref sig .tc := ⟨.hbm, 195, rfl⟩
abbrev main_v99 : Ref sig .tc := ⟨.hbm, 196, rfl⟩
abbrev main_v100 : Ref sig .tc := ⟨.hbm, 197, rfl⟩
abbrev main_v101 : Ref sig .tc := ⟨.hbm, 198, rfl⟩
abbrev main_v102 : Ref sig .tc := ⟨.hbm, 199, rfl⟩
abbrev main_v103 : Ref sig .tc := ⟨.hbm, 200, rfl⟩
abbrev main_v104 : Ref sig .tc := ⟨.hbm, 201, rfl⟩
abbrev main_v105 : Ref sig .tc := ⟨.hbm, 202, rfl⟩
abbrev main_v106 : Ref sig .tc := ⟨.hbm, 203, rfl⟩
abbrev main_v107 : Ref sig .tc := ⟨.hbm, 204, rfl⟩
abbrev main_v108 : Ref sig .tc := ⟨.hbm, 205, rfl⟩
abbrev main_call10_v0 : Ref sig .tc := ⟨.hbm, 206, rfl⟩
abbrev main_call10_v1 : Ref sig .tc := ⟨.hbm, 207, rfl⟩
abbrev main_call10_cst : Ref sig .tc := ⟨.hbm, 208, rfl⟩
abbrev main_call10_v2 : Ref sig .tc := ⟨.hbm, 209, rfl⟩
abbrev main_call10_v3 : Ref sig .tc := ⟨.hbm, 210, rfl⟩
abbrev main_call10_cst_0 : Ref sig .tc := ⟨.hbm, 211, rfl⟩
abbrev main_call10_v4 : Ref sig .tc := ⟨.hbm, 212, rfl⟩
abbrev main_call10_v5 : Ref sig .tc := ⟨.hbm, 213, rfl⟩
abbrev main_v109 : Ref sig .tc := ⟨.hbm, 214, rfl⟩
abbrev main_v110 : Ref sig .tc := ⟨.hbm, 215, rfl⟩
abbrev main_v111 : Ref sig .tc := ⟨.hbm, 216, rfl⟩
abbrev main_v112 : Ref sig .tc := ⟨.hbm, 217, rfl⟩
abbrev main_v113 : Ref sig .tc := ⟨.hbm, 218, rfl⟩
abbrev main_v114 : Ref sig .tc := ⟨.hbm, 219, rfl⟩
abbrev main_v115 : Ref sig .tc := ⟨.hbm, 220, rfl⟩
abbrev main_v116 : Ref sig .tc := ⟨.hbm, 221, rfl⟩
abbrev main_v117 : Ref sig .tc := ⟨.hbm, 222, rfl⟩
abbrev main_v118 : Ref sig .tc := ⟨.hbm, 223, rfl⟩
abbrev main_v119 : Ref sig .tc := ⟨.hbm, 224, rfl⟩
abbrev main_v120 : Ref sig .tc := ⟨.hbm, 225, rfl⟩
abbrev main_v121 : Ref sig .tc := ⟨.hbm, 226, rfl⟩
abbrev main_v122 : Ref sig .tc := ⟨.hbm, 227, rfl⟩
abbrev main_call11_v0 : Ref sig .tc := ⟨.hbm, 228, rfl⟩
abbrev main_call11_v1 : Ref sig .tc := ⟨.hbm, 229, rfl⟩
abbrev main_call11_cst : Ref sig .tc := ⟨.hbm, 230, rfl⟩
abbrev main_call11_v2 : Ref sig .tc := ⟨.hbm, 231, rfl⟩
abbrev main_call11_v3 : Ref sig .tc := ⟨.hbm, 232, rfl⟩
abbrev main_call11_cst_0 : Ref sig .tc := ⟨.hbm, 233, rfl⟩
abbrev main_call11_v4 : Ref sig .tc := ⟨.hbm, 234, rfl⟩
abbrev main_call11_v5 : Ref sig .tc := ⟨.hbm, 235, rfl⟩
abbrev main_v123 : Ref sig .tc := ⟨.hbm, 236, rfl⟩
abbrev main_v124 : Ref sig .tc := ⟨.hbm, 237, rfl⟩
abbrev main_v125 : Ref sig .tc := ⟨.hbm, 238, rfl⟩
abbrev main_v126 : Ref sig .tc := ⟨.hbm, 239, rfl⟩
abbrev main_v127 : Ref sig .tc := ⟨.hbm, 240, rfl⟩
abbrev main_v128 : Ref sig .tc := ⟨.hbm, 241, rfl⟩
abbrev main_v129 : Ref sig .tc := ⟨.hbm, 242, rfl⟩

abbrev nD : Nat := 1
abbrev τ : Topo := Topo.v7x

variable {F : FTy → Type} [FloatOps F]
-- ==== Proof.Ret.Recur.lean ====
module

public import Idealize.ShloMosaic.Init
public import Idealize.ShloMosaic.PureOps.Ideal

@[expose] public section

/-!
The decayed recurrence of one retention head over the reals, for chunks of any length, and the
extended reals that are real numbers.
-/

noncomputable section

namespace Cert.Recur

open Finset

/-! ## The recurrence -/

/-- What a decayed sum holds after `n` tokens: each token's term, decayed once per later token. -/
def St (γ : ℝ) (w : ℕ → ℝ) (n : ℕ) : ℝ := ∑ s ∈ range n, γ ^ (n - 1 - s) * w s

/-- One token's output: every token up to it, weighed by its key against the query and decayed by the distance. -/
def Out {D : ℕ} (γ : ℝ) (q k : ℕ → Fin D → ℝ) (v : ℕ → ℝ) (t : ℕ) : ℝ :=
  ∑ s ∈ range (t + 1), γ ^ (t - s) * ((∑ d, q t d * k s d) * v s)

theorem St_zero (γ : ℝ) (w : ℕ → ℝ) : St γ w 0 = 0 := by simp [St]

/-- A chunk of `C` tokens: the state decays by `γ ^ C` and takes the chunk's terms. -/
theorem St_chunk (γ : ℝ) (w : ℕ → ℝ) (n C : ℕ) :
    St γ w (n + C) = St γ w n * γ ^ C + ∑ j : Fin C, γ ^ (C - 1 - (j : ℕ)) * w (n + j) := by
  unfold St
  rw [Finset.sum_range_add, Finset.sum_mul, Finset.sum_range (fun x => γ ^ (n + C - 1 - (n + x)) * w (n + x))]
  congr 1
  · refine Finset.sum_congr rfl fun s hs => ?_
    have hs := Finset.mem_range.mp hs
    rw [show n + C - 1 - s = (n - 1 - s) + C by omega, pow_add]
    ring
  · refine Finset.sum_congr rfl fun j _ => ?_
    have := j.isLt
    rw [show n + C - 1 - (n + (j : ℕ)) = C - 1 - j by omega]

/-- Token `i` of a chunk: the chunk's own tokens up to it, and the state before the chunk decayed `i + 1` times. -/
theorem Out_chunk {D : ℕ} (γ : ℝ) (q k : ℕ → Fin D → ℝ) (v : ℕ → ℝ) (n C i : ℕ) (hi : i < C) :
    Out γ q k v (n + i)
      = ∑ j : Fin C, ((∑ d, q (n + i) d * k (n + j) d) * (if (j : ℕ) ≤ i then γ ^ (i - (j : ℕ)) else 0)) * v (n + j)
        + ∑ d, q (n + i) d * γ ^ (i + 1) * St γ (fun s => k s d * v s) n := by
  unfold Out
  rw [show n + i + 1 = n + (i + 1) by omega, Finset.sum_range_add, add_comm]
  congr 1
  · rw [← Finset.sum_range (fun x => ((∑ d, q (n + i) d * k (n + x) d) * (if x ≤ i then γ ^ (i - x) else 0)) * v (n + x))]
    refine Finset.sum_subset_zero_on_sdiff (fun x hx => ?_) (fun x hx => ?_) (fun x hx => ?_)
    · rw [Finset.mem_range] at hx ⊢; omega
    · rw [Finset.mem_sdiff, Finset.mem_range, Finset.mem_range] at hx
      rw [if_neg (by omega)]; ring
    · rw [Finset.mem_range] at hx
      rw [if_pos (by omega), show n + i - (n + x) = i - x by omega]; ring
  · unfold St
    simp only [Finset.mul_sum, Finset.sum_mul]
    rw [Finset.sum_comm]
    refine Finset.sum_congr rfl fun d _ => Finset.sum_congr rfl fun s hs => ?_
    have hs := Finset.mem_range.mp hs
    rw [show n + i - s = (n - 1 - s) + (i + 1) by omega, pow_add]
    ring

/-! ## Real extended reals -/

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The extended real is a real number. -/
def IsR (x : EReal) : Prop := ∃ r : ℝ, x = r

theorem IsR.coe (r : ℝ) : IsR (r : EReal) := ⟨r, rfl⟩
theorem IsR.zero : IsR 0 := ⟨0, rfl⟩
theorem IsR.one : IsR 1 := ⟨1, rfl⟩
theorem IsR.add {x y : EReal} : IsR x → IsR y → IsR (x + y) := by
  rintro ⟨a, rfl⟩ ⟨b, rfl⟩; exact ⟨a + b, (EReal.coe_add a b).symm⟩
theorem IsR.mul {x y : EReal} : IsR x → IsR y → IsR (x * y) := by
  rintro ⟨a, rfl⟩ ⟨b, rfl⟩; exact ⟨a * b, (EReal.coe_mul a b).symm⟩
theorem IsR.sub {x y : EReal} : IsR x → IsR y → IsR (x - y) := by
  rintro ⟨a, rfl⟩ ⟨b, rfl⟩; exact ⟨a - b, (EReal.coe_sub a b).symm⟩
theorem IsR.sum {ι : Type} (s : Finset ι) {f : ι → EReal} (h : ∀ i, IsR (f i)) : IsR (∑ i ∈ s, f i) := by
  choose g hg using h
  exact ⟨∑ i ∈ s, g i, by rw [coe_sum]; exact Finset.sum_congr rfl fun i _ => hg i⟩

/-- Division by a real number that is not zero. -/
theorem div_coe (a b : ℝ) (hb : b ≠ 0) : Idealize.ShloMosaic.Ideal.div (a : EReal) (b : EReal) = ((a / b : ℝ) : EReal) := by
  unfold Idealize.ShloMosaic.Ideal.div
  rw [if_neg (by exact_mod_cast hb), ← EReal.coe_inv, ← EReal.coe_mul, div_eq_mul_inv]

theorem rsqrt_coe (a : ℝ) (ha : 0 < a) : Idealize.ShloMosaic.Ideal.rsqrt (a : EReal) = (((Real.sqrt a)⁻¹ : ℝ) : EReal) := by
  unfold Idealize.ShloMosaic.Ideal.rsqrt
  show (if a < 0 then ⊥ else if a = 0 then ⊤ else (((Real.sqrt a)⁻¹ : ℝ) : EReal)) = _
  rw [if_neg (not_lt.mpr ha.le), if_neg ha.ne']

theorem IsR.cos {x : EReal} : IsR x → IsR (Idealize.ShloMosaic.Ideal.cos x) := by
  rintro ⟨a, rfl⟩; exact ⟨Real.cos a, rfl⟩
theorem IsR.sin {x : EReal} : IsR x → IsR (Idealize.ShloMosaic.Ideal.sin x) := by
  rintro ⟨a, rfl⟩; exact ⟨Real.sin a, rfl⟩

end Cert.Recur

end
-- ==== Proof.Ret.Spec.lean ====
/- The retention sub-layer at an index, over the extended reals: the modulated norm, the projection, the rotated queries
   and keys, the values and the gate. Both programs are read into these. -/
module

public import Idealize.ShloMosaic.Lib.Pipeline.ValueKit
public import proofs.«01_k».proof.Proof.Ret.Recur

@[expose] public section

noncomputable section

namespace Cert.Spec

open Idealize.ShloMosaic Cert.Recur

abbrev A3 (a b c : ℕ) := (⟨3, ![a, b, c]⟩ : Shape).Idx → EReal
abbrev A2 (a b : ℕ) := (⟨2, ![a, b]⟩ : Shape).Idx → EReal
abbrev A1 (a : ℕ) := (⟨1, ![a]⟩ : Shape).Idx → EReal

/-- The small term under the square root, 1e-6 as the programs hold it. -/
def eps : EReal := Ideal.ofBits .f32 0x358637BD#32

variable (X : A3 8 4096 1024) (P : (⟨2, ![8, 4096]⟩ : Shape).Idx → BitVec 32) (M : A2 8 6144) (G : A1 1024)
  (W : A2 1024 6144) (O : A2 2048 1024)

/-- The modulated norm of token `t` of sequence `b`. -/
def hE (b : Fin 8) (t : Fin 4096) (i : Fin 1024) : EReal :=
  X (ix3 b t i) * Ideal.rsqrt (Ideal.div (∑ k : Fin 1024, X (ix3 b t k) * X (ix3 b t k)) (Ideal.ofBits .f32 0x44800000#32) + eps) * G (ix1 i)
    * (1 + M (ix2 b ⟨1024 + i.val, by omega⟩)) + M (ix2 b ⟨i.val, by omega⟩)

/-- The projection's column `j`. -/
def pE (b : Fin 8) (t : Fin 4096) (j : Fin 6144) : EReal := ∑ i : Fin 1024, hE X M G b t i * W (ix2 i j)

/-- The frequency of pair `r`. -/
def freq (r : Fin 128) : EReal :=
  Ideal.div 1 (Ideal.pow (Ideal.ofBits .f32 0x461C4000#32)
    (Ideal.div (Ideal.ofBits .f32 0x40000000#32 * FloatOps.sitofp (F := Ideal) .f32 (BitVec.ofNat 32 r.val))
      (Ideal.ofBits .f32 0x43800000#32)))

/-- The angle of pair `r` at token `t`. -/
def ang (b : Fin 8) (t : Fin 4096) (r : Fin 128) : EReal := FloatOps.sitofp (F := Ideal) .f32 (P (ix2 b t)) * freq r

/-- Lane `d` of head `h`'s rotation of the 1024 columns from `off` on. -/
def ropeE (off : ℕ) (ho : off + 1024 ≤ 6144) (b : Fin 8) (t : Fin 4096) (h : Fin 4) (d : Fin 256) : EReal :=
  if hd : d.val < 128 then
    pE X M G W b t ⟨off + (h.val * 256 + d.val), by omega⟩ * Ideal.cos (ang P b t ⟨d.val, hd⟩)
      - pE X M G W b t ⟨off + (h.val * 256 + (128 + d.val)), by omega⟩ * Ideal.sin (ang P b t ⟨d.val, hd⟩)
  else
    pE X M G W b t ⟨off + (h.val * 256 + (128 + (d.val - 128))), by omega⟩ * Ideal.cos (ang P b t ⟨d.val - 128, by omega⟩)
      + pE X M G W b t ⟨off + (h.val * 256 + (d.val - 128)), by omega⟩ * Ideal.sin (ang P b t ⟨d.val - 128, by omega⟩)

def qE (b : Fin 8) (t : Fin 4096) (h : Fin 4) (d : Fin 256) : EReal := ropeE X P M G W 0 (by omega) b t h d
def kE (b : Fin 8) (t : Fin 4096) (h : Fin 4) (d : Fin 256) : EReal :=
  ropeE X P M G W 1024 (by omega) b t h d * Ideal.ofBits .f32 0x3D800000#32
def vE (b : Fin 8) (t : Fin 4096) (h : Fin 4) (e : Fin 512) : EReal := pE X M G W b t ⟨2048 + (h.val * 512 + e.val), by omega⟩

theorem pE_congr (b : Fin 8) (t t' : Fin 4096) (j j' : Fin 6144) (ht : t.val = t'.val) (hj : j.val = j'.val) :
    pE X M G W b t j = pE X M G W b t' j' := by
  rw [Fin.ext ht, Fin.ext hj]

end Cert.Spec

end
-- ==== Proof.Ret.Tab.lean ====
/- The decay tables over the extended reals: powers of each head's decay, as the programs compute them. -/
module

public import Idealize.ShloMosaic.Lib.Pipeline.ValueKit
public import proofs.«01_k».proof.Proof.Ret.Spec

@[expose] public section

noncomputable section

namespace Cert.Tab

open Idealize.ShloMosaic Cert.Recur

/-- Head `h`'s decay per token. -/
def γ (h : Fin 4) : ℝ := 1 - (1 / 2) ^ (5 + h.val)

theorem γ_pos (h : Fin 4) : 0 < γ h := by
  unfold γ
  have : ((1 : ℝ) / 2) ^ (5 + h.val) < 1 := pow_lt_one₀ (by norm_num) (by norm_num) (by omega)
  linarith

theorem sit (n : ℕ) (hn : n < 2147483648) : FloatOps.sitofp (F := Ideal) .f32 (BitVec.ofNat 32 n) = ((n : ℝ) : EReal) := by
  show (((BitVec.ofNat 32 n).toInt : ℝ) : EReal) = _
  have e : (BitVec.ofNat 32 n).toNat = n := by rw [BitVec.toNat_ofNat, Nat.mod_eq_of_lt (by omega)]
  rw [BitVec.toInt_eq_toNat_of_lt (by omega), e]
  simp

/-- The logarithm of head `h`'s decay, as the programs compute it. -/
def lg (h : Fin 4) : EReal :=
  Ideal.log1p (-(Ideal.pow (Ideal.ofBits .f32 0x40000000#32)
    (Ideal.ofBits .f32 0xC0A00000#32 - FloatOps.sitofp (F := Ideal) .f32 (BitVec.ofNat 32 h.val))))

theorem two : Ideal.ofBits .f32 0x40000000#32 = ((2 : ℝ) : EReal) := by
  simp [Ideal.ofBits, Ideal.ieee, -EReal.coe_mul]; norm_num
theorem negFive : Ideal.ofBits .f32 0xC0A00000#32 = ((-5 : ℝ) : EReal) := by
  simp [Ideal.ofBits, Ideal.ieee, -EReal.coe_mul]; norm_num
theorem c127 : Ideal.ofBits .f32 0x42FE0000#32 = ((127 : ℝ) : EReal) := by
  simp [Ideal.ofBits, Ideal.ieee, -EReal.coe_mul]; norm_num
theorem c128 : Ideal.ofBits .f32 0x43000000#32 = ((128 : ℝ) : EReal) := by
  simp [Ideal.ofBits, Ideal.ieee, -EReal.coe_mul]; norm_num
theorem c255 : Ideal.ofBits .f32 0x437F0000#32 = ((255 : ℝ) : EReal) := by
  simp [Ideal.ofBits, Ideal.ieee, -EReal.coe_mul]; norm_num
theorem c1024 : Ideal.ofBits .f32 0x44800000#32 = ((1024 : ℝ) : EReal) := by
  simp [Ideal.ofBits, Ideal.ieee, -EReal.coe_mul]; norm_num
theorem c256 : Ideal.ofBits .f32 0x43800000#32 = ((256 : ℝ) : EReal) := by
  simp [Ideal.ofBits, Ideal.ieee, -EReal.coe_mul]; norm_num
theorem c10000 : Ideal.ofBits .f32 0x461C4000#32 = ((10000 : ℝ) : EReal) := by
  simp [Ideal.ofBits, Ideal.ieee, -EReal.coe_mul]; norm_num
theorem c16 : Ideal.ofBits .f32 0x3D800000#32 = ((1 / 16 : ℝ) : EReal) := by
  simp [Ideal.ofBits, Ideal.ieee, -EReal.coe_mul]; norm_num
theorem ceps : ∃ e : ℝ, 0 < e ∧ Cert.Spec.eps = (e : EReal) := by
  refine ⟨8796093 / 8796093022208, by norm_num, ?_⟩
  simp [Cert.Spec.eps, Ideal.ofBits, Ideal.ieee, -EReal.coe_mul]; norm_num

theorem lg_eq (h : Fin 4) : lg h = ((Real.log (γ h) : ℝ) : EReal) := by
  unfold lg
  rw [two, negFive, sit h.val (by omega), ← EReal.coe_sub]
  show Ideal.log (1 + -((Real.rpow 2 (-5 - (h.val : ℝ)) : ℝ) : EReal)) = _
  have e : Real.rpow 2 (-5 - (h.val : ℝ)) = (1 / 2) ^ (5 + h.val) := by
    show (2 : ℝ) ^ (-5 - (h.val : ℝ)) = _
    rw [show (-5 - (h.val : ℝ)) = -((5 + h.val : ℕ) : ℝ) by push_cast; ring, Real.rpow_neg (by norm_num), Real.rpow_natCast]
    rw [one_div, inv_pow]
  rw [e, ← EReal.coe_neg, ← EReal.coe_one, ← EReal.coe_add]
  show (if (1 + -(1 / 2) ^ (5 + h.val) : ℝ) ≤ 0 then (⊥ : EReal) else ((Real.log (1 + -(1 / 2) ^ (5 + h.val)) : ℝ) : EReal)) = _
  have p : (1 + -(1 / 2) ^ (5 + h.val) : ℝ) = γ h := by unfold γ; ring
  rw [p, if_neg (not_le.mpr (γ_pos h))]

theorem pw (h : Fin 4) (n : ℕ) : Ideal.exp (lg h * ((n : ℝ) : EReal)) = ((γ h ^ n : ℝ) : EReal) := by
  rw [lg_eq, ← EReal.coe_mul]
  show ((Real.exp (Real.log (γ h) * n) : ℝ) : EReal) = _
  rw [mul_comm, Real.exp_nat_mul, Real.exp_log (γ_pos h)]

/-- Decayed `i + 1` times. -/
theorem xi_pw (h : Fin 4) (i : ℕ) (hi : i < 256) :
    Ideal.exp (lg h * (FloatOps.sitofp (F := Ideal) .f32 (BitVec.ofNat 32 i) + 1)) = ((γ h ^ (i + 1) : ℝ) : EReal) := by
  rw [sit i (by omega), ← pw, ← EReal.coe_one, ← EReal.coe_add]; push_cast; rfl

/-- Decayed once per later token of the chunk. -/
theorem zeta_pw (h : Fin 4) (C i : ℕ) (hi : i ≤ C) (hC : C < 256) :
    Ideal.exp (lg h * (((C : ℝ) : EReal) - FloatOps.sitofp (F := Ideal) .f32 (BitVec.ofNat 32 i))) = ((γ h ^ (C - i) : ℝ) : EReal) := by
  rw [sit i (by omega), ← pw, ← EReal.coe_sub, Nat.cast_sub hi]

/-- The distance between two tokens, decayed, and none forward. -/
theorem intra_pw (h : Fin 4) (t s : ℕ) (ht : t < 256) (hs : s < 256) :
    (if (0 : EReal) ≤ FloatOps.sitofp (F := Ideal) .f32 (BitVec.ofNat 32 t) - FloatOps.sitofp (F := Ideal) .f32 (BitVec.ofNat 32 s) then
      Ideal.exp (lg h * max (FloatOps.sitofp (F := Ideal) .f32 (BitVec.ofNat 32 t) - FloatOps.sitofp (F := Ideal) .f32 (BitVec.ofNat 32 s)) 0) else (0 : EReal))
      = ((if s ≤ t then γ h ^ (t - s) else 0 : ℝ) : EReal) := by
  rw [sit t (by omega), sit s (by omega), ← EReal.coe_sub]
  by_cases hst : s ≤ t
  · have e : (0 : EReal) ≤ ((t - s : ℝ) : EReal) := by
      rw [← EReal.coe_zero, EReal.coe_le_coe_iff]
      have : (s : ℝ) ≤ t := by exact_mod_cast hst
      linarith
    rw [if_pos e, if_pos hst, max_eq_left e, ← pw, Nat.cast_sub hst]
  · have e : ¬ (0 : EReal) ≤ ((t - s : ℝ) : EReal) := by
      rw [← EReal.coe_zero, EReal.coe_le_coe_iff]
      have : (t : ℝ) < s := by exact_mod_cast (not_le.mp hst)
      intro h0; linarith
    rw [if_neg e, if_neg hst, EReal.coe_zero]

end Cert.Tab

end
-- ==== Proof.Ret.Chunk.lean ====
/- The retention's value: the recurrence over the extended reals, a chunk of it in the two orders of multiplication, and
   the finite inputs under which its terms are real. -/
module

public import Idealize.ShloMosaic.Lib.Pipeline.ValueKit
public import proofs.«01_k».proof.Proof.Ret.Tab

@[expose] public section

noncomputable section

namespace Cert.Chunk

open Idealize.ShloMosaic Cert.Recur Cert.Spec Cert.Tab

/-! ## A chunk -/

section Coe
variable {D : ℕ} (g : ℝ) (q k : ℕ → Fin D → ℝ) (v : ℕ → ℝ) (n C : ℕ)

theorem st_left (d : Fin D) :
    ((St g (fun s => k s d * v s) n : ℝ) : EReal) * ((g ^ C : ℝ) : EReal)
      + ∑ i : Fin C, (((k (n + i.val) d : ℝ) : EReal) * ((g ^ (C - 1 - i.val) : ℝ) : EReal)) * ((v (n + i.val) : ℝ) : EReal)
      = ((St g (fun s => k s d * v s) (n + C) : ℝ) : EReal) := by
  rw [St_chunk]
  simp only [← EReal.coe_mul, ← coe_sum, ← EReal.coe_add]
  congr 2
  refine Finset.sum_congr rfl fun i _ => by ring

theorem st_right (d : Fin D) :
    ((St g (fun s => k s d * v s) n : ℝ) : EReal) * ((g ^ C : ℝ) : EReal)
      + ∑ i : Fin C, ((k (n + i.val) d : ℝ) : EReal) * (((v (n + i.val) : ℝ) : EReal) * ((g ^ (C - 1 - i.val) : ℝ) : EReal))
      = ((St g (fun s => k s d * v s) (n + C) : ℝ) : EReal) := by
  rw [← st_left]
  simp only [← EReal.coe_mul, ← coe_sum, ← EReal.coe_add]
  congr 2
  refine Finset.sum_congr rfl fun i _ => by ring

theorem out_left (i : Fin C) :
    (∑ x : Fin C, ((∑ d : Fin D, ((q (n + i.val) d : ℝ) : EReal) * ((k (n + x.val) d : ℝ) : EReal))
        * ((if x.val ≤ i.val then g ^ (i.val - x.val) else 0 : ℝ) : EReal)) * ((v (n + x.val) : ℝ) : EReal))
      + ∑ d : Fin D, (((q (n + i.val) d : ℝ) : EReal) * ((g ^ (i.val + 1) : ℝ) : EReal)) * ((St g (fun s => k s d * v s) n : ℝ) : EReal)
      = ((Out g q k v (n + i.val) : ℝ) : EReal) := by
  rw [Out_chunk g q k v n C i.val i.isLt]
  simp only [← EReal.coe_mul, ← coe_sum, ← EReal.coe_add]

theorem out_right (i : Fin C) :
    (∑ x : Fin C, ((∑ d : Fin D, ((q (n + i.val) d : ℝ) : EReal) * ((k (n + x.val) d : ℝ) : EReal))
        * ((if x.val ≤ i.val then g ^ (i.val - x.val) else 0 : ℝ) : EReal)) * ((v (n + x.val) : ℝ) : EReal))
      + (∑ d : Fin D, ((q (n + i.val) d : ℝ) : EReal) * ((St g (fun s => k s d * v s) n : ℝ) : EReal)) * ((g ^ (i.val + 1) : ℝ) : EReal)
      = ((Out g q k v (n + i.val) : ℝ) : EReal) := by
  rw [← out_left]
  simp only [← EReal.coe_mul, ← coe_sum, ← EReal.coe_add]
  congr 2
  rw [Finset.sum_mul]
  refine Finset.sum_congr rfl fun i _ => by ring

end Coe

/-! ## The value -/

variable (X : A3 8 4096 1024) (P : (⟨2, ![8, 4096]⟩ : Shape).Idx → BitVec 32) (M : A2 8 6144) (G : A1 1024)
  (W : A2 1024 6144) (O : A2 2048 1024)

/-- A row of extended reals as real numbers. -/
def rl (f : Fin 4096 → EReal) (n : ℕ) : ℝ := if h : n < 4096 then (f ⟨n, h⟩).toReal else 0

theorem rl_eq (f : Fin 4096 → EReal) (t : Fin 4096) (hf : IsR (f t)) : ((rl f t.val : ℝ) : EReal) = f t := by
  obtain ⟨r, hr⟩ := hf
  unfold rl
  rw [dif_pos t.isLt]
  show (((f t).toReal : ℝ) : EReal) = f t
  rw [hr, EReal.toReal_coe]

def qR (b : Fin 8) (h : Fin 4) (n : ℕ) (d : Fin 256) : ℝ := rl (fun t => qE X P M G W b t h d) n
def kR (b : Fin 8) (h : Fin 4) (n : ℕ) (d : Fin 256) : ℝ := rl (fun t => kE X P M G W b t h d) n
def vR (b : Fin 8) (h : Fin 4) (e : Fin 512) (n : ℕ) : ℝ := rl (fun t => vE X M G W b t h e) n

/-- The state of head `h` after `n` tokens. -/
def sE (b : Fin 8) (n : ℕ) (h : Fin 4) (d : Fin 256) (e : Fin 512) : EReal :=
  ((St (γ h) (fun s => kR X P M G W b h s d * vR X M G W b h e s) n : ℝ) : EReal)

/-- Head `h`'s output at token `t`. -/
def oE (b : Fin 8) (t : ℕ) (h : Fin 4) (e : Fin 512) : EReal :=
  ((Out (γ h) (qR X P M G W b h) (kR X P M G W b h) (vR X M G W b h e) t : ℝ) : EReal)

/-- Lane `e` of head `h`, normalised over the head's lanes and gated. -/
def gE (b : Fin 8) (t : Fin 4096) (h : Fin 4) (e : Fin 512) (p : EReal) : EReal :=
  oE X P M G W b t.val h e * Ideal.rsqrt (Ideal.div (∑ z : Fin 512, oE X P M G W b t.val h z * oE X P M G W b t.val h z)
    (Ideal.ofBits .f32 0x44000000#32) + eps) * (p * Ideal.logistic p)

/-- The sub-layer's result. -/
def outE (b : Fin 8) (t : Fin 4096) (i : Fin 1024) : EReal :=
  X (ix3 b t i) + M (ix2 b ⟨2048 + i.val, by omega⟩) * ∑ z : Fin 2048,
    gE X P M G W b t ⟨z.val / 512, by omega⟩ ⟨z.val % 512, by omega⟩ (pE X M G W b t ⟨4096 + z.val, by omega⟩) * O (ix2 z i)

/-! ## Finite inputs -/

/-- The arrays the retention's terms are made of hold real numbers. -/
structure Fin4 : Prop where
  x : ∀ i, IsR (X i)
  m : ∀ i, IsR (M i)
  g : ∀ i, IsR (G i)
  w : ∀ i, IsR (W i)

variable {X M G W}

theorem Fin4.hid (H : Fin4 X M G W) (b : Fin 8) (t : Fin 4096) (i : Fin 1024) : IsR (hE X M G b t i) := by
  unfold hE
  choose x hx using H.x
  have hs : ∑ k : Fin 1024, X (ix3 b t k) * X (ix3 b t k) = ((∑ k : Fin 1024, x (ix3 b t k) * x (ix3 b t k) : ℝ) : EReal) := by
    rw [coe_sum]
    exact Finset.sum_congr rfl fun k _ => by rw [hx, EReal.coe_mul]
  obtain ⟨e, he, hee⟩ := ceps
  have hp : 0 < (∑ k : Fin 1024, x (ix3 b t k) * x (ix3 b t k)) / 1024 + e := by
    have : 0 ≤ ∑ k : Fin 1024, x (ix3 b t k) * x (ix3 b t k) := Finset.sum_nonneg fun k _ => mul_self_nonneg _
    positivity
  rw [hs, c1024, div_coe _ _ (by norm_num), hee, ← EReal.coe_add, rsqrt_coe _ hp]
  exact ((((H.x _).mul (IsR.coe _)).mul (H.g _)).mul (IsR.one.add (H.m _))).add (H.m _)

theorem Fin4.proj (H : Fin4 X M G W) (b : Fin 8) (t : Fin 4096) (j : Fin 6144) : IsR (pE X M G W b t j) :=
  IsR.sum _ fun i => (H.hid b t i).mul (H.w _)

theorem freq_isR (r : Fin 128) : IsR (freq r) := by
  unfold freq
  rw [two, c256, c10000, sit r.val (by omega), ← EReal.coe_mul, div_coe _ _ (by norm_num)]
  show IsR (Ideal.div 1 ((Real.rpow 10000 (2 * (r.val : ℝ) / 256) : ℝ) : EReal))
  rw [← EReal.coe_one, div_coe _ _ (show Real.rpow 10000 (2 * (r.val : ℝ) / 256) ≠ 0 from (Real.rpow_pos_of_pos (by norm_num) _).ne')]
  exact IsR.coe _

theorem ang_isR (b : Fin 8) (t : Fin 4096) (r : Fin 128) : IsR (ang P b t r) :=
  (IsR.coe _).mul (freq_isR r)

theorem Fin4.rope (H : Fin4 X M G W) (off : ℕ) (ho : off + 1024 ≤ 6144) (b : Fin 8) (t : Fin 4096) (h : Fin 4) (d : Fin 256) :
    IsR (ropeE X P M G W off ho b t h d) := by
  unfold ropeE
  split
  · exact ((H.proj _ _ _).mul (ang_isR P b t _).cos).sub ((H.proj _ _ _).mul (ang_isR P b t _).sin)
  · exact ((H.proj _ _ _).mul (ang_isR P b t _).cos).add ((H.proj _ _ _).mul (ang_isR P b t _).sin)

theorem Fin4.q (H : Fin4 X M G W) (b : Fin 8) (t : Fin 4096) (h : Fin 4) (d : Fin 256) :
    qE X P M G W b t h d = ((qR X P M G W b h t.val d : ℝ) : EReal) :=
  (rl_eq (fun t => qE X P M G W b t h d) t (H.rope P 0 _ b t h d)).symm

theorem Fin4.k (H : Fin4 X M G W) (b : Fin 8) (t : Fin 4096) (h : Fin 4) (d : Fin 256) :
    kE X P M G W b t h d = ((kR X P M G W b h t.val d : ℝ) : EReal) :=
  (rl_eq (fun t => kE X P M G W b t h d) t ((H.rope P 1024 _ b t h d).mul (c16 ▸ IsR.coe _))).symm

theorem Fin4.v (H : Fin4 X M G W) (b : Fin 8) (t : Fin 4096) (h : Fin 4) (e : Fin 512) :
    vE X M G W b t h e = ((vR X M G W b h e t.val : ℝ) : EReal) :=
  (rl_eq (fun t => vE X M G W b t h e) t (H.proj b t _)).symm

end Cert.Chunk

end
-- ==== Proof.Ret.Finite.lean ====
/- The precondition read element by element: what the recurrence is computed from are real numbers. -/
module

public import proofs.«01_k».proof.Pre_finite
public import proofs.«01_k».proof.Proof.Ret.Chunk

@[expose] public section

noncomputable section

namespace Cert.Finite

open Idealize.ShloMosaic Cert.Recur Cert.Spec Cert.Chunk

/-- The side conditions of the precondition's broadcasts. -/
theorem facts : Cert.Pre_finite.Facts where
  bcast_S_S8x4096x1024 := by decide
  bcast_S_S8x6144 := by decide
  bcast_S_S1024 := by decide
  bcast_S_S1024x6144 := by decide

theorem top : Ideal.ofBits .f32 0x7F800000#32 = (⊤ : EReal) := by
  simp [Ideal.ofBits, Ideal.ieee]

/-- An extended real whose absolute value compares less than the word of infinity is a real number. -/
theorem real_of_lt (x : EReal) (h : Ideal.cmp .olt (max x (-x)) (Ideal.ofBits .f32 0x7F800000#32) = 1#1) : IsR x := by
  rw [top] at h
  induction x with
  | coe r => exact ⟨r, rfl⟩
  | bot => simp [Ideal.cmp] at h
  | top => simp [Ideal.cmp] at h

theorem fin4 [Cert.Pre_finite.Facts] (X : A3 8 4096 1024) (P : (⟨2, ![8, 4096]⟩ : Shape).Idx → BitVec 32) (M : A2 8 6144) (G : A1 1024)
    (W : A2 1024 6144) (O : A2 2048 1024)
    (h0 : (Cert.Pre_finite.fn (F := Ideal) X P M G W O).1 = fun _ => 1#1)
    (h1 : (Cert.Pre_finite.fn (F := Ideal) X P M G W O).2.1 = fun _ => 1#1)
    (h2 : (Cert.Pre_finite.fn (F := Ideal) X P M G W O).2.2.1 = fun _ => 1#1)
    (h3 : (Cert.Pre_finite.fn (F := Ideal) X P M G W O).2.2.2 = fun _ => 1#1) : Fin4 X M G W where
  x i := real_of_lt _ (congrFun h0 i)
  m i := real_of_lt _ (congrFun h1 i)
  g i := real_of_lt _ (congrFun h2 i)
  w i := real_of_lt _ (congrFun h3 i)

end Cert.Finite

end
-- ==== Proof.Ret.Kern.lean ====
/- One chunk of 256 tokens of the kernel, head by head, as functions of the tiles it loads; and their values at an index. -/
module

public import Idealize.ShloMosaic.Lib.Pipeline.ValueKit
public import proofs.«01_k».proof.Proof.Ret.Spec
public import proofs.«01_k».proof.Proof.Gen.RetentionIdeal.Skeleton

@[expose] public section

set_option maxRecDepth 16384

noncomputable section

namespace Cert.Kern

open Idealize.ShloMosaic Cert.RetentionIdeal Cert.RetentionIdeal.Gen

section Any

variable {F : FTy → Type} [FloatOps F]

/-- A head's 256 columns of the projection, rotated. -/
def rot (H : Vec F S256x1024 .bf16) (C S : Vec F S256x128 .f32) (w : Vec F S1024x256 .bf16) : Vec F S256x256 .f32 :=
  let p : Vec F S256x256 .f32 := matmul dot_S256x1024_S1024x256_S256x256_1_0_0_1_n_n none H
    (shapeCast S1024x256 w shapeCasts_S1024x256_S1024x256 : Vec F S1024x256 .bf16) (constant S256x256 .f32 0x00000000#32)
  let lo : Vec F S256x128 .f32 := extractStridedSlice S256x128 ![0, 0] p slices_S256x256_o0_0_S256x128
  let hi : Vec F S256x128 .f32 := extractStridedSlice S256x128 ![0, 128] p slices_S256x256_o0_128_S256x128
  concatenate S256x256 1 [⟨S256x128, (subf (mulf lo C) (mulf hi S) : Vec F S256x128 .f32)⟩,
    ⟨S256x128, (addf (mulf hi C) (mulf lo S) : Vec F S256x128 .f32)⟩] concatenates_S256x128_S256x128_S256x256_d1

/-- The keys: rotated and scaled by 1/16. -/
def key (H : Vec F S256x1024 .bf16) (C S : Vec F S256x128 .f32) (w : Vec F S1024x256 .bf16) : Vec F S256x256 .f32 :=
  mulf (rot H C S w) (broadcast S256x256 (Scalar.ofBits .f32 0x3D800000#32))

/-- As stored. -/
def sto (p : Vec F S256x256 .f32) : Vec F S256x256 .bf16 :=
  shapeCast S256x256 (truncf .bf16 p bitsLt_bf16_f32 : Vec F S256x256 .bf16) shapeCasts_S256x256_S256x256

/-- Scaled lane by lane and stored. -/
def sca (p z : Vec F S256x256 .f32) : Vec F S256x256 .bf16 :=
  sto (mulf p (shapeCast S256x256 z shapeCasts_S256x256_S256x256 : Vec F S256x256 .f32))

/-- A head's 512 columns of the projection. -/
def pro (H : Vec F S256x1024 .bf16) (w : Vec F S1024x512 .bf16) : Vec F S256x512 .f32 :=
  matmul dot_S256x1024_S1024x512_S256x512_1_0_0_1_n_n none H
    (shapeCast S1024x512 w shapeCasts_S1024x512_S1024x512 : Vec F S1024x512 .bf16) (constant S256x512 .f32 0x00000000#32)

def sto5 (p : Vec F S256x512 .f32) : Vec F S256x512 .bf16 :=
  shapeCast S256x512 (truncf .bf16 p bitsLt_bf16_f32 : Vec F S256x512 .bf16) shapeCasts_S256x512_S256x512

def gate (H : Vec F S256x1024 .bf16) (w : Vec F S1024x512 .bf16) : Vec F S256x512 .bf16 :=
  sto5 (mulf (pro H w) (logistic (pro H w)))

/-- The decayed scores of a chunk against itself. -/
def sco (q k : Vec F S256x256 .bf16) (n : Vec F S1x256x256 .f32) : Vec F S256x256 .bf16 :=
  truncf .bf16 (mulf (matmul dot_S256x256_S256x256_S256x256_1_1_0_0_n_n none q k (constant S256x256 .f32 0x00000000#32))
    (shapeCast S256x256 n shapeCasts_S1x256x256_S256x256 : Vec F S256x256 .f32)) bitsLt_bf16_f32

def st2 (st : Vec F S1x256x512 .f32) : Vec F S256x512 .f32 := shapeCast S256x512 st shapeCasts_S1x256x512_S256x512

/-- A head's output before the norm. -/
def raw (v : Vec F S256x512 .bf16) (s : Vec F S256x256 .bf16) (st : Vec F S1x256x512 .f32) (q : Vec F S256x256 .bf16) :
    Vec F S256x512 .f32 :=
  addf (matmul dot_S256x256_S256x512_S256x512_1_0_0_1_n_n none s v (constant S256x512 .f32 0x00000000#32))
    (matmul dot_S256x256_S256x512_S256x512_1_0_0_1_n_n none q (truncf .bf16 (st2 st) bitsLt_bf16_f32 : Vec F S256x512 .bf16)
      (constant S256x512 .f32 0x00000000#32))

/-- The state after the chunk. -/
def nxt (d : F .f32) (v : Vec F S256x512 .bf16) (st : Vec F S1x256x512 .f32) (k : Vec F S256x256 .bf16) : Vec F S1x256x512 .f32 :=
  shapeCast S1x256x512 (addf (mulf (st2 st) (broadcast S256x512 d))
    (matmul dot_S256x256_S256x512_S256x512_0_0_1_1_n_n none k v (constant S256x512 .f32 0x00000000#32)) : Vec F S256x512 .f32)
    shapeCasts_S256x512_S1x256x512

/-- Normalised over the head's 512 lanes and gated. -/
def nrm (o : Vec F S256x512 .f32) (g : Vec F S256x512 .bf16) : Vec F S256x512 .bf16 :=
  shapeCast S256x512 (mulf (truncf .bf16 (mulf o (broadcastTo S256x512 (rsqrt (addf (divf
    (shapeCast S256x1 (multiReduction .add [1] S256 (mulf o o) 0x00000000#32 reduces_S256x512_S256 (.inl rfl) rfl : Vec F S256 .f32)
      shapeCasts_S256_S256x1 : Vec F S256x1 .f32)
    (broadcast S256x1 (Scalar.ofBits .f32 0x44000000#32))) (broadcast S256x1 (Scalar.ofBits .f32 0x358637BD#32))) : Vec F S256x1 .f32)
    broadcasts_S256x1_S256x512 : Vec F S256x512 .f32)) bitsLt_bf16_f32 : Vec F S256x512 .bf16) g : Vec F S256x512 .bf16)
    shapeCasts_S256x512_S256x512

/-- The chunk's output rows. -/
def res (M : Vec F S1x6x1024 .f32) (X : Vec F S1x256x1024 .f32) (o : Vec F S256x2048 .bf16) (w : Vec F S2048x1024 .bf16) :
    Vec F S1x256x1024 .f32 :=
  k0_pay66 (k0_pay3 M) (k0_pay4 X) o w

end Any

open Cert.Recur Cert.Spec

theorem rot_ix (H : Vec Ideal S256x1024 .bf16) (C S : Vec Ideal S256x128 .f32) (w : Vec Ideal S1024x256 .bf16)
    (i : Fin 256) (d : Fin 256) : rot H C S w (ix2 i d) =
      if hd : d.val < 128 then
        (∑ k : Fin 1024, H (ix2 i k) * w (ix2 k d)) * C (ix2 i ⟨d.val, hd⟩)
          - (∑ k : Fin 1024, H (ix2 i k) * w (ix2 k ⟨128 + d.val, by omega⟩)) * S (ix2 i ⟨d.val, hd⟩)
      else (∑ k : Fin 1024, H (ix2 i k) * w (ix2 k ⟨128 + (d.val - 128), by omega⟩)) * C (ix2 i ⟨d.val - 128, by omega⟩)
          + (∑ k : Fin 1024, H (ix2 i k) * w (ix2 k ⟨d.val - 128, by omega⟩)) * S (ix2 i ⟨d.val - 128, by omega⟩) := by
  unfold rot
  pointwise

theorem sca_ix (p z : Vec Ideal S256x256 .f32) (i d : Fin 256) : sca p z (ix2 i d) = p (ix2 i d) * z (ix2 i d) := by
  unfold sca sto
  pointwise

theorem sto_ix (p : Vec Ideal S256x256 .f32) (i d : Fin 256) : sto p (ix2 i d) = p (ix2 i d) := by
  unfold sto
  pointwise

theorem key_ix (H : Vec Ideal S256x1024 .bf16) (C S : Vec Ideal S256x128 .f32) (w : Vec Ideal S1024x256 .bf16)
    (i : Fin 256) (d : Fin 256) : key H C S w (ix2 i d) = rot H C S w (ix2 i d) * Ideal.ofBits .f32 0x3D800000#32 := by
  unfold key
  pointwise

theorem pro_ix (H : Vec Ideal S256x1024 .bf16) (w : Vec Ideal S1024x512 .bf16) (i : Fin 256) (e : Fin 512) :
    pro H w (ix2 i e) = ∑ k : Fin 1024, H (ix2 i k) * w (ix2 k e) := by
  unfold pro
  pointwise

theorem sto5_ix (p : Vec Ideal S256x512 .f32) (i : Fin 256) (e : Fin 512) : sto5 p (ix2 i e) = p (ix2 i e) := by
  unfold sto5
  pointwise

theorem gate_ix (H : Vec Ideal S256x1024 .bf16) (w : Vec Ideal S1024x512 .bf16) (i : Fin 256) (e : Fin 512) :
    gate H w (ix2 i e) = pro H w (ix2 i e) * Ideal.logistic (pro H w (ix2 i e)) := by
  unfold gate sto5
  pointwise

theorem raw_ix (v : Vec Ideal S256x512 .bf16) (q k x : Vec Ideal S256x256 .bf16) (n : Vec Ideal S1x256x256 .f32)
    (st : Vec Ideal S1x256x512 .f32) (i : Fin 256) (e : Fin 512) :
    raw v (sco q k n) st x (ix2 i e) =
      (∑ s : Fin 256, ((∑ d : Fin 256, q (ix2 i d) * k (ix2 s d)) * n (ix3 0 i s)) * v (ix2 s e))
        + ∑ d : Fin 256, x (ix2 i d) * st (ix3 0 d e) := by
  unfold raw sco st2
  pointwise

theorem nxt_ix (c : EReal) (v : Vec Ideal S256x512 .bf16) (k : Vec Ideal S256x256 .bf16) (st : Vec Ideal S1x256x512 .f32)
    (d : Fin 256) (e : Fin 512) : nxt (F := Ideal) c v st k (ix3 0 d e) =
      st (ix3 0 d e) * c + ∑ s : Fin 256, k (ix2 s d) * v (ix2 s e) := by
  unfold nxt st2
  pointwise

theorem nrm_ix (o : Vec Ideal S256x512 .f32) (g : Vec Ideal S256x512 .bf16) (i : Fin 256) (e : Fin 512) :
    nrm o g (ix2 i e) = o (ix2 i e) * Ideal.rsqrt (Ideal.div (∑ z : Fin 512, o (ix2 i z) * o (ix2 i z))
      (Ideal.ofBits .f32 0x44000000#32) + eps) * g (ix2 i e) := by
  unfold nrm
  pointwise
  rfl

theorem res_ix (M : Vec Ideal S1x6x1024 .f32) (X : Vec Ideal S1x256x1024 .f32) (o : Vec Ideal S256x2048 .bf16)
    (w : Vec Ideal S2048x1024 .bf16) (i : Fin 256) (k : Fin 1024) :
    res M X o w (ix3 0 i k) = X (ix3 0 i k) + M (ix3 0 2 k) * ∑ z : Fin 2048, o (ix2 i z) * w (ix2 z k) := by
  unfold res k0_pay66 k0_pay3 k0_pay4
  pointwise

theorem hid_ix (M : Vec Ideal S1x6x1024 .f32) (X : Vec Ideal S1x256x1024 .f32) (g : Vec Ideal S1x1024 .f32) (i : Fin 256) (k : Fin 1024) :
    k0_pay5 M X g (ix2 i k) = X (ix3 0 i k) * Ideal.rsqrt (Ideal.div (∑ z : Fin 1024, X (ix3 0 i z) * X (ix3 0 i z))
      (Ideal.ofBits .f32 0x44800000#32) + eps) * g (ix2 0 k) * (1 + M (ix3 0 1 k)) + M (ix3 0 0 k) := by
  unfold k0_pay5 k0_pay3 k0_pay4
  pointwise
  rfl

theorem ang_ix (P : Vec Ideal S1x256x1 .i32) (f : Vec Ideal S1x128 .f32) (i : Fin 256) (r : Fin 128) :
    k0_pay6 (F := Ideal) P f (ix2 i r) = FloatOps.sitofp (F := Ideal) .f32 (P (ix3 0 i 0)) * f (ix2 0 r) := by
  unfold k0_pay6
  pointwise

end Cert.Kern

end
-- ==== Proof.Ret.Point.lean ====
/- A chunk of the kernel on tiles that hold what the layer's arrays hold: the head's state moves on by 256 tokens, and the
   head's lanes are the normalised, gated outputs of those tokens. -/
module

public import Idealize.ShloMosaic.Lib.Pipeline.ValueKit
public import Idealize.ShloMosaic.Lib.Pipeline.ReadBack
public import proofs.«01_k».proof.Proof.Ret.Chunk
public import proofs.«01_k».proof.Proof.Ret.Kern

@[expose] public section

set_option maxRecDepth 16384

noncomputable section

namespace Cert.Point

open Idealize.ShloMosaic Cert.Recur Cert.Spec Cert.Tab Cert.Chunk Cert.Kern Cert.RetentionIdeal Cert.RetentionIdeal.Gen

/-- Head `h`'s 256 columns of the weights from `off` on. -/
def IsW (W : A2 1024 6144) (h : Fin 4) (off : ℕ) (ho : off + 1024 ≤ 6144) (w : S1024x256.Idx → EReal) : Prop :=
  ∀ k d, w (ix2 k d) = W (ix2 k ⟨off + (h.val * 256 + d.val), by omega⟩)
/-- Head `h`'s 512 columns of the weights from `off` on. -/
def IsV (W : A2 1024 6144) (h : Fin 4) (off : ℕ) (ho : off + 2048 ≤ 6144) (w : S1024x512.Idx → EReal) : Prop :=
  ∀ k e, w (ix2 k e) = W (ix2 k ⟨off + (h.val * 512 + e.val), by omega⟩)

variable (X : A3 8 4096 1024) (P : (⟨2, ![8, 4096]⟩ : Shape).Idx → BitVec 32) (M : A2 8 6144) (G : A1 1024)
  (W : A2 1024 6144) (O : A2 2048 1024) (b : Fin 8) (n : ℕ) (hn : n + 256 ≤ 4096) (h : Fin 4)

/-- Token `i` of the chunk that starts at `n`. -/
def tk (i : Fin 256) : Fin 4096 := ⟨n + i.val, by omega⟩

/-! ## What the tiles hold -/

def IsH (H : S256x1024.Idx → EReal) : Prop := ∀ i k, H (ix2 i k) = hE X M G b (tk n hn i) k
def IsA (A : S256x128.Idx → EReal) : Prop := ∀ i r, A (ix2 i r) = ang P b (tk n hn i) r
def IsC (C : S256x128.Idx → EReal) : Prop := ∀ i r, C (ix2 i r) = Ideal.cos (ang P b (tk n hn i) r)
def IsS (C : S256x128.Idx → EReal) : Prop := ∀ i r, C (ix2 i r) = Ideal.sin (ang P b (tk n hn i) r)
def IsXi (z : S256x256.Idx → EReal) : Prop := ∀ i d, z (ix2 i d) = ((γ h ^ (i.val + 1) : ℝ) : EReal)
def IsZeta (z : S256x256.Idx → EReal) : Prop := ∀ i d, z (ix2 i d) = ((γ h ^ (255 - i.val) : ℝ) : EReal)
def IsN (z : S1x256x256.Idx → EReal) : Prop :=
  ∀ i s, z (ix3 0 i s) = ((if s.val ≤ i.val then γ h ^ (i.val - s.val) else 0 : ℝ) : EReal)
def IsSt (st : S1x256x512.Idx → EReal) : Prop := ∀ d e, st (ix3 0 d e) = sE X P M G W b n h d e
/-- The stored queries, the queries decayed, the keys, the keys decayed, the values. -/
def IsQ (q : S256x256.Idx → EReal) : Prop := ∀ i d, q (ix2 i d) = ((qR X P M G W b h (n + i.val) d : ℝ) : EReal)
def IsQx (q : S256x256.Idx → EReal) : Prop :=
  ∀ i d, q (ix2 i d) = ((qR X P M G W b h (n + i.val) d : ℝ) : EReal) * ((γ h ^ (i.val + 1) : ℝ) : EReal)
def IsK (k : S256x256.Idx → EReal) : Prop := ∀ i d, k (ix2 i d) = ((kR X P M G W b h (n + i.val) d : ℝ) : EReal)
def IsKz (k : S256x256.Idx → EReal) : Prop :=
  ∀ i d, k (ix2 i d) = ((kR X P M G W b h (n + i.val) d : ℝ) : EReal) * ((γ h ^ (255 - i.val) : ℝ) : EReal)
def IsVal (v : S256x512.Idx → EReal) : Prop := ∀ i e, v (ix2 i e) = ((vR X M G W b h e (n + i.val) : ℝ) : EReal)
def IsG (g : S256x512.Idx → EReal) : Prop := ∀ i e, g (ix2 i e) =
  pE X M G W b (tk n hn i) ⟨4096 + (h.val * 512 + e.val), by omega⟩
    * Ideal.logistic (pE X M G W b (tk n hn i) ⟨4096 + (h.val * 512 + e.val), by omega⟩)
def IsOb (o : S256x512.Idx → EReal) : Prop := ∀ i e, o (ix2 i e) =
  gE X P M G W b (tk n hn i) h e (pE X M G W b (tk n hn i) ⟨4096 + (h.val * 512 + e.val), by omega⟩)

variable {X P M G W b n hn h}

theorem IsA.cos {A : S256x128.Idx → EReal} (H : IsA P b n hn A) : IsC P b n hn (k0_pay7 (F := Ideal) A) := fun i r => by
  unfold k0_pay7; pointwise; rw [H i r]
theorem IsA.sin {A : S256x128.Idx → EReal} (H : IsA P b n hn A) : IsS P b n hn (k0_pay8 (F := Ideal) A) := fun i r => by
  unfold k0_pay8; pointwise; rw [H i r]

theorem rot_val {H : Vec Ideal S256x1024 .bf16} {C S : Vec Ideal S256x128 .f32} {w : Vec Ideal S1024x256 .bf16} {off : ℕ}
    {ho : off + 1024 ≤ 6144} (hH : IsH X M G b n hn H) (hC : IsC P b n hn C) (hS : IsS P b n hn S) (hw : IsW W h off ho w)
    (i d : Fin 256) : rot H C S w (ix2 i d) = ropeE X P M G W off ho b (tk n hn i) h d := by
  rw [rot_ix]
  unfold ropeE
  simp only [hH i, hC i, hS i, hw _ _]
  rfl

section Real
variable (R : Fin4 X M G W)
include R

theorem q_val {H : Vec Ideal S256x1024 .bf16} {C S : Vec Ideal S256x128 .f32} {w : Vec Ideal S1024x256 .bf16}
    (hH : IsH X M G b n hn H) (hC : IsC P b n hn C) (hS : IsS P b n hn S) (hw : IsW W h 0 (by omega) w) :
    IsQ X P M G W b n h (sto (rot H C S w)) := fun i d => by
  rw [sto_ix, rot_val hH hC hS hw]
  exact R.q P b (tk n hn i) h d

theorem qx_val {H : Vec Ideal S256x1024 .bf16} {C S : Vec Ideal S256x128 .f32} {w : Vec Ideal S1024x256 .bf16} {z : Vec Ideal S256x256 .f32}
    (hH : IsH X M G b n hn H) (hC : IsC P b n hn C) (hS : IsS P b n hn S) (hw : IsW W h 0 (by omega) w) (hz : IsXi h z) :
    IsQx X P M G W b n h (sca (rot H C S w) z) := fun i d => by
  rw [sca_ix, rot_val hH hC hS hw, hz]
  exact congrArg (· * _) (R.q P b (tk n hn i) h d)

theorem k_val {H : Vec Ideal S256x1024 .bf16} {C S : Vec Ideal S256x128 .f32} {w : Vec Ideal S1024x256 .bf16}
    (hH : IsH X M G b n hn H) (hC : IsC P b n hn C) (hS : IsS P b n hn S) (hw : IsW W h 1024 (by omega) w) :
    IsK X P M G W b n h (sto (key H C S w)) := fun i d => by
  rw [sto_ix, key_ix, rot_val hH hC hS hw]
  exact R.k P b (tk n hn i) h d

theorem kz_val {H : Vec Ideal S256x1024 .bf16} {C S : Vec Ideal S256x128 .f32} {w : Vec Ideal S1024x256 .bf16} {z : Vec Ideal S256x256 .f32}
    (hH : IsH X M G b n hn H) (hC : IsC P b n hn C) (hS : IsS P b n hn S) (hw : IsW W h 1024 (by omega) w) (hz : IsZeta h z) :
    IsKz X P M G W b n h (sca (key H C S w) z) := fun i d => by
  rw [sca_ix, key_ix, rot_val hH hC hS hw, hz]
  exact congrArg (· * _) (R.k P b (tk n hn i) h d)

theorem v_val {H : Vec Ideal S256x1024 .bf16} {w : Vec Ideal S1024x512 .bf16} (hH : IsH X M G b n hn H)
    (hw : IsV W h 2048 (by omega) w) : IsVal X M G W b n h (sto5 (pro H w)) := fun i e => by
  rw [sto5_ix, pro_ix]
  simp only [hH i, hw _ _]
  exact R.v b (tk n hn i) h e

omit R in
theorem g_val {H : Vec Ideal S256x1024 .bf16} {w : Vec Ideal S1024x512 .bf16} (hH : IsH X M G b n hn H)
    (hw : IsV W h 4096 (by omega) w) : IsG X M G W b n hn h (gate H w) := fun i e => by
  rw [gate_ix, pro_ix]
  simp only [hH i, hw _ _]
  rfl

omit R in
theorem nxt_val {d : EReal} {v : Vec Ideal S256x512 .bf16} {k : Vec Ideal S256x256 .bf16} {st : Vec Ideal S1x256x512 .f32}
    (hd : d = ((γ h ^ 256 : ℝ) : EReal)) (hv : IsVal X M G W b n h v) (hst : IsSt X P M G W b n h st)
    (hk : IsKz X P M G W b n h k) : IsSt X P M G W b (n + 256) h (nxt (F := Ideal) d v st k) := fun a e => by
  rw [nxt_ix, hd, hst]
  simp only [hk _ _, hv _ _]
  exact st_left (γ h) (kR X P M G W b h) (vR X M G W b h e) n 256 a

omit R in
theorem raw_val {q k x : Vec Ideal S256x256 .bf16} {v : Vec Ideal S256x512 .bf16} {z : Vec Ideal S1x256x256 .f32} {st : Vec Ideal S1x256x512 .f32}
    (hv : IsVal X M G W b n h v) (hq : IsQ X P M G W b n h q) (hk : IsK X P M G W b n h k) (hz : IsN h z)
    (hst : IsSt X P M G W b n h st) (hx : IsQx X P M G W b n h x) (i : Fin 256) (e : Fin 512) :
    raw v (sco q k z) st x (ix2 i e) = oE X P M G W b (n + i.val) h e := by
  rw [raw_ix]
  simp only [hq _ _, hk _ _, hz _ _, hv _ _, hst _ _, hx _ _]
  exact out_left (γ h) (qR X P M G W b h) (kR X P M G W b h) (vR X M G W b h e) n 256 i

omit R in
theorem ob_val {q k x : Vec Ideal S256x256 .bf16} {v g : Vec Ideal S256x512 .bf16} {z : Vec Ideal S1x256x256 .f32} {st : Vec Ideal S1x256x512 .f32}
    (hv : IsVal X M G W b n h v) (hq : IsQ X P M G W b n h q) (hk : IsK X P M G W b n h k) (hz : IsN h z)
    (hst : IsSt X P M G W b n h st) (hx : IsQx X P M G W b n h x) (hg : IsG X M G W b n hn h g) :
    IsOb X P M G W b n hn h (nrm (raw v (sco q k z) st x) g) := fun i e => by
  rw [nrm_ix, hg]
  simp only [raw_val hv hq hk hz hst hx]
  rfl

end Real

/-! ## Stores -/

/-- A head's state, stored at its place. -/
theorem st_piece (n : ℕ) (h : Fin 4) (inb) (w : S1x256x512.Idx → EReal) (hw : IsSt X P M G W b n h w) (x : S1x256x512.Idx) :
    w x = sE X P M G W b n (((Rect.unit (s := S4x256x512) ![h.val, 0, 0] S1x256x512.size inb).emb x) 0)
      (((Rect.unit (s := S4x256x512) ![h.val, 0, 0] S1x256x512.size inb).emb x) 1)
      (((Rect.unit (s := S4x256x512) ![h.val, 0, 0] S1x256x512.size inb).emb x) 2) := by
  obtain ⟨a, d, e, rfl⟩ : ∃ (a : Fin 1) (d : Fin 256) (e : Fin 512), x = ix3 a d e := ⟨x 0, x 1, x 2, eq_ix3 x⟩
  obtain rfl : a = 0 := Subsingleton.elim _ _
  rw [hw d e]
  congr 1
  all_goals (apply Fin.ext; show _ = _ + 1 * _; simp)

end Cert.Point

end
-- ==== Proof.Ret.Blocks.lean ====
/- The kernel's input blocks at a grid point, read at an index: the token blocks of the arguments, and the tables the host makes. -/
module

public import Idealize.ShloMosaic.Lib.Pipeline.ValueKit
public import Idealize.ShloMosaic.Lib.Claim
public import proofs.«01_k».proof.Proof.Ret.Tab
public import proofs.«01_k».proof.Proof.Ret.Spec
public import proofs.«01_k».proof.Proof.Gen.RetentionIdeal.Frame

@[expose] public section

set_option maxRecDepth 16384

noncomputable section

namespace Cert.Blocks

open Idealize.ShloMosaic Idealize.ShloMosaic.TcCoe Cert.Spec Cert.Tab Cert.RetentionIdeal Cert.RetentionIdeal.Gen

variable (m : (ℓ : Loc nD τ sig) → Buf (Elt Ideal) ℓ) (c : Dev nD)

/-- Every window's block index at every point (decided). -/
theorem idx : ∀ t : Fin cfg0.N, win0_0.index t = ![t.val / 8, t.val % 8, 0] ∧ win0_1.index t = ![t.val / 8, t.val % 8, 0]
    ∧ win0_2.index t = ![t.val / 8, 0, 0] ∧ win0_3.index t = ![0, 0] ∧ win0_4.index t = ![0, 0] ∧ win0_5.index t = ![0, 0]
    ∧ win0_6.index t = ![0, 0] ∧ win0_7.index t = ![0, 0, 0] ∧ win0_8.index t = ![0, 0] ∧ win0_9.index t = ![0, 0]
    ∧ win0_10.index t = ![t.val / 8, t.val % 8, 0] :=
  (by decide +kernel : ∀ t : Fin grid0.N, _)

theorem lt (t : Fin cfg0.N) : t.val < 64 := lt_of_lt_of_eq t.isLt (by decide +kernel)

/-- The batch row and the first token of a point. -/
def row (t : Fin cfg0.N) : Fin 8 := ⟨t.val / 8, by have := lt t; omega⟩
def off (t : Fin cfg0.N) : ℕ := t.val % 8 * 512

theorem x_at (t : Fin cfg0.N) (r : Fin 512) (k : Fin 1024) :
    (iblk m c 0 t : S1x512x1024.Idx → EReal) (ix3 0 r k)
      = (m ((c : Thread nD τ).loc main_arg0) : S8x4096x1024.Idx → EReal) (ix3 (row t) ⟨off t + r.val, by unfold off; omega⟩ k) := by
  unfold row off
  blk_ext [iblk, V, idx t]

theorem pos_at (t : Fin cfg0.N) (r : Fin 512) :
    (iblk m c 1 t : S1x512x1.Idx → BitVec 32) (ix3 0 r 0)
      = (m ((c : Thread nD τ).loc main_arg1) : S8x4096.Idx → BitVec 32) (ix2 (row t) ⟨off t + r.val, by unfold off; omega⟩) := by
  refine (show iblk m c 1 t (ix3 0 r 0) = V m c main_v58 (ix3 (row t) ⟨off t + r.val, by unfold off; omega⟩ 0) from by
    unfold row off; blk_ext [iblk, idx t]).trans ?_
  simp only [V, hostOps0, hostOps0_1, hostOps0_2, List.flatten_cons, List.flatten_nil, List.cons_append, List.nil_append, List.append_nil]
  entry_read
  pointwise

theorem mod_at (t : Fin cfg0.N) (a : Fin 6) (k : Fin 1024) :
    (iblk m c 2 t : S1x6x1024.Idx → EReal) (ix3 0 a k)
      = (m ((c : Thread nD τ).loc main_arg2) : S8x6144.Idx → EReal) (ix2 (row t) ⟨a.val * 1024 + k.val, by omega⟩) := by
  refine (show iblk m c 2 t (ix3 0 a k) = V m c main_v0 (ix3 (row t) a k) from by
    unfold row; blk_ext [iblk, idx t]).trans ?_
  simp only [V, hostOps0, hostOps0_1, hostOps0_2, List.flatten_cons, List.flatten_nil, List.cons_append, List.nil_append, List.append_nil]
  entry_read
  pointwise

theorem g_at (t : Fin cfg0.N) (k : Fin 1024) :
    (iblk m c 3 t : S1x1024.Idx → EReal) (ix2 0 k) = (m ((c : Thread nD τ).loc main_arg3) : S1024.Idx → EReal) (ix1 k) := by
  refine (show iblk m c 3 t (ix2 0 k) = V m c main_v59 (ix2 0 k) from by
    blk_ext [iblk, idx t]).trans ?_
  simp only [V, hostOps0, hostOps0_1, hostOps0_2, List.flatten_cons, List.flatten_nil, List.cons_append, List.nil_append, List.append_nil]
  entry_read
  pointwise

theorem w_in_at (t : Fin cfg0.N) (k : Fin 1024) (j : Fin 6144) :
    (iblk m c 5 t : S1024x6144.Idx → EReal) (ix2 k j) = (m ((c : Thread nD τ).loc main_arg4) : S1024x6144.Idx → EReal) (ix2 k j) := by
  blk_ext [iblk, V, idx t]

theorem w_out_at (t : Fin cfg0.N) (k : Fin 2048) (j : Fin 1024) :
    (iblk m c 6 t : S2048x1024.Idx → EReal) (ix2 k j) = (m ((c : Thread nD τ).loc main_arg5) : S2048x1024.Idx → EReal) (ix2 k j) := by
  blk_ext [iblk, V, idx t]

theorem freq_at (t : Fin cfg0.N) (r : Fin 128) : (iblk m c 4 t : S1x128.Idx → EReal) (ix2 0 r) = freq r := by
  refine (show iblk m c 4 t (ix2 0 r) = V m c main_v60 (ix2 0 r) from by
    blk_ext [iblk, idx t]).trans ?_
  simp only [V, hostOps0, hostOps0_1, hostOps0_2, List.flatten_cons, List.flatten_nil, List.cons_append, List.nil_append, List.append_nil]
  entry_read
  pointwise
  rfl

theorem intra_at (t : Fin cfg0.N) (h : Fin 4) (i s : Fin 256) : (iblk m c 7 t : S4x256x256.Idx → EReal) (ix3 h i s)
    = ((if s.val ≤ i.val then γ h ^ (i.val - s.val) else 0 : ℝ) : EReal) := by
  refine (show iblk m c 7 t (ix3 h i s) = V m c main_v24 (ix3 h i s) from by
    blk_ext [iblk, idx t]).trans ?_
  simp only [V, hostOps0, hostOps0_1, hostOps0_2, List.flatten_cons, List.flatten_nil, List.cons_append, List.nil_append, List.append_nil]
  entry_read
  simp only [StableHlo.TRef.ofBuf_toBuf]
  change (select (broadcastInDim (s := S256x256) S4x256x256 ![1, 2] bcast_S256x256_S4x256x256_1_2 (cmpf (F := Ideal) (φ := .f32) CmpFPredicate.oge _ _)) (Host.exp (F := Ideal) (s := S4x256x256) (φ := .f32) _ : FVec Ideal S4x256x256 .f32)
    (broadcastInDim S4x256x256 ![] bcast_S_S4x256x256 (constant (F := Ideal) S_ FTy.f32 0#32)) : S4x256x256.Idx → EReal) (ix3 h i s) = _
  pointwise
  exact intra_pw h i.val s.val i.isLt s.isLt

theorem xi_at (t : Fin cfg0.N) (h : Fin 4) (i d : Fin 256) :
    (iblk m c 8 t : S256x1024.Idx → EReal) (ix2 i ⟨h.val * 256 + d.val, by omega⟩) = ((γ h ^ (i.val + 1) : ℝ) : EReal) := by
  refine (show iblk m c 8 t (ix2 i ⟨h.val * 256 + d.val, by omega⟩) = V m c main_v43 (ix2 i ⟨h.val * 256 + d.val, by omega⟩) from by
    blk_ext [iblk, idx t]).trans ?_
  simp only [V, hostOps0, hostOps0_1, hostOps0_2, List.flatten_cons, List.flatten_nil, List.cons_append, List.nil_append, List.append_nil]
  entry_read
  pointwise
  exact xi_pw h i.val i.isLt

theorem zeta_at (t : Fin cfg0.N) (h : Fin 4) (i d : Fin 256) :
    (iblk m c 9 t : S256x1024.Idx → EReal) (ix2 i ⟨h.val * 256 + d.val, by omega⟩) = ((γ h ^ (255 - i.val) : ℝ) : EReal) := by
  refine (show iblk m c 9 t (ix2 i ⟨h.val * 256 + d.val, by omega⟩) = V m c main_v46 (ix2 i ⟨h.val * 256 + d.val, by omega⟩) from by
    blk_ext [iblk, idx t]).trans ?_
  simp only [V, hostOps0, hostOps0_1, hostOps0_2, List.flatten_cons, List.flatten_nil, List.cons_append, List.nil_append, List.append_nil]
  entry_read
  pointwise
  rw [c255]
  exact zeta_pw h 255 i.val (by omega) (by omega)

end Cert.Blocks

end
-- ==== Proof.Ret.Tiles.lean ====
/- One chunk of one head at a grid point, from the blocks the point loads: its state and its gated output. -/
module

public import proofs.«01_k».proof.Proof.Ret.Point
public import proofs.«01_k».proof.Proof.Ret.Blocks

@[expose] public section

set_option maxRecDepth 16384

noncomputable section

namespace Cert.Tiles

open Idealize.ShloMosaic Idealize.ShloMosaic.TcCoe Cert.Recur Cert.Spec Cert.Tab Cert.Chunk Cert.Kern Cert.Point Cert.Blocks
open Cert.RetentionIdeal Cert.RetentionIdeal.Gen

variable (m : (ℓ : Loc nD τ sig) → Buf (Elt Ideal) ℓ) (c : Dev nD) (t : Fin cfg0.N)

abbrev aX : A3 8 4096 1024 := m ((c : Thread nD τ).loc main_arg0)
abbrev aP : (⟨2, ![8, 4096]⟩ : Shape).Idx → BitVec 32 := m ((c : Thread nD τ).loc main_arg1)
abbrev aM : A2 8 6144 := m ((c : Thread nD τ).loc main_arg2)
abbrev aG : A1 1024 := m ((c : Thread nD τ).loc main_arg3)
abbrev aW : A2 1024 6144 := m ((c : Thread nD τ).loc main_arg4)
abbrev aO : A2 2048 1024 := m ((c : Thread nD τ).loc main_arg5)

/-! ## Loads at an index -/

theorem ld2 {A B a' b' : ℕ} {α : Type} (f : (⟨2, ![A, B]⟩ : Shape).Idx → α) (o p : ℕ) (inb) (i : Fin a') (j : Fin b')
    (hi : o + i.val < A) (hj : p + j.val < B) :
    f ((Rect.unit (s := ⟨2, ![A, B]⟩) ![o, p] ![a', b'] inb).emb (ix2 i j)) = f (ix2 ⟨o + i.val, hi⟩ ⟨p + j.val, hj⟩) :=
  congrArg f (funext fun a => Fin.ext (by match a with
    | ⟨0, _⟩ => show _ + 1 * _ = _; simp
    | ⟨1, _⟩ => show _ + 1 * _ = _; simp))

theorem ld3 {A B C a' b' c' : ℕ} {α : Type} (f : (⟨3, ![A, B, C]⟩ : Shape).Idx → α) (o p q : ℕ) (inb) (i : Fin a') (j : Fin b') (k : Fin c')
    (hi : o + i.val < A) (hj : p + j.val < B) (hk : q + k.val < C) :
    f ((Rect.unit (s := ⟨3, ![A, B, C]⟩) ![o, p, q] ![a', b', c'] inb).emb (ix3 i j k))
      = f (ix3 ⟨o + i.val, hi⟩ ⟨p + j.val, hj⟩ ⟨q + k.val, hk⟩) :=
  congrArg f (funext fun a => Fin.ext (by match a with
    | ⟨0, _⟩ => show _ + 1 * _ = _; simp
    | ⟨1, _⟩ => show _ + 1 * _ = _; simp
    | ⟨2, _⟩ => show _ + 1 * _ = _; simp))

theorem f2 {A B : ℕ} {α : Type} (f : (⟨2, ![A, B]⟩ : Shape).Idx → α) {i i' : Fin A} {j j' : Fin B} (hi : i.val = i'.val)
    (hj : j.val = j'.val) : f (ix2 i j) = f (ix2 i' j') := by rw [Fin.ext hi, Fin.ext hj]
theorem f3 {A B C : ℕ} {α : Type} (f : (⟨3, ![A, B, C]⟩ : Shape).Idx → α) {i i' : Fin A} {j j' : Fin B} {k k' : Fin C}
    (hi : i.val = i'.val) (hj : j.val = j'.val) (hk : k.val = k'.val) : f (ix3 i j k) = f (ix3 i' j' k') := by
  rw [Fin.ext hi, Fin.ext hj, Fin.ext hk]

/-! ## The loaded tiles -/

theorem w_tile (h : Fin 4) (off : ℕ) (ho : off + 1024 ≤ 6144) (o : ℕ) (e : o = off + h.val * 256) (inb) :
    IsW (aW m c) h off ho (View.ld (iblk m c 5 t : S1024x6144.Idx → EReal) (Rect.unit (s := S1024x6144) ![0, o] ![1024, 256] inb)) := by
  subst e
  intro k d
  refine (ld2 (iblk m c 5 t : S1024x6144.Idx → EReal) 0 (off + h.val * 256) inb k d (by omega) (by omega)).trans ?_
  refine (w_in_at m c t _ _).trans (f2 (aW m c) ?_ ?_)
  · simp
  · simp; omega

theorem v_tile (h : Fin 4) (off : ℕ) (ho : off + 2048 ≤ 6144) (o : ℕ) (e : o = off + h.val * 512) (inb) :
    IsV (aW m c) h off ho (View.ld (iblk m c 5 t : S1024x6144.Idx → EReal) (Rect.unit (s := S1024x6144) ![0, o] ![1024, 512] inb)) := by
  subst e
  intro k d
  refine (ld2 (iblk m c 5 t : S1024x6144.Idx → EReal) 0 (off + h.val * 512) inb k d (by omega) (by omega)).trans ?_
  refine (w_in_at m c t _ _).trans (f2 (aW m c) ?_ ?_)
  · simp
  · simp; omega

theorem xi_tile (h : Fin 4) (o : ℕ) (e : o = h.val * 256) (inb) :
    IsXi h (View.ld (iblk m c 8 t : S256x1024.Idx → EReal) (Rect.unit (s := S256x1024) ![0, o] ![256, 256] inb)) := by
  subst e
  intro i d
  refine (ld2 (iblk m c 8 t : S256x1024.Idx → EReal) 0 (h.val * 256) inb i d (by omega) (by omega)).trans ?_
  refine Eq.trans (f2 _ ?_ ?_) (xi_at m c t h i d) <;> simp

theorem zeta_tile (h : Fin 4) (o : ℕ) (e : o = h.val * 256) (inb) :
    IsZeta h (View.ld (iblk m c 9 t : S256x1024.Idx → EReal) (Rect.unit (s := S256x1024) ![0, o] ![256, 256] inb)) := by
  subst e
  intro i d
  refine (ld2 (iblk m c 9 t : S256x1024.Idx → EReal) 0 (h.val * 256) inb i d (by omega) (by omega)).trans ?_
  refine Eq.trans (f2 _ ?_ ?_) (zeta_at m c t h i d) <;> simp

theorem intra_tile (h : Fin 4) (o : ℕ) (e : o = h.val) (inb) :
    IsN h (View.ld (iblk m c 7 t : S4x256x256.Idx → EReal) (Rect.unit (s := S4x256x256) ![o, 0, 0] ![1, 256, 256] inb)) := by
  subst e
  intro i s
  refine (ld3 (iblk m c 7 t : S4x256x256.Idx → EReal) h.val 0 0 inb 0 i s (by simp) (by omega) (by omega)).trans ?_
  refine Eq.trans (f3 _ ?_ ?_ ?_) (intra_at m c t h i s) <;> simp

/-- The chunk's first token. -/
abbrev at_ (o : ℕ) : ℕ := off t + o

variable (o : ℕ) (ho : o + 256 ≤ 512)

theorem at_le (ho : o + 256 ≤ 512) : off t + o + 256 ≤ 4096 := by unfold off; omega

theorem x_tile (inb) (i : Fin 256) (k : Fin 1024) :
    View.ld (iblk m c 0 t : S1x512x1024.Idx → EReal) (Rect.unit (s := S1x512x1024) ![0, o, 0] ![1, 256, 1024] inb) (ix3 0 i k)
      = aX m c (ix3 (row t) (tk (off t + o) (at_le t o ho) i) k) := by
  refine (ld3 (iblk m c 0 t : S1x512x1024.Idx → EReal) 0 o 0 inb 0 i k (by simp) (by omega) (by omega)).trans ?_
  refine (f3 _ ?_ rfl ?_).trans ((x_at m c t ⟨o + i.val, by omega⟩ k).trans (f3 _ rfl ?_ rfl))
  · simp
  · simp
  · show off t + (o + i.val) = off t + o + i.val; omega

theorem pos_tile (inb) (i : Fin 256) :
    View.ld (iblk m c 1 t : S1x512x1.Idx → BitVec 32) (Rect.unit (s := S1x512x1) ![0, o, 0] ![1, 256, 1] inb) (ix3 0 i 0)
      = aP m c (ix2 (row t) (tk (off t + o) (at_le t o ho) i)) := by
  refine (ld3 (iblk m c 1 t : S1x512x1.Idx → BitVec 32) 0 o 0 inb 0 i 0 (by simp) (by omega) (by simp)).trans ?_
  refine (f3 _ ?_ rfl ?_).trans ((pos_at m c t ⟨o + i.val, by omega⟩).trans (f2 _ rfl ?_))
  · simp
  · simp
  · show off t + (o + i.val) = off t + o + i.val; omega

theorem h_tile (inb) : IsH (aX m c) (aM m c) (aG m c) (row t) (off t + o) (at_le t o ho)
    (k0_pay5 (F := Ideal) (iblk m c 2 t : S1x6x1024.Idx → EReal)
      (View.ld (iblk m c 0 t : S1x512x1024.Idx → EReal) (Rect.unit (s := S1x512x1024) ![0, o, 0] ![1, 256, 1024] inb))
      (iblk m c 3 t : S1x1024.Idx → EReal)) := fun i k => by
  have e0 : (iblk m c 2 t : S1x6x1024.Idx → EReal) (ix3 0 0 k) = aM m c (ix2 (row t) ⟨k.val, by omega⟩) :=
    (mod_at m c t 0 k).trans (f2 (aM m c) rfl (by show 0 * 1024 + k.val = k.val; omega))
  have e1 : (iblk m c 2 t : S1x6x1024.Idx → EReal) (ix3 0 1 k) = aM m c (ix2 (row t) ⟨1024 + k.val, by omega⟩) :=
    (mod_at m c t 1 k).trans (f2 (aM m c) rfl (by show 1 * 1024 + k.val = 1024 + k.val; omega))
  rw [hid_ix, e0, e1, g_at m c t k]
  simp only [x_tile m c t o ho inb i]
  rfl

theorem a_tile (inb) : IsA (aP m c) (row t) (off t + o) (at_le t o ho)
    (k0_pay6 (F := Ideal) (View.ld (iblk m c 1 t : S1x512x1.Idx → BitVec 32) (Rect.unit (s := S1x512x1) ![0, o, 0] ![1, 256, 1] inb))
      (iblk m c 4 t : S1x128.Idx → EReal)) := fun i r => by
  rw [ang_ix, pos_tile m c t o ho inb i, freq_at m c t r]
  rfl

theorem st_tile {X : A3 8 4096 1024} {P : (⟨2, ![8, 4096]⟩ : Shape).Idx → BitVec 32} {M : A2 8 6144} {G : A1 1024} {W : A2 1024 6144}
    {b : Fin 8} {n : ℕ} (s : S4x256x512.Idx → EReal) (hs : ∀ h d e, s (ix3 h d e) = sE X P M G W b n h d e) (h : Fin 4) (o : ℕ) (e : o = h.val) (inb) :
    IsSt X P M G W b n h (View.ld (Val := Elt Ideal) (e' := .f32) s (Rect.unit (s := S4x256x512) ![o, 0, 0] ![1, 256, 512] inb)) := by
  subst e
  intro d e
  refine (ld3 s h.val 0 0 inb 0 d e (by simp) (by omega) (by omega)).trans ?_
  refine Eq.trans (f3 _ ?_ ?_ ?_) (hs h d e) <;> simp

end Cert.Tiles

end
-- ==== Proof.Ret.Heads.lean ====
/- A head's chunk from the blocks a grid point loads, and what the carried state and the kept outputs hold after the point. -/
module

public import proofs.«01_k».proof.Proof.Ret.Tiles

@[expose] public section

set_option maxRecDepth 16384

noncomputable section

namespace Cert.Heads

open Idealize.ShloMosaic Idealize.ShloMosaic.TcCoe Cert.Recur Cert.Spec Cert.Tab Cert.Chunk Cert.Kern Cert.Point Cert.Blocks Cert.Tiles
open Cert.RetentionIdeal Cert.RetentionIdeal.Gen

variable (m : (ℓ : Loc nD τ sig) → Buf (Elt Ideal) ℓ) (c : Dev nD) (t : Fin cfg0.N)

/-! ## The decays kept by name -/

theorem d0 : Named.named (F := Ideal) κ "decay0" (φ := .f32) 0x399ACCA1#32 = ((γ 0 ^ 256 : ℝ) : EReal) :=
  (IdealRules.named_const.ideal_named_scalar _ _ _ _ rfl).trans (by congr 1; norm_num [γ])
theorem d1 : Named.named (F := Ideal) κ "decay1" (φ := .f32) 0x3C9160A5#32 = ((γ 1 ^ 256 : ℝ) : EReal) :=
  (IdealRules.named_const.ideal_named_scalar _ _ _ _ rfl).trans (by congr 1; norm_num [γ])
theorem d2 : Named.named (F := Ideal) κ "decay2" (φ := .f32) 0x3E097FCE#32 = ((γ 2 ^ 256 : ℝ) : EReal) :=
  (IdealRules.named_const.ideal_named_scalar _ _ _ _ rfl).trans (by congr 1; norm_num [γ])
theorem d3 : Named.named (F := Ideal) κ "decay3" (φ := .f32) 0x3EBBFC5D#32 = ((γ 3 ^ 256 : ℝ) : EReal) :=
  (IdealRules.named_const.ideal_named_scalar _ _ _ _ rfl).trans (by congr 1; norm_num [γ])

/-! ## A head's chunk -/

abbrev KSt (n : ℕ) (h : Fin 4) := IsSt (aX m c) (aP m c) (aM m c) (aG m c) (aW m c) (row t) n h
abbrev KOb (n : ℕ) (hn : n + 256 ≤ 4096) (h : Fin 4) := IsOb (aX m c) (aP m c) (aM m c) (aG m c) (aW m c) (row t) n hn h
/-- The chunk's normed tokens and angles. -/
abbrev tH (o : ℕ) (inb : ∀ a, (![0, o, 0] : Fin S1x512x1024.rank → ℕ) a + (![1, 256, 1024] : Fin S1x512x1024.rank → ℕ) a ≤ S1x512x1024.size a) : Vec Ideal S256x1024 .bf16 := k0_pay5 (F := Ideal) (iblk m c 2 t : S1x6x1024.Idx → EReal)
  (View.ld (iblk m c 0 t : S1x512x1024.Idx → EReal) (Rect.unit (s := S1x512x1024) ![0, o, 0] ![1, 256, 1024] inb))
  (iblk m c 3 t : S1x1024.Idx → EReal)
abbrev tA (o : ℕ) (inb : ∀ a, (![0, o, 0] : Fin S1x512x1.rank → ℕ) a + (![1, 256, 1] : Fin S1x512x1.rank → ℕ) a ≤ S1x512x1.size a) : Vec Ideal S256x128 .f32 :=
  k0_pay6 (F := Ideal) (View.ld (iblk m c 1 t : S1x512x1.Idx → BitVec 32) (Rect.unit (s := S1x512x1) ![0, o, 0] ![1, 256, 1] inb))
    (iblk m c 4 t : S1x128.Idx → EReal)
abbrev tW (o : ℕ) (inb : ∀ a, (![0, o] : Fin S1024x6144.rank → ℕ) a + (![1024, 256] : Fin S1024x6144.rank → ℕ) a ≤ S1024x6144.size a) : Vec Ideal S1024x256 .bf16 :=
  View.ld (iblk m c 5 t : S1024x6144.Idx → EReal) (Rect.unit (s := S1024x6144) ![0, o] ![1024, 256] inb)
abbrev tV (o : ℕ) (inb : ∀ a, (![0, o] : Fin S1024x6144.rank → ℕ) a + (![1024, 512] : Fin S1024x6144.rank → ℕ) a ≤ S1024x6144.size a) : Vec Ideal S1024x512 .bf16 :=
  View.ld (iblk m c 5 t : S1024x6144.Idx → EReal) (Rect.unit (s := S1024x6144) ![0, o] ![1024, 512] inb)
abbrev tXi (o : ℕ) (inb : ∀ a, (![0, o] : Fin S256x1024.rank → ℕ) a + (![256, 256] : Fin S256x1024.rank → ℕ) a ≤ S256x1024.size a) : Vec Ideal S256x256 .f32 :=
  View.ld (iblk m c 8 t : S256x1024.Idx → EReal) (Rect.unit (s := S256x1024) ![0, o] ![256, 256] inb)
abbrev tZe (o : ℕ) (inb : ∀ a, (![0, o] : Fin S256x1024.rank → ℕ) a + (![256, 256] : Fin S256x1024.rank → ℕ) a ≤ S256x1024.size a) : Vec Ideal S256x256 .f32 :=
  View.ld (iblk m c 9 t : S256x1024.Idx → EReal) (Rect.unit (s := S256x1024) ![0, o] ![256, 256] inb)
abbrev tIn (o : ℕ) (inb : ∀ a, (![o, 0, 0] : Fin S4x256x256.rank → ℕ) a + (![1, 256, 256] : Fin S4x256x256.rank → ℕ) a ≤ S4x256x256.size a) : Vec Ideal S1x256x256 .f32 :=
  View.ld (iblk m c 7 t : S4x256x256.Idx → EReal) (Rect.unit (s := S4x256x256) ![o, 0, 0] ![1, 256, 256] inb)

variable (R : Fin4 (aX m c) (aM m c) (aG m c) (aW m c))
include R

/-- The state after the chunk. -/
theorem nxt_head (o : ℕ) (ho : o + 256 ≤ 512) (h : Fin 4) {d : EReal} (hd : d = ((γ h ^ 256 : ℝ) : EReal)) (i0 i1 : _)
    {ov ok oz : ℕ} (ev : ov = 2048 + h.val * 512) (ek : ok = 1024 + h.val * 256) (ez : oz = h.val * 256) (i2 i3 i4 : _)
    {st : Vec Ideal S1x256x512 .f32} (hst : KSt m c t (off t + o) h st) :
    KSt m c t (off t + (o + 256)) h (nxt (F := Ideal) d (sto5 (pro (tH m c t o i0) (tV m c t ov i2))) st
      (sca (key (tH m c t o i0) (k0_pay7 (F := Ideal) (tA m c t o i1)) (k0_pay8 (F := Ideal) (tA m c t o i1)) (tW m c t ok i3)) (tZe m c t oz i4))) := by
  have hA := a_tile m c t o ho i1
  have hH := h_tile m c t o ho i0
  rw [← Nat.add_assoc]
  exact nxt_val hd (v_val R hH (v_tile m c t h 2048 (by omega) ov ev i2)) hst
    (kz_val R hH hA.cos hA.sin (w_tile m c t h 1024 (by omega) ok ek i3) (zeta_tile m c t h oz ez i4))

/-- The chunk's gated outputs. -/
theorem ob_head (o : ℕ) (ho : o + 256 ≤ 512) (h : Fin 4) (i0 i1 : _) {oq ov ok og on : ℕ} (eq : oq = h.val * 256)
    (ek : ok = 1024 + h.val * 256) (ev : ov = 2048 + h.val * 512) (eg : og = 4096 + h.val * 512) (en : on = h.val) (i2 i3 i4 i5 i6 i7 : _)
    {st : Vec Ideal S1x256x512 .f32} (hst : KSt m c t (off t + o) h st) :
    KOb m c t (off t + o) (at_le t o ho) h (nrm (F := Ideal) (raw (sto5 (pro (tH m c t o i0) (tV m c t ov i2)))
      (sco (sto (rot (tH m c t o i0) (k0_pay7 (F := Ideal) (tA m c t o i1)) (k0_pay8 (F := Ideal) (tA m c t o i1)) (tW m c t oq i3)))
        (sto (key (tH m c t o i0) (k0_pay7 (F := Ideal) (tA m c t o i1)) (k0_pay8 (F := Ideal) (tA m c t o i1)) (tW m c t ok i4))) (tIn m c t on i5)) st
      (sca (rot (tH m c t o i0) (k0_pay7 (F := Ideal) (tA m c t o i1)) (k0_pay8 (F := Ideal) (tA m c t o i1)) (tW m c t oq i3)) (tXi m c t oq i6)))
      (gate (tH m c t o i0) (tV m c t og i7))) := by
  have hA := a_tile m c t o ho i1
  have hH := h_tile m c t o ho i0
  have hq := w_tile m c t h 0 (by omega) oq (by omega) i3
  exact ob_val (v_val R hH (v_tile m c t h 2048 (by omega) ov ev i2)) (q_val R hH hA.cos hA.sin hq)
    (k_val R hH hA.cos hA.sin (w_tile m c t h 1024 (by omega) ok ek i4)) (intra_tile m c t h on en i5) hst
    (qx_val R hH hA.cos hA.sin hq (xi_tile m c t h oq eq i6)) (g_val hH (v_tile m c t h 4096 (by omega) og eg i7))

end Cert.Heads

end
-- ==== Proof.Ret.After.lean ====
/- What the carried state holds after every grid point. -/
module

public import proofs.«01_k».proof.Proof.Ret.Heads

@[expose] public section

set_option maxRecDepth 16384

noncomputable section

namespace Cert.After

open Idealize.ShloMosaic Idealize.ShloMosaic.TcCoe Cert.Recur Cert.Spec Cert.Tab Cert.Chunk Cert.Kern Cert.Point Cert.Blocks Cert.Tiles Cert.Heads
open Cert.RetentionIdeal Cert.RetentionIdeal.Gen

variable (m : (ℓ : Loc nD τ sig) → Buf (Elt Ideal) ℓ) (c : Dev nD) (t : Fin cfg0.N)
variable (R : Fin4 (aX m c) (aM m c) (aG m c) (aW m c))

/-- The state of all heads after `n` tokens. -/
abbrev KS (n : ℕ) (s : S4x256x512.Idx → EReal) : Prop :=
  ∀ h d e, s (ix3 h d e) = sE (aX m c) (aP m c) (aM m c) (aG m c) (aW m c) (row t) n h d e

theorem zero (h0 : t.val % 8 = 0) : KS m c t (off t + 0) (k0_pay2 (F := Ideal)) := fun h d e => by
  have : off t + 0 = 0 := by unfold off; omega
  rw [this]
  unfold sE k0_pay2
  rw [St_zero]
  pointwise
  rfl

theorem cover (h : Fin 4) (d : Fin 256) (e : Fin 512) (o : ℕ) (ho : o = h.val) (inb : ∀ a, (![o, 0, 0] : Fin 3 → Nat) a + S1x256x512.size a ≤ S4x256x512.size a) :
    (ix3 h d e : S4x256x512.Idx) ∈ (Rect.unit (s := S4x256x512) ![o, 0, 0] S1x256x512.size inb).set := by
  subst ho
  refine Rect.mem_set_unit.mpr fun a => ?_
  match a with
  | ⟨0, _⟩ => show h.val ≤ h.val ∧ h.val < h.val + 1; omega
  | ⟨1, _⟩ => show 0 ≤ d.val ∧ d.val < 0 + 256; omega
  | ⟨2, _⟩ => show 0 ≤ e.val ∧ e.val < 0 + 512; omega

abbrev stG (n : ℕ) (y : S4x256x512.Idx) : EReal := sE (aX m c) (aP m c) (aM m c) (aG m c) (aW m c) (row t) n (y 0) (y 1) (y 2)

include R in
/-- The state after a point, from the state before it. -/
theorem state (hs : ¬ t.val % 8 = 0 → KS m c t (off t + 0) (outsAt0 m c (t.val - 1) (Nat.lt_of_le_of_lt (Nat.sub_le _ _) t.isLt)).2) :
    KS m c t (off t + (256 + 256)) (outsAt0 m c t.val t.isLt).2 := fun h d e => by
  have cov : ∀ {A B C D : View.Piece (Elt Ideal) S4x256x512 .f32} (i3 i2 i1 i0),
      A.1 = Rect.unit (s := S4x256x512) ![3, 0, 0] S1x256x512.size i3 → B.1 = Rect.unit (s := S4x256x512) ![2, 0, 0] S1x256x512.size i2 →
      C.1 = Rect.unit (s := S4x256x512) ![1, 0, 0] S1x256x512.size i1 → D.1 = Rect.unit (s := S4x256x512) ![0, 0, 0] S1x256x512.size i0 →
      ∃ p ∈ [A, B, C, D], (ix3 h d e : S4x256x512.Idx) ∈ p.1.set := by
    intro A B C D i3 i2 i1 i0 hA hB hC hD
    match h with
    | 3 => exact ⟨A, by simp, by rw [hA]; exact cover 3 d e 3 rfl _⟩
    | 2 => exact ⟨B, by simp, by rw [hB]; exact cover 2 d e 2 rfl _⟩
    | 1 => exact ⟨C, by simp, by rw [hC]; exact cover 1 d e 1 rfl _⟩
    | 0 => exact ⟨D, by simp, by rw [hD]; exact cover 0 d e 0 rfl _⟩
  by_cases h0 : t.val % 8 = 0
  · have hs := zero m c t h0
    rw [outsAt0_A m c t h0]
    frame_open
    simp (disch := decide) only [↓ View.readCov_skip, ↓ View.readCov_cons_toLoadRect, ↓ View.readCov_fill]
    frame_out
    refine (View.canon_append_of_piecesOf (stG m c t (off t + (256 + 256))) _ [_, _, _, _] ⟨?_, ?_, ?_, ?_, trivial⟩ (ix3 h d e)
      (cov inb_S4x256x512_S1x256x512_3_0_0 inb_S4x256x512_S1x256x512_2_0_0 inb_S4x256x512_S1x256x512_1_0_0
        inb_S4x256x512_S1x256x512_0_0_0 rfl rfl rfl rfl)).trans rfl
    · exact st_piece _ 3 inb_S4x256x512_S1x256x512_3_0_0 _ (nxt_head m c t R 256 (by omega) 3 d3 _ _ rfl rfl rfl _ _ _ (nxt_head m c t R 0 (by omega) 3 d3 _ _ rfl rfl rfl _ _ _ (st_tile _ hs 3 3 rfl _)))
    · exact st_piece _ 2 inb_S4x256x512_S1x256x512_2_0_0 _ (nxt_head m c t R 256 (by omega) 2 d2 _ _ rfl rfl rfl _ _ _ (nxt_head m c t R 0 (by omega) 2 d2 _ _ rfl rfl rfl _ _ _ (st_tile _ hs 2 2 rfl _)))
    · exact st_piece _ 1 inb_S4x256x512_S1x256x512_1_0_0 _ (nxt_head m c t R 256 (by omega) 1 d1 _ _ rfl rfl rfl _ _ _ (nxt_head m c t R 0 (by omega) 1 d1 _ _ rfl rfl rfl _ _ _ (st_tile _ hs 1 1 rfl _)))
    · exact st_piece _ 0 inb_S4x256x512_S1x256x512_0_0_0 _ (nxt_head m c t R 256 (by omega) 0 d0 _ _ rfl rfl rfl _ _ _ (nxt_head m c t R 0 (by omega) 0 d0 _ _ rfl rfl rfl _ _ _ (st_tile _ hs 0 0 rfl _)))
  · have hs := hs h0
    rw [← read_unread_whole (Val := Elt Ideal) cc0_scratch0 (Memref.isWhole_whole _) (outsAt0 m c (t.val - 1) _).2] at hs
    rw [outsAt0_B m c t h0]
    frame_open
    simp (disch := decide) only [↓ View.readCov_skip, ↓ View.readCov_cons_toLoadRect, ↓ View.readCov_fill]
    frame_out
    refine (View.canon_append_of_piecesOf (stG m c t (off t + (256 + 256))) _ [_, _, _, _] ⟨?_, ?_, ?_, ?_, trivial⟩ (ix3 h d e)
      (cov inb_S4x256x512_S1x256x512_3_0_0 inb_S4x256x512_S1x256x512_2_0_0 inb_S4x256x512_S1x256x512_1_0_0
        inb_S4x256x512_S1x256x512_0_0_0 rfl rfl rfl rfl)).trans rfl
    · exact st_piece _ 3 inb_S4x256x512_S1x256x512_3_0_0 _ (nxt_head m c t R 256 (by omega) 3 d3 _ _ rfl rfl rfl _ _ _ (nxt_head m c t R 0 (by omega) 3 d3 _ _ rfl rfl rfl _ _ _ (st_tile _ hs 3 3 rfl _)))
    · exact st_piece _ 2 inb_S4x256x512_S1x256x512_2_0_0 _ (nxt_head m c t R 256 (by omega) 2 d2 _ _ rfl rfl rfl _ _ _ (nxt_head m c t R 0 (by omega) 2 d2 _ _ rfl rfl rfl _ _ _ (st_tile _ hs 2 2 rfl _)))
    · exact st_piece _ 1 inb_S4x256x512_S1x256x512_1_0_0 _ (nxt_head m c t R 256 (by omega) 1 d1 _ _ rfl rfl rfl _ _ _ (nxt_head m c t R 0 (by omega) 1 d1 _ _ rfl rfl rfl _ _ _ (st_tile _ hs 1 1 rfl _)))
    · exact st_piece _ 0 inb_S4x256x512_S1x256x512_0_0_0 _ (nxt_head m c t R 256 (by omega) 0 d0 _ _ rfl rfl rfl _ _ _ (nxt_head m c t R 0 (by omega) 0 d0 _ _ rfl rfl rfl _ _ _ (st_tile _ hs 0 0 rfl _)))

end Cert.After

end
-- ==== Proof.Ret.Out.lean ====
/- What a grid point leaves in the result's block. -/
module

public import proofs.«01_k».proof.Proof.Ret.After

@[expose] public section

set_option maxRecDepth 16384

noncomputable section

namespace Cert.Out

open Idealize.ShloMosaic Idealize.ShloMosaic.TcCoe Cert.Recur Cert.Spec Cert.Tab Cert.Chunk Cert.Kern Cert.Point Cert.Blocks Cert.Tiles Cert.Heads Cert.After
open Cert.RetentionIdeal Cert.RetentionIdeal.Gen

variable (m : (ℓ : Loc nD τ sig) → Buf (Elt Ideal) ℓ) (c : Dev nD) (t : Fin cfg0.N)
variable (R : Fin4 (aX m c) (aM m c) (aG m c) (aW m c))

abbrev kg := gE (aX m c) (aP m c) (aM m c) (aG m c) (aW m c) (row t)
abbrev kp := pE (aX m c) (aM m c) (aG m c) (aW m c) (row t)
abbrev ko := outE (aX m c) (aP m c) (aM m c) (aG m c) (aW m c) (aO m c) (row t)

theorem kg_congr {a a' : Fin 4096} {h h' : Fin 4} {e e' : Fin 512} {j j' : Fin 6144} (h1 : a.val = a'.val) (h2 : h.val = h'.val)
    (h3 : e.val = e'.val) (h4 : j.val = j'.val) : kg m c t a h e (kp m c t a j) = kg m c t a' h' e' (kp m c t a' j') := by
  rw [Fin.ext h1, Fin.ext h2, Fin.ext h3, Fin.ext h4]

/-- The kept outputs of the point's 512 tokens. -/
def obG (y : S512x2048.Idx) : EReal :=
  have h0 : (y 0).val < 512 := (y 0).isLt
  have h1 : (y 1).val < 2048 := (y 1).isLt
  kg m c t ⟨off t + (y 0).val, by unfold off; omega⟩ ⟨(y 1).val / 512, by omega⟩ ⟨(y 1).val % 512, by omega⟩
    (kp m c t ⟨off t + (y 0).val, by unfold off; omega⟩ ⟨4096 + (y 1).val, by omega⟩)

/-- The result at the point's 512 tokens. -/
def outG (y : S1x512x1024.Idx) : EReal :=
  have h1 : (y 1).val < 512 := (y 1).isLt
  ko m c t ⟨off t + (y 1).val, by unfold off; omega⟩ (y 2)

theorem ob_piece (o : ℕ) (ho : o + 256 ≤ 512) (h : Fin 4) (p : ℕ) (hp : p = h.val * 512)
    (inb : ∀ a, (![o, p] : Fin 2 → Nat) a + S256x512.size a ≤ S512x2048.size a) (w : S256x512.Idx → EReal)
    (hw : KOb m c t (off t + o) (at_le t o ho) h w) (x : S256x512.Idx) :
    w x = obG m c t ((Rect.unit (s := S512x2048) ![o, p] S256x512.size inb).emb x) := by
  subst hp
  obtain ⟨i, e, rfl⟩ : ∃ (i : Fin 256) (e : Fin 512), x = ix2 i e := ⟨x 0, x 1, eq_ix2 x⟩
  rw [hw i e]
  have e0 : (((Rect.unit (s := S512x2048) ![o, h.val * 512] S256x512.size inb).emb (ix2 i e)) 0).val = o + i.val := by
    show _ + 1 * _ = _; simp
  have e1 : (((Rect.unit (s := S512x2048) ![o, h.val * 512] S256x512.size inb).emb (ix2 i e)) 1).val = h.val * 512 + e.val := by
    show _ + 1 * _ = _; simp
  refine kg_congr m c t ?_ ?_ ?_ ?_
  · show off t + o + i.val = off t + _; rw [e0]; omega
  · show h.val = _ / 512; rw [e1]; omega
  · show e.val = _ % 512; rw [e1]; omega
  · show 4096 + (h.val * 512 + e.val) = 4096 + _; rw [e1]

theorem obG_row (o : ℕ) (ho : o + 256 ≤ 512) (i : Fin 256) (z : Fin 2048)
    (inb : ∀ a, (![o, 0] : Fin 2 → Nat) a + S256x2048.size a ≤ S512x2048.size a) :
    obG m c t ((Rect.unit (s := S512x2048) ![o, 0] S256x2048.size inb).emb (ix2 i z))
      = kg m c t (tk (off t + o) (at_le t o ho) i) ⟨z.val / 512, by omega⟩ ⟨z.val % 512, by omega⟩
        (kp m c t (tk (off t + o) (at_le t o ho) i) ⟨4096 + z.val, by omega⟩) := by
  have e0 : (((Rect.unit (s := S512x2048) ![o, 0] S256x2048.size inb).emb (ix2 i z)) 0).val = o + i.val := by
    show _ + 1 * _ = _; simp
  have e1 : (((Rect.unit (s := S512x2048) ![o, 0] S256x2048.size inb).emb (ix2 i z)) 1).val = z.val := by
    show _ + 1 * _ = _; simp
  refine kg_congr m c t ?_ ?_ ?_ ?_
  · show off t + _ = off t + o + i.val; rw [e0]; omega
  · show _ / 512 = z.val / 512; rw [e1]
  · show _ % 512 = z.val % 512; rw [e1]
  · show 4096 + _ = 4096 + z.val; rw [e1]

theorem obcov (o : ℕ) (ho : o + 256 ≤ 512) (i : Fin 256) (z : Fin 2048) {A B C D : View.Piece (Elt Ideal) S512x2048 .bf16} (i3 i2 i1 i0)
    (inb : ∀ a, (![o, 0] : Fin 2 → Nat) a + S256x2048.size a ≤ S512x2048.size a)
    (hA : A.1 = Rect.unit (s := S512x2048) ![o, 1536] S256x512.size i3) (hB : B.1 = Rect.unit (s := S512x2048) ![o, 1024] S256x512.size i2)
    (hC : C.1 = Rect.unit (s := S512x2048) ![o, 512] S256x512.size i1) (hD : D.1 = Rect.unit (s := S512x2048) ![o, 0] S256x512.size i0) :
    ∃ p ∈ [A, B, C, D], (Rect.unit (s := S512x2048) ![o, 0] S256x2048.size inb).emb (ix2 i z) ∈ p.1.set := by
  have e0 : (((Rect.unit (s := S512x2048) ![o, 0] S256x2048.size inb).emb (ix2 i z)) 0).val = o + i.val := by
    show _ + 1 * _ = _; simp
  have e1 : (((Rect.unit (s := S512x2048) ![o, 0] S256x2048.size inb).emb (ix2 i z)) 1).val = z.val := by
    show _ + 1 * _ = _; simp
  have key : ∀ (p : ℕ) (q), p ≤ z.val → z.val < p + 512 →
      (Rect.unit (s := S512x2048) ![o, 0] S256x2048.size inb).emb (ix2 i z) ∈ (Rect.unit (s := S512x2048) ![o, p] S256x512.size q).set := by
    intro p q h1 h2
    refine Rect.mem_set_unit.mpr fun a => ?_
    match a with
    | ⟨0, _⟩ => exact ⟨(Nat.le_add_right _ _).trans_eq e0.symm, lt_of_eq_of_lt e0 (by show o + i.val < o + 256; omega)⟩
    | ⟨1, _⟩ => exact ⟨h1.trans_eq e1.symm, lt_of_eq_of_lt e1 h2⟩
  by_cases h3 : 1536 ≤ z.val
  · exact ⟨A, by simp, by rw [hA]; exact key _ _ h3 (by omega)⟩
  by_cases h2 : 1024 ≤ z.val
  · exact ⟨B, by simp, by rw [hB]; exact key _ _ h2 (by omega)⟩
  by_cases h1 : 512 ≤ z.val
  · exact ⟨C, by simp, by rw [hC]; exact key _ _ h1 (by omega)⟩
  exact ⟨D, by simp, by rw [hD]; exact key _ _ (by omega) (by omega)⟩

theorem outcov (r : Fin 512) (k : Fin 1024) {A B : View.Piece (Elt Ideal) S1x512x1024 .f32} (i1 i0)
    (hA : A.1 = Rect.unit (s := S1x512x1024) ![0, 256, 0] S1x256x1024.size i1) (hB : B.1 = Rect.unit (s := S1x512x1024) ![0, 0, 0] S1x256x1024.size i0) :
    ∃ p ∈ [A, B], (ix3 0 r k : S1x512x1024.Idx) ∈ p.1.set := by
  have key : ∀ (p : ℕ) (q), p ≤ r.val → r.val < p + 256 →
      (ix3 0 r k : S1x512x1024.Idx) ∈ (Rect.unit (s := S1x512x1024) ![0, p, 0] S1x256x1024.size q).set := by
    intro p q h1 h2
    refine Rect.mem_set_unit.mpr fun a => ?_
    match a with
    | ⟨0, _⟩ => show 0 ≤ 0 ∧ 0 < 0 + 1; omega
    | ⟨1, _⟩ => show p ≤ r.val ∧ r.val < p + 256; omega
    | ⟨2, _⟩ => show 0 ≤ k.val ∧ k.val < 0 + 1024; omega
  by_cases h3 : 256 ≤ r.val
  · exact ⟨A, by simp, by rw [hA]; exact key _ _ h3 (by omega)⟩
  exact ⟨B, by simp, by rw [hB]; exact key _ _ (by omega) (by omega)⟩

/-- The chunk's rows of the result, from its kept outputs. -/
theorem out_piece (o : ℕ) (ho : o + 256 ≤ 512) (inb i0 : ∀ a, (![0, o, 0] : Fin 3 → Nat) a + S1x256x1024.size a ≤ S1x512x1024.size a)
    (ob : S256x2048.Idx → EReal)
    (hob : ∀ i z, ob (ix2 i z) = kg m c t (tk (off t + o) (at_le t o ho) i) ⟨z.val / 512, by omega⟩ ⟨z.val % 512, by omega⟩
        (kp m c t (tk (off t + o) (at_le t o ho) i) ⟨4096 + z.val, by omega⟩)) (x : S1x256x1024.Idx) :
    res (F := Ideal) (iblk m c 2 t : S1x6x1024.Idx → EReal)
      (View.ld (iblk m c 0 t : S1x512x1024.Idx → EReal) (Rect.unit (s := S1x512x1024) ![0, o, 0] ![1, 256, 1024] i0)) ob
      (iblk m c 6 t : S2048x1024.Idx → EReal) x
      = outG m c t ((Rect.unit (s := S1x512x1024) ![0, o, 0] S1x256x1024.size inb).emb x) := by
  obtain ⟨a, i, k, rfl⟩ : ∃ (a : Fin 1) (i : Fin 256) (k : Fin 1024), x = ix3 a i k := ⟨x 0, x 1, x 2, eq_ix3 x⟩
  obtain rfl : a = 0 := Subsingleton.elim _ _
  have e2 : (iblk m c 2 t : S1x6x1024.Idx → EReal) (ix3 0 2 k) = aM m c (ix2 (row t) ⟨2048 + k.val, by omega⟩) :=
    (mod_at m c t 2 k).trans (f2 (aM m c) rfl (by show 2 * 1024 + k.val = 2048 + k.val; omega))
  rw [res_ix, e2, x_tile m c t o ho i0 i k]
  simp only [hob i, w_out_at m c t]
  have e : ∀ (a a' : Fin 4096) (k' : Fin 1024), a.val = a'.val → k.val = k'.val → ko m c t a k = ko m c t a' k' := by
    intro a a' k' h h'; rw [Fin.ext h, Fin.ext h']
  refine Eq.trans rfl (e (tk (off t + o) (at_le t o ho) i) _ _ ?_ ?_)
  · show off t + o + i.val = off t + (o + 1 * i.val); omega
  · show k.val = 0 + 1 * k.val; omega

include R in
/-- The result's block after a point, from the state before it. -/
theorem out (hs : ¬ t.val % 8 = 0 → KS m c t (off t + 0) (outsAt0 m c (t.val - 1) (Nat.lt_of_le_of_lt (Nat.sub_le _ _) t.isLt)).2)
    (r : Fin 512) (k : Fin 1024) :
    (outsAt0 m c t.val t.isLt).1 (ix3 0 r k) = ko m c t ⟨off t + r.val, by unfold off; omega⟩ k := by
  by_cases h0 : t.val % 8 = 0
  · have hs := zero m c t h0
    rw [outsAt0_A m c t h0]
    frame_open
    simp (disch := decide) only [↓ View.readCov_skip, ↓ View.readCov_cons_toLoadRect, ↓ View.readCov_fill]
    frame_out
    refine (View.canon_append_of_piecesOf (outG m c t) [] [_, _] ⟨?_, ?_, trivial⟩ (ix3 0 r k) (outcov r k
      inb_S1x512x1024_S1x256x1024_0_256_0 inb_S1x512x1024_S1x256x1024_0_0_0 rfl rfl)).trans rfl
    · refine out_piece m c t 256 (by omega) inb_S1x512x1024_S1x256x1024_0_256_0 inb_S1x512x1024_S1x256x1024_0_256_0 _ fun i z => ?_
      rw [View.readCov_eq_canon']
      refine (View.canon_append_of_piecesOf (obG m c t) _ [_, _, _, _] ⟨?_, ?_, ?_, ?_, trivial⟩ _
        (obcov 256 (by omega) i z inb_S512x2048_S256x512_256_1536 inb_S512x2048_S256x512_256_1024 inb_S512x2048_S256x512_256_512
          inb_S512x2048_S256x512_256_0 inb_S512x2048_S256x2048_256_0 rfl rfl rfl rfl)).trans (obG_row m c t 256 (by omega) i z _)
      · exact ob_piece m c t 256 (by omega) 3 1536 rfl inb_S512x2048_S256x512_256_1536 _ (ob_head m c t R 256 (by omega) 3 _ _ rfl rfl rfl rfl rfl _ _ _ _ _ _ (nxt_head m c t R 0 (by omega) 3 d3 _ _ rfl rfl rfl _ _ _ (st_tile _ hs 3 3 rfl _)))
      · exact ob_piece m c t 256 (by omega) 2 1024 rfl inb_S512x2048_S256x512_256_1024 _ (ob_head m c t R 256 (by omega) 2 _ _ rfl rfl rfl rfl rfl _ _ _ _ _ _ (nxt_head m c t R 0 (by omega) 2 d2 _ _ rfl rfl rfl _ _ _ (st_tile _ hs 2 2 rfl _)))
      · exact ob_piece m c t 256 (by omega) 1 512 rfl inb_S512x2048_S256x512_256_512 _ (ob_head m c t R 256 (by omega) 1 _ _ rfl rfl rfl rfl rfl _ _ _ _ _ _ (nxt_head m c t R 0 (by omega) 1 d1 _ _ rfl rfl rfl _ _ _ (st_tile _ hs 1 1 rfl _)))
      · exact ob_piece m c t 256 (by omega) 0 0 rfl inb_S512x2048_S256x512_256_0 _ (ob_head m c t R 256 (by omega) 0 _ _ rfl rfl rfl rfl rfl _ _ _ _ _ _ (nxt_head m c t R 0 (by omega) 0 d0 _ _ rfl rfl rfl _ _ _ (st_tile _ hs 0 0 rfl _)))
    · refine out_piece m c t 0 (by omega) inb_S1x512x1024_S1x256x1024_0_0_0 inb_S1x512x1024_S1x256x1024_0_0_0 _ fun i z => ?_
      rw [View.readCov_eq_canon']
      refine (View.canon_append_of_piecesOf (obG m c t) _ [_, _, _, _] ⟨?_, ?_, ?_, ?_, trivial⟩ _
        (obcov 0 (by omega) i z inb_S512x2048_S256x512_0_1536 inb_S512x2048_S256x512_0_1024 inb_S512x2048_S256x512_0_512
          inb_S512x2048_S256x512_0_0 inb_S512x2048_S256x2048_0_0 rfl rfl rfl rfl)).trans (obG_row m c t 0 (by omega) i z _)
      · exact ob_piece m c t 0 (by omega) 3 1536 rfl inb_S512x2048_S256x512_0_1536 _ (ob_head m c t R 0 (by omega) 3 _ _ rfl rfl rfl rfl rfl _ _ _ _ _ _ (st_tile _ hs 3 3 rfl _))
      · exact ob_piece m c t 0 (by omega) 2 1024 rfl inb_S512x2048_S256x512_0_1024 _ (ob_head m c t R 0 (by omega) 2 _ _ rfl rfl rfl rfl rfl _ _ _ _ _ _ (st_tile _ hs 2 2 rfl _))
      · exact ob_piece m c t 0 (by omega) 1 512 rfl inb_S512x2048_S256x512_0_512 _ (ob_head m c t R 0 (by omega) 1 _ _ rfl rfl rfl rfl rfl _ _ _ _ _ _ (st_tile _ hs 1 1 rfl _))
      · exact ob_piece m c t 0 (by omega) 0 0 rfl inb_S512x2048_S256x512_0_0 _ (ob_head m c t R 0 (by omega) 0 _ _ rfl rfl rfl rfl rfl _ _ _ _ _ _ (st_tile _ hs 0 0 rfl _))
  · have hs := hs h0
    rw [← read_unread_whole (Val := Elt Ideal) cc0_scratch0 (Memref.isWhole_whole _) (outsAt0 m c (t.val - 1) _).2] at hs
    rw [outsAt0_B m c t h0]
    frame_open
    simp (disch := decide) only [↓ View.readCov_skip, ↓ View.readCov_cons_toLoadRect, ↓ View.readCov_fill]
    frame_out
    refine (View.canon_append_of_piecesOf (outG m c t) [] [_, _] ⟨?_, ?_, trivial⟩ (ix3 0 r k) (outcov r k
      inb_S1x512x1024_S1x256x1024_0_256_0 inb_S1x512x1024_S1x256x1024_0_0_0 rfl rfl)).trans rfl
    · refine out_piece m c t 256 (by omega) inb_S1x512x1024_S1x256x1024_0_256_0 inb_S1x512x1024_S1x256x1024_0_256_0 _ fun i z => ?_
      rw [View.readCov_eq_canon']
      refine (View.canon_append_of_piecesOf (obG m c t) _ [_, _, _, _] ⟨?_, ?_, ?_, ?_, trivial⟩ _
        (obcov 256 (by omega) i z inb_S512x2048_S256x512_256_1536 inb_S512x2048_S256x512_256_1024 inb_S512x2048_S256x512_256_512
          inb_S512x2048_S256x512_256_0 inb_S512x2048_S256x2048_256_0 rfl rfl rfl rfl)).trans (obG_row m c t 256 (by omega) i z _)
      · exact ob_piece m c t 256 (by omega) 3 1536 rfl inb_S512x2048_S256x512_256_1536 _ (ob_head m c t R 256 (by omega) 3 _ _ rfl rfl rfl rfl rfl _ _ _ _ _ _ (nxt_head m c t R 0 (by omega) 3 d3 _ _ rfl rfl rfl _ _ _ (st_tile _ hs 3 3 rfl _)))
      · exact ob_piece m c t 256 (by omega) 2 1024 rfl inb_S512x2048_S256x512_256_1024 _ (ob_head m c t R 256 (by omega) 2 _ _ rfl rfl rfl rfl rfl _ _ _ _ _ _ (nxt_head m c t R 0 (by omega) 2 d2 _ _ rfl rfl rfl _ _ _ (st_tile _ hs 2 2 rfl _)))
      · exact ob_piece m c t 256 (by omega) 1 512 rfl inb_S512x2048_S256x512_256_512 _ (ob_head m c t R 256 (by omega) 1 _ _ rfl rfl rfl rfl rfl _ _ _ _ _ _ (nxt_head m c t R 0 (by omega) 1 d1 _ _ rfl rfl rfl _ _ _ (st_tile _ hs 1 1 rfl _)))
      · exact ob_piece m c t 256 (by omega) 0 0 rfl inb_S512x2048_S256x512_256_0 _ (ob_head m c t R 256 (by omega) 0 _ _ rfl rfl rfl rfl rfl _ _ _ _ _ _ (nxt_head m c t R 0 (by omega) 0 d0 _ _ rfl rfl rfl _ _ _ (st_tile _ hs 0 0 rfl _)))
    · refine out_piece m c t 0 (by omega) inb_S1x512x1024_S1x256x1024_0_0_0 inb_S1x512x1024_S1x256x1024_0_0_0 _ fun i z => ?_
      rw [View.readCov_eq_canon']
      refine (View.canon_append_of_piecesOf (obG m c t) _ [_, _, _, _] ⟨?_, ?_, ?_, ?_, trivial⟩ _
        (obcov 0 (by omega) i z inb_S512x2048_S256x512_0_1536 inb_S512x2048_S256x512_0_1024 inb_S512x2048_S256x512_0_512
          inb_S512x2048_S256x512_0_0 inb_S512x2048_S256x2048_0_0 rfl rfl rfl rfl)).trans (obG_row m c t 0 (by omega) i z _)
      · exact ob_piece m c t 0 (by omega) 3 1536 rfl inb_S512x2048_S256x512_0_1536 _ (ob_head m c t R 0 (by omega) 3 _ _ rfl rfl rfl rfl rfl _ _ _ _ _ _ (st_tile _ hs 3 3 rfl _))
      · exact ob_piece m c t 0 (by omega) 2 1024 rfl inb_S512x2048_S256x512_0_1024 _ (ob_head m c t R 0 (by omega) 2 _ _ rfl rfl rfl rfl rfl _ _ _ _ _ _ (st_tile _ hs 2 2 rfl _))
      · exact ob_piece m c t 0 (by omega) 1 512 rfl inb_S512x2048_S256x512_0_512 _ (ob_head m c t R 0 (by omega) 1 _ _ rfl rfl rfl rfl rfl _ _ _ _ _ _ (st_tile _ hs 1 1 rfl _))
      · exact ob_piece m c t 0 (by omega) 0 0 rfl inb_S512x2048_S256x512_0_0 _ (ob_head m c t R 0 (by omega) 0 _ _ rfl rfl rfl rfl rfl _ _ _ _ _ _ (st_tile _ hs 0 0 rfl _))

end Cert.Out

end
-- ==== Proof.Ret.Final.lean ====
/- The kernel's result is the sub-layer's. -/
module

public import Idealize.ShloMosaic.Lib.Pipeline.Value
public import proofs.«01_k».proof.Proof.Ret.Out

@[expose] public section

set_option maxRecDepth 16384

noncomputable section

namespace Cert.Final

open Idealize.ShloMosaic Idealize.ShloMosaic.TcCoe Cert.Spec Cert.Chunk Cert.Blocks Cert.Tiles Cert.After Cert.Out
open Cert.RetentionIdeal Cert.RetentionIdeal.Gen

variable (m : (ℓ : Loc nD τ sig) → Buf (Elt Ideal) ℓ) (c : Dev nD)
variable (R : Fin4 (aX m c) (aM m c) (aG m c) (aW m c))
include R

/-- After every point the state is that of the tokens so far of its batch row. -/
theorem inv : ∀ (n : ℕ) (hn : n < cfg0.N), KS m c ⟨n, hn⟩ (off ⟨n, hn⟩ + (256 + 256)) (outsAt0 m c n hn).2
  | 0, hn => state m c ⟨0, hn⟩ R fun h => absurd rfl h
  | n + 1, hn => state m c ⟨n + 1, hn⟩ R fun h0 => by
    have ih := inv n (Nat.lt_of_succ_lt hn)
    have e1 : row ⟨n, Nat.lt_of_succ_lt hn⟩ = row ⟨n + 1, hn⟩ := Fin.ext (by
      show n / 8 = (n + 1) / 8; have : ¬ (n + 1) % 8 = 0 := h0; omega)
    have e2 : off ⟨n, Nat.lt_of_succ_lt hn⟩ + (256 + 256) = off ⟨n + 1, hn⟩ + 0 := by
      show n % 8 * 512 + (256 + 256) = (n + 1) % 8 * 512 + 0; have : ¬ (n + 1) % 8 = 0 := h0; omega
    intro h d e
    have := ih h d e
    rw [e1, e2] at this
    exact this

theorem before (t : Fin cfg0.N) (h0 : ¬ t.val % 8 = 0) :
    KS m c t (off t + 0) (outsAt0 m c (t.val - 1) (Nat.lt_of_le_of_lt (Nat.sub_le _ _) t.isLt)).2 := by
  have e1 : row ⟨t.val - 1, Nat.lt_of_le_of_lt (Nat.sub_le _ _) t.isLt⟩ = row t := Fin.ext (by
    show (t.val - 1) / 8 = t.val / 8; omega)
  have e2 : off ⟨t.val - 1, Nat.lt_of_le_of_lt (Nat.sub_le _ _) t.isLt⟩ + (256 + 256) = off t + 0 := by
    show (t.val - 1) % 8 * 512 + (256 + 256) = t.val % 8 * 512 + 0; omega
  intro h d e
  have := inv m c R (t.val - 1) (Nat.lt_of_le_of_lt (Nat.sub_le _ _) t.isLt) h d e
  rw [e1, e2] at this
  exact this

/-- The result array. -/
theorem final : (dats m 0 c).arrAt 10 cfg0.N
    = fun y : S8x4096x1024.Idx => outE (aX m c) (aP m c) (aM m c) (aG m c) (aW m c) (aO m c) (y 0) (y 1) (y 2) := by
  refine (dats m 0 c).arrAt_eq_of_covers 10 _ (by decide +kernel) fun t hf y => ?_
  blk_simp [idx t]
  rw [after0_10]
  obtain ⟨a, r, k, rfl⟩ : ∃ (a : Fin 1) (r : Fin 512) (k : Fin 1024), y = ix3 a r k := ⟨y 0, y 1, y 2, eq_ix3 y⟩
  obtain rfl : a = 0 := Subsingleton.elim _ _
  refine (out m c t R (before m c R t) r k).trans ?_
  have e : ∀ {b b' : Fin 8} {a a' : Fin 4096} {k k' : Fin 1024}, b.val = b'.val → a.val = a'.val → k.val = k'.val →
      outE (aX m c) (aP m c) (aM m c) (aG m c) (aW m c) (aO m c) b a k = outE (aX m c) (aP m c) (aM m c) (aG m c) (aW m c) (aO m c) b' a' k' := by
    intro b b' a a' k k' h1 h2 h3; rw [Fin.ext h1, Fin.ext h2, Fin.ext h3]
  refine e ?_ ?_ ?_
  all_goals blk_simp [idx t]
  · rfl
  · rfl

end Cert.Final

end
-- ==== Proof.Ret.RefRun.lean ====
/- The reference's run as its trip iterated: the valuation between two trips against the state of the step, field by field. -/
module

public import proofs.«01_k».proof.Proof.Gen.RetentionRefIdeal.Run
public import proofs.«01_k».proof.Proof.Gen.RetentionRefIdeal.Step

@[expose] public section

set_option maxRecDepth 16384

noncomputable section

namespace Cert.RefRun

open Idealize.ShloMosaic Idealize.ShloMosaic.TcCoe Idealize.SL.Sem Idealize.ShloMosaic.StableHlo
open Cert.RetentionRefIdeal Cert.RetentionRefIdeal.Gen Cert.RetentionRefIdeal.Value
open Cert.RetentionRefIdeal.Step

variable {F : FTy → Type} [FloatOps F]

/-- Between two trips: the carried buffers hold the state, the loop's constants their values, the counter the trip's number. -/
structure At (V : Valuation τ sig (Elt F)) (s : State F) (j : ℕ) : Prop where
  st : V (Proc.devRef .tc main_v163_8) = s.main_v163_8
  out : V (Proc.devRef .tc main_v163_9) = s.main_v163_9
  q : V (Proc.devRef .tc main_v163_0) = s.main_v163_0
  k : V (Proc.devRef .tc main_v163_1) = s.main_v163_1
  v : V (Proc.devRef .tc main_v163_2) = s.main_v163_2
  n : V (Proc.devRef .tc main_v163_7) = constantI S_ 32 (BitVec.ofNat 32 j)
  intra : V (Proc.devRef .tc main_v163_3) = K_main_v138 (F := F)
  xi : V (Proc.devRef .tc main_v163_4) = K_main_v147 (F := F)
  decay : V (Proc.devRef .tc main_v163_5) = K_main_v160 (F := F)
  zeta : V (Proc.devRef .tc main_v163_6) = K_main_v156 (F := F)

variable {V : Valuation τ sig (Elt F)} {s : State F} {j : ℕ}

theorem q_at (h : At V s j) : res_main_while0b_v219 V = b5 j s := by
  unfold res_main_while0b_v219
  rw [h.q, h.n]
  rfl

theorem k_at (h : At V s j) : res_main_while0b_v220 V = b11 j s := by
  unfold res_main_while0b_v220
  rw [h.k, h.n]
  rfl

theorem v_at (h : At V s j) : res_main_while0b_v221 V = b17 j s := by
  unfold res_main_while0b_v221
  rw [h.v, h.n]
  rfl

theorem st_step (h : At V s j) : Cert.RetentionRefIdeal.Value.step_main_v163_8 V = b32 j s := by
  unfold Cert.RetentionRefIdeal.Value.step_main_v163_8
  rw [k_at h, v_at h, h.st, h.decay, h.zeta]
  rfl

theorem out_step (h : At V s j) : Cert.RetentionRefIdeal.Value.step_main_v163_9 V = b38 j s := by
  unfold Cert.RetentionRefIdeal.Value.step_main_v163_9
  rw [q_at h, k_at h, v_at h, h.st, h.intra, h.xi, h.out, h.n]
  rfl

theorem n_step (h : At V s j) : Cert.RetentionRefIdeal.Value.step_main_v163_7 V = constantI S_ 32 (BitVec.ofNat 32 (j + 1)) := by
  unfold Cert.RetentionRefIdeal.Value.step_main_v163_7
  rw [h.n]
  funext i
  show BitVec.ofNat 32 j + 1#32 = BitVec.ofNat 32 (j + 1)
  rw [BitVec.ofNat_add]

theorem at_step (h : At V s j) : At (STEP V) (step j s) (j + 1) where
  st := (STEP_main_v163_8 V).trans (st_step h)
  out := (STEP_main_v163_9 V).trans (out_step h)
  q := (STEP_main_v163_0 V).trans h.q
  k := (STEP_main_v163_1 V).trans h.k
  v := (STEP_main_v163_2 V).trans h.v
  n := (STEP_main_v163_7 V).trans (n_step h)
  intra := (STEP_main_v163_3 V).trans h.intra
  xi := (STEP_main_v163_4 V).trans h.xi
  decay := (STEP_main_v163_5 V).trans h.decay
  zeta := (STEP_main_v163_6 V).trans h.zeta

theorem result (h : At V s j) : out_main_v218 V = R_main_v218 s (V (Proc.devRef .tc main_arg0)) (V (Proc.devRef .tc main_arg2))
    (V (Proc.devRef .tc main_arg3)) (V (Proc.devRef .tc main_arg4)) (V (Proc.devRef .tc main_arg5)) := by
  unfold out_main_v218
  rw [h.out]
  rfl

variable (m : (ℓ : Loc nD τ sig) → Buf (Elt F) ℓ) (c : Dev nD)

/-- The state before the first trip. -/
abbrev first : State F :=
  init (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4))

/-- The state before trip `k`. -/
def states : ℕ → State F
  | 0 => first m c
  | k + 1 => step k (states k)

set_option maxRecDepth 65536 in
set_option maxHeartbeats 800000 in
theorem at_first : At (entryContents preI m c) (first m c) 0 := by
  constructor <;> (simp only [entryContents, afterL_cons, afterL_nil]; after_reads_simp) <;> rfl

theorem at_iter : ∀ k, At (STEP^[k] (entryContents preI m c)) (states m c k) k
  | 0 => at_first m c
  | k + 1 => by
    rw [Function.iterate_succ_apply']
    exact at_step (at_iter k)

theorem run (ρ : Dev nD → PrngReg) :
    θ_run (defs (F := F)) (onTc (τ := τ) (main (F := F))) ⟨m, fun _ => 0, ρ⟩ fun r => ∀ c : Dev nD,
      r.2.mem ((c.tc : Thread nD τ).loc main_v218) = R_main_v218 (states m c 32) (m ((c.tc : Thread nD τ).loc main_arg0))
        (m ((c.tc : Thread nD τ).loc main_arg2)) (m ((c.tc : Thread nD τ).loc main_arg3)) (m ((c.tc : Thread nD τ).loc main_arg4))
        (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun _ h c => ⟨(h c).1.trans ((result (at_iter m c 32)).trans ?_), (h c).2⟩) (Value.run m ρ)
  rw [iter_main_arg0 m c 32, iter_main_arg2 m c 32, iter_main_arg3 m c 32, iter_main_arg4 m c 32, iter_main_arg5 m c 32]

end Cert.RefRun

end
-- ==== Proof.Ret.Ref.lean ====
module

public import Idealize.ShloMosaic.Lib.Pipeline.ValueKit
public import proofs.«01_k».proof.Proof.Ret.Spec
public import proofs.«01_k».proof.Proof.Gen.RetentionRefIdeal.Step

@[expose] public section

set_option maxRecDepth 16384

noncomputable section

namespace Cert.RefRead

open Idealize.ShloMosaic Cert.Recur Cert.Spec Cert.RetentionRefIdeal Cert.RetentionRefIdeal.Step Cert.RetentionRefIdeal.Gen

variable (X : A3 8 4096 1024) (P : (⟨2, ![8, 4096]⟩ : Shape).Idx → BitVec 32) (M : A2 8 6144) (G : A1 1024)
  (W : A2 1024 6144) (O : A2 2048 1024)

theorem hid (b : Fin 8) (t : Fin 4096) (i : Fin 1024) :
    A_main_v30 (F := Ideal) X P M G W (ix3 b t i) = hE X M G b t i := by
  unfold A_main_v30 A_main_v29 A_main_v28 A_main_v27 A_main_v26 A_main_v24 A_main_v23 A_main_v22 A_main_v21 A_main_v20 A_main_v19 A_main_v18 A_main_v16 A_main_v14 A_main_v13 A_main_v12 A_main_v7 A_main_v6 A_main_v1 A_main_v0 K_main_v25 K_main_v17 K_main_v15 K_main_cst_2 K_main_cst_1 K_main_cst_0 K_main_cst
  pointwise
  rfl

theorem proj (b : Fin 8) (t : Fin 4096) (j : Fin 6144) :
    A_main_v31 (F := Ideal) X P M G W (ix3 b t j) = pE X M G W b t j := by
  unfold A_main_v31
  pointwise
  simp only [hid]
  rfl

theorem freq_read (r : Fin 128) : K_main_v47 (F := Ideal) (ix1 r) = freq r := by
  unfold K_main_v47 K_main_v46 K_main_v45 K_main_v44 K_main_v43 K_main_v42 K_main_v41 K_main_v40 K_main_v39 K_main_v38 K_main_v37
    K_main_cst_7 K_main_cst_6 K_main_cst_5 K_main_cst_4 K_main_cst_3
  pointwise
  rfl

theorem freq_read' (r : Fin 128) : K_main_v82 (F := Ideal) (ix1 r) = freq r := freq_read r

theorem cos_read (b : Fin 8) (t : Fin 4096) (r : Fin 128) :
    A_main_v54 (F := Ideal) X P M G W (ix3 b t r) = Ideal.cos (ang P b t r) := by
  unfold A_main_v54 A_main_v53 A_main_v51 A_main_v49 A_main_v48 K_main_v52 K_main_v50
  pointwise
  simp only [freq_read]
  rfl

theorem sin_read (b : Fin 8) (t : Fin 4096) (r : Fin 128) :
    A_main_v56 (F := Ideal) X P M G W (ix3 b t r) = Ideal.sin (ang P b t r) := by
  unfold A_main_v56 A_main_v53 A_main_v51 A_main_v49 A_main_v48 K_main_v52 K_main_v50
  pointwise
  simp only [freq_read]
  rfl

theorem qp_read (b : Fin 8) (t : Fin 4096) (h : Fin 4) (d : Fin 256) :
    A_main_v36 (F := Ideal) X P M G W (ix4 b t h d) = pE X M G W b t ⟨0 + (h.val * 256 + d.val), by omega⟩ := by
  unfold A_main_v36 A_main_v32
  pointwise
  simp only [proj, Nat.zero_add]

theorem kp_read (b : Fin 8) (t : Fin 4096) (h : Fin 4) (d : Fin 256) :
    A_main_v71 (F := Ideal) X P M G W (ix4 b t h d) = pE X M G W b t ⟨1024 + (h.val * 256 + d.val), by omega⟩ := by
  unfold A_main_v71 A_main_v33
  pointwise
  rw [proj]

theorem q1_read (b : Fin 8) (t : Fin 4096) (h : Fin 4) (r : Fin 128) :
    A_main_v64 (F := Ideal) X P M G W (ix4 b t h r) =
      pE X M G W b t ⟨0 + (h.val * 256 + r.val), by omega⟩ * Ideal.cos (ang P b t r)
        - pE X M G W b t ⟨0 + (h.val * 256 + (128 + r.val)), by omega⟩ * Ideal.sin (ang P b t r) := by
  unfold A_main_v64 A_main_v63 A_main_v62 A_main_v61 A_main_v60 A_main_v59 A_main_v58 A_main_v57 A_main_v55
  pointwise
  simp only [qp_read, cos_read, sin_read, Nat.zero_add]

theorem q2_read (b : Fin 8) (t : Fin 4096) (h : Fin 4) (r : Fin 128) :
    A_main_v69 (F := Ideal) X P M G W (ix4 b t h r) =
      pE X M G W b t ⟨0 + (h.val * 256 + (128 + r.val)), by omega⟩ * Ideal.cos (ang P b t r)
        + pE X M G W b t ⟨0 + (h.val * 256 + r.val), by omega⟩ * Ideal.sin (ang P b t r) := by
  unfold A_main_v69 A_main_v68 A_main_v67 A_main_v66 A_main_v65 A_main_v59 A_main_v58 A_main_v57 A_main_v55
  pointwise
  simp only [qp_read, cos_read, sin_read, Nat.zero_add]

theorem k1_read (b : Fin 8) (t : Fin 4096) (h : Fin 4) (r : Fin 128) :
    A_main_v99 (F := Ideal) X P M G W (ix4 b t h r) =
      pE X M G W b t ⟨1024 + (h.val * 256 + r.val), by omega⟩ * Ideal.cos (ang P b t r)
        - pE X M G W b t ⟨1024 + (h.val * 256 + (128 + r.val)), by omega⟩ * Ideal.sin (ang P b t r) := by
  unfold A_main_v99 A_main_v98 A_main_v97 A_main_v96 A_main_v95 A_main_v94 A_main_v93 A_main_v92 A_main_v90
  pointwise
  simp only [kp_read]
  exact congrArg₂ (· - ·) (congrArg _ (cos_read X P M G W b t r)) (congrArg _ (sin_read X P M G W b t r))

theorem k2_read (b : Fin 8) (t : Fin 4096) (h : Fin 4) (r : Fin 128) :
    A_main_v104 (F := Ideal) X P M G W (ix4 b t h r) =
      pE X M G W b t ⟨1024 + (h.val * 256 + (128 + r.val)), by omega⟩ * Ideal.cos (ang P b t r)
        + pE X M G W b t ⟨1024 + (h.val * 256 + r.val), by omega⟩ * Ideal.sin (ang P b t r) := by
  unfold A_main_v104 A_main_v103 A_main_v102 A_main_v101 A_main_v100 A_main_v94 A_main_v93 A_main_v92 A_main_v90
  pointwise
  simp only [kp_read]
  exact congrArg₂ (· + ·) (congrArg _ (cos_read X P M G W b t r)) (congrArg _ (sin_read X P M G W b t r))

theorem qr_read (b : Fin 8) (t : Fin 4096) (h : Fin 4) (d : Fin 256) :
    A_main_v70 (F := Ideal) X P M G W (ix4 b t h d) = qE X P M G W b t h d := by
  unfold A_main_v70
  pointwise
  simp only [q1_read, q2_read]
  rfl

theorem kr_read (b : Fin 8) (t : Fin 4096) (h : Fin 4) (d : Fin 256) :
    A_main_v107 (F := Ideal) X P M G W (ix4 b t h d) = kE X P M G W b t h d := by
  unfold A_main_v107 A_main_v105 K_main_v106 K_main_cst_13
  pointwise
  simp only [k1_read, k2_read]
  rfl

theorem vr_read (b : Fin 8) (t : Fin 4096) (h : Fin 4) (e : Fin 512) :
    A_main_v108 (F := Ideal) X P M G W (ix4 b t h e) = vE X M G W b t h e := by
  unfold A_main_v108 A_main_v34
  pointwise
  rw [proj]
  rfl

/-- Cut into 32 chunks of 128 tokens, with the axes in the scan's order. -/
theorem chunks256 (a : (⟨4, ![8, 4096, 4, 256]⟩ : Shape).Idx → EReal) (q : Fin 8 → Fin 4096 → Fin 4 → Fin 256 → EReal)
    (hr : ∀ b t h d, a (ix4 b t h d) = q b t h d) (n : Fin 32) (b : Fin 8) (h : Fin 4) (i : Fin 128) (d : Fin 256) :
    transpose S32x8x4x128x256 [1, 0, 3, 2, 4] (shapeCast S8x32x128x4x256 a shapeCasts_S8x4096x4x256_S8x32x128x4x256)
      transposes_S8x32x128x4x256_S32x8x4x128x256_1_0_3_2_4 (ix5 n b h i d) = q b ⟨n.val * 128 + i.val, by omega⟩ h d := by
  pointwise
  exact hr _ _ _ _

theorem chunks512 (a : (⟨4, ![8, 4096, 4, 512]⟩ : Shape).Idx → EReal) (q : Fin 8 → Fin 4096 → Fin 4 → Fin 512 → EReal)
    (hr : ∀ b t h d, a (ix4 b t h d) = q b t h d) (n : Fin 32) (b : Fin 8) (h : Fin 4) (i : Fin 128) (d : Fin 512) :
    transpose S32x8x4x128x512 [1, 0, 3, 2, 4] (shapeCast S8x32x128x4x512 a shapeCasts_S8x4096x4x512_S8x32x128x4x512)
      transposes_S8x32x128x4x512_S32x8x4x128x512_1_0_3_2_4 (ix5 n b h i d) = q b ⟨n.val * 128 + i.val, by omega⟩ h d := by
  pointwise
  exact hr _ _ _ _

theorem q_read (n : Fin 32) (b : Fin 8) (h : Fin 4) (i : Fin 128) (d : Fin 256) :
    A_main_v110 (F := Ideal) X P M G W (ix5 n b h i d) = qE X P M G W b ⟨n.val * 128 + i.val, by omega⟩ h d :=
  chunks256 _ (qE X P M G W) (qr_read X P M G W) n b h i d

theorem k_read (n : Fin 32) (b : Fin 8) (h : Fin 4) (i : Fin 128) (d : Fin 256) :
    A_main_v112 (F := Ideal) X P M G W (ix5 n b h i d) = kE X P M G W b ⟨n.val * 128 + i.val, by omega⟩ h d :=
  chunks256 _ (kE X P M G W) (kr_read X P M G W) n b h i d

theorem v_read (n : Fin 32) (b : Fin 8) (h : Fin 4) (i : Fin 128) (e : Fin 512) :
    A_main_v114 (F := Ideal) X P M G W (ix5 n b h i e) = vE X M G W b ⟨n.val * 128 + i.val, by omega⟩ h e :=
  chunks512 _ (vE X M G W) (vr_read X P M G W) n b h i e

end Cert.RefRead

end
-- ==== Proof.Ret.RefStep.lean ====
/- One trip of the reference at an index. -/
module

public import Idealize.ShloMosaic.Lib.Pipeline.ValueKit
public import Idealize.ShloMosaic.Lib.DynamicIndex
public import proofs.«01_k».proof.Proof.Ret.Tab
public import proofs.«01_k».proof.Proof.Ret.Ref

@[expose] public section

set_option maxRecDepth 16384

noncomputable section

namespace Cert.RefStep

open Idealize.ShloMosaic Cert.Recur Cert.Spec Cert.Tab Cert.RetentionRefIdeal Cert.RetentionRefIdeal.Step Cert.RetentionRefIdeal.Gen

theorem lg_read (h : Fin 4) : K_main_v121 (F := Ideal) (ix1 h) = lg h := by
  unfold K_main_v121 K_main_v120 K_main_v119 K_main_v118 K_main_v117 K_main_v116 K_main_v115 K_main_cst_15 K_main_cst_14
  pointwise
  rfl

theorem xi_read (h : Fin 4) (i : Fin 128) : K_main_v147 (F := Ideal) (ix4 0 h i 0) = ((γ h ^ (i.val + 1) : ℝ) : EReal) := by
  unfold K_main_v147 K_main_v146 K_main_v145 K_main_v144 K_main_v143 K_main_v142 K_main_v141 K_main_v140 K_main_v139 K_main_v122 K_main_cst_19
  pointwise
  simp only [lg_read]
  exact xi_pw h i.val (by omega)

theorem zeta_read (h : Fin 4) (i : Fin 128) : K_main_v156 (F := Ideal) (ix4 0 h i 0) = ((γ h ^ (127 - i.val) : ℝ) : EReal) := by
  unfold K_main_v156 K_main_v155 K_main_v154 K_main_v153 K_main_v152 K_main_v151 K_main_v150 K_main_v149 K_main_v148 K_main_v122 K_main_cst_20
  pointwise
  simp only [lg_read, c127]
  exact zeta_pw h 127 i.val (by omega) (by omega)

theorem decay_read (h : Fin 4) : K_main_v160 (F := Ideal) (ix4 0 h 0 0) = ((γ h ^ 128 : ℝ) : EReal) := by
  unfold K_main_v160 K_main_v159 K_main_v158 K_main_v157 K_main_cst_21
  pointwise
  simp only [lg_read, c128]
  exact pw h 128

theorem intra_read (h : Fin 4) (t s : Fin 128) :
    K_main_v138 (F := Ideal) (ix3 h t s) = ((if s.val ≤ t.val then γ h ^ (t.val - s.val) else 0 : ℝ) : EReal) := by
  unfold K_main_v138 K_main_call0_v2 K_main_call0_v1 K_main_call0_v0 K_main_cst_18 K_main_v137 K_main_v136 K_main_v135 K_main_v134
    K_main_v133 K_main_v132 K_main_v131 K_main_v130 K_main_v129 K_main_v128 K_main_v127 K_main_v126 K_main_v125 K_main_v124 K_main_v123
    K_main_v122 K_main_cst_17 K_main_cst_16
  simp only [id_eq]
  pointwise
  simp only [lg_read]
  exact intra_pw h t.val s.val (by omega) (by omega)

/-- The starts of a trip's slice: its number on the leading axis. -/
theorem start_eq (j : Fin 32) (k : Fin 5) :
    ((![(constantI S_ 32 (BitVec.ofNat 32 j.val)), (constantI S_ 32 0#32), (constantI S_ 32 0#32), (constantI S_ 32 0#32),
      (constantI S_ 32 0#32)] : Fin 5 → S_.Idx → BitVec 32) k (Shape.Idx.first h_S_)).toInt = ((![j.val, 0, 0, 0, 0] k : ℕ) : Int) := by
  have e : (BitVec.ofNat 32 j.val).toInt = (j.val : Int) := by
    have e : (BitVec.ofNat 32 j.val).toNat = j.val := by rw [BitVec.toNat_ofNat, Nat.mod_eq_of_lt (by omega)]
    rw [BitVec.toInt_eq_toNat_of_lt (by omega), e]
  fin_cases k
  · exact e
  all_goals rfl

theorem slice256 (a : S32x8x4x128x256.Idx → EReal) (j : Fin 32) (st : Fin 5 → Int) (hst : ∀ k, st k = ((![j.val, 0, 0, 0, 0] k : ℕ) : Int))
    (b : Fin 8) (h : Fin 4) (i : Fin 128) (d : Fin 256) :
    shapeCast S8x4x128x256 (Host.dynamicSlice S1x8x4x128x256 a st sliceFits_S32x8x4x128x256_S1x8x4x128x256)
      shapeCasts_S1x8x4x128x256_S8x4x128x256 (ix4 b h i d) = a (ix5 j b h i d) := by
  have hs : S32x8x4x128x256.Slices ![j.val, 0, 0, 0, 0] S1x8x4x128x256 := ⟨rfl, fun k => by
    have := j.isLt
    fin_cases k <;> simp [S32x8x4x128x256, S1x8x4x128x256]⟩
  rw [Host.dynamicSlice_eq_extractStridedSlice _ _ _ _ _ hs hst]
  pointwise

theorem slice512 (a : S32x8x4x128x512.Idx → EReal) (j : Fin 32) (st : Fin 5 → Int) (hst : ∀ k, st k = ((![j.val, 0, 0, 0, 0] k : ℕ) : Int))
    (b : Fin 8) (h : Fin 4) (i : Fin 128) (d : Fin 512) :
    shapeCast S8x4x128x512 (Host.dynamicSlice S1x8x4x128x512 a st sliceFits_S32x8x4x128x512_S1x8x4x128x512)
      shapeCasts_S1x8x4x128x512_S8x4x128x512 (ix4 b h i d) = a (ix5 j b h i d) := by
  have hs : S32x8x4x128x512.Slices ![j.val, 0, 0, 0, 0] S1x8x4x128x512 := ⟨rfl, fun k => by
    have := j.isLt
    fin_cases k <;> simp [S32x8x4x128x512, S1x8x4x128x512]⟩
  rw [Host.dynamicSlice_eq_extractStridedSlice _ _ _ _ _ hs hst]
  pointwise

/-- A trip writes its own chunk of the outputs and leaves the others. -/
theorem update512 (a : S32x8x4x128x512.Idx → EReal) (u : S8x4x128x512.Idx → EReal) (j n : Fin 32) (st : Fin 5 → Int)
    (hst : ∀ k, st k = ((![j.val, 0, 0, 0, 0] k : ℕ) : Int)) (b : Fin 8) (h : Fin 4) (i : Fin 128) (d : Fin 512) :
    Host.dynamicUpdateSlice a (broadcastInDim S1x8x4x128x512 ![1, 2, 3, 4] bcast_S8x4x128x512_S1x8x4x128x512_1_2_3_4 u) st
      updateFits_S32x8x4x128x512_S1x8x4x128x512 (ix5 n b h i d) = if n = j then u (ix4 b h i d) else a (ix5 n b h i d) := by
  have hs : S32x8x4x128x512.Slices ![j.val, 0, 0, 0, 0] S1x8x4x128x512 := ⟨rfl, fun k => by
    have := j.isLt
    fin_cases k <;> simp [S32x8x4x128x512, S1x8x4x128x512]⟩
  rw [Host.dynamicUpdateSlice_eq_updateSlice _ _ _ _ ![j.val, 0, 0, 0, 0] (fun k => by
    rw [hst k]
    have := hs.2 k
    have e : ∀ x y : ℕ, x ≤ y → (min (max (x : Int) 0) (y : Int)).toNat = x := fun x y h => by omega
    exact e _ _ (by omega)) hs]
  pointwise
  by_cases hn : n = j
  · rw [if_pos hn, dif_pos (by subst hn; omega)]
  · rw [if_neg hn, dif_neg (fun hc => hn (Fin.ext (by omega)))]

variable (s : State Ideal)

theorem q_ix (b : Fin 8) (h : Fin 4) (i : Fin 128) (d : Fin 256) (j : Fin 32) : b5 j.val s (ix4 b h i d) = s.main_v163_0 (ix5 j b h i d) :=
  slice256 _ j _ (start_eq j) b h i d
theorem k_ix (b : Fin 8) (h : Fin 4) (i : Fin 128) (d : Fin 256) (j : Fin 32) : b11 j.val s (ix4 b h i d) = s.main_v163_1 (ix5 j b h i d) :=
  slice256 _ j _ (start_eq j) b h i d
theorem v_ix (b : Fin 8) (h : Fin 4) (i : Fin 128) (d : Fin 512) (j : Fin 32) : b17 j.val s (ix4 b h i d) = s.main_v163_2 (ix5 j b h i d) :=
  slice512 _ j _ (start_eq j) b h i d

theorem st_ix (b : Fin 8) (h : Fin 4) (d : Fin 256) (e : Fin 512) (j : Fin 32) : b32 j.val s (ix4 b h d e) =
    s.main_v163_8 (ix4 b h d e) * ((γ h ^ 128 : ℝ) : EReal) + ∑ i : Fin 128, s.main_v163_1 (ix5 j b h i d)
      * (s.main_v163_2 (ix5 j b h i e) * ((γ h ^ (127 - i.val) : ℝ) : EReal)) := by
  unfold b32 b31 b30 b29 b28 b27
  pointwise
  simp only [zeta_read, decay_read]
  simp only [k_ix, v_ix]

theorem out_ix (b : Fin 8) (h : Fin 4) (i : Fin 128) (e : Fin 512) (j : Fin 32) : b26 j.val s (ix4 b h i e) =
    (∑ x : Fin 128, ((∑ d : Fin 256, s.main_v163_0 (ix5 j b h i d) * s.main_v163_1 (ix5 j b h x d))
        * ((if x.val ≤ i.val then γ h ^ (i.val - x.val) else 0 : ℝ) : EReal)) * s.main_v163_2 (ix5 j b h x e))
      + (∑ d : Fin 256, s.main_v163_0 (ix5 j b h i d) * s.main_v163_8 (ix4 b h d e)) * ((γ h ^ (i.val + 1) : ℝ) : EReal) := by
  unfold b26 b25 b24 b23 b22 b21 b20 b19 b18
  pointwise
  simp only [xi_read, intra_read]
  simp only [k_ix, v_ix, q_ix]

theorem outs_ix (n : Fin 32) (b : Fin 8) (h : Fin 4) (i : Fin 128) (e : Fin 512) (j : Fin 32) : b38 j.val s (ix5 n b h i e) =
    if n = j then b26 j.val s (ix4 b h i e) else s.main_v163_9 (ix5 n b h i e) := by
  unfold b38 b33
  exact update512 _ _ j n _ (start_eq j) b h i e

end Cert.RefStep

end
-- ==== Proof.Ret.RefVal.lean ====
/- The reference's result at an index: its trips take the state and the outputs chunk by chunk. -/
module

public import Idealize.ShloMosaic.Lib.Pipeline.ValueKit
public import proofs.«01_k».proof.Proof.Ret.Chunk
public import proofs.«01_k».proof.Proof.Ret.RefStep

@[expose] public section

set_option maxRecDepth 16384

noncomputable section

namespace Cert.RefVal

open Idealize.ShloMosaic Cert.Recur Cert.Spec Cert.Tab Cert.Chunk Cert.RetentionRefIdeal Cert.RetentionRefIdeal.Step Cert.RetentionRefIdeal.Gen
open Cert.RefStep Cert.RefRead

variable (X : A3 8 4096 1024) (P : (⟨2, ![8, 4096]⟩ : Shape).Idx → BitVec 32) (M : A2 8 6144) (G : A1 1024)
  (W : A2 1024 6144) (O : A2 2048 1024)

/-- After `n` trips. -/
structure Inv (n : ℕ) (s : State Ideal) : Prop where
  st : ∀ b h d e, s.main_v163_8 (ix4 b h d e) = sE X P M G W b (n * 128) h d e
  out : ∀ (j : Fin 32) b h (i : Fin 128) e, j.val < n → s.main_v163_9 (ix5 j b h i e) = oE X P M G W b (j.val * 128 + i.val) h e
  q : s.main_v163_0 = A_main_v110 (F := Ideal) X P M G W
  k : s.main_v163_1 = A_main_v112 (F := Ideal) X P M G W
  v : s.main_v163_2 = A_main_v114 (F := Ideal) X P M G W

theorem inv_init : Inv X P M G W 0 (init (F := Ideal) X P M G W) where
  st b h d e := by
    show K_main_v161 (F := Ideal) (ix4 b h d e) = _
    unfold K_main_v161 K_main_cst_22 sE
    pointwise
    rw [St_zero, EReal.coe_zero]
  out j b h i e hj := absurd hj (Nat.not_lt_zero _)
  q := rfl
  k := rfl
  v := rfl

variable {X M G W}

theorem inv_step (H : Fin4 X M G W) (n : Fin 32) (s : State Ideal) (I : Inv X P M G W n.val s) :
    Inv X P M G W (n.val + 1) (step n.val s) where
  st b h d e := by
    rw [step_main_v163_8, st_ix, I.st, I.k, I.v, Nat.succ_mul]
    simp only [k_read, v_read, H.k, H.v]
    exact st_right (γ h) (kR X P M G W b h) (vR X M G W b h e) (n.val * 128) 128 d
  out j b h i e hj := by
    rw [step_main_v163_9, outs_ix]
    by_cases hn : j = n
    · subst hn
      rw [if_pos rfl, out_ix, I.q, I.k, I.v]
      simp only [I.st, q_read, k_read, v_read, H.q, H.k, H.v]
      exact out_right (γ h) (qR X P M G W b h) (kR X P M G W b h) (vR X M G W b h e) (j.val * 128) 128 i
    · rw [if_neg hn]
      exact I.out j b h i e (by have : j.val ≠ n.val := fun h => hn (Fin.ext h); omega)
  q := I.q
  k := I.k
  v := I.v

/-- What the operations after the loop make of the heads' outputs and the projection. -/
def tail (a : S8x4096x4x512.Idx → EReal) (p : S8x4096x6144.Idx → EReal) (x : A3 8 4096 1024) (m : A2 8 6144) (w : A2 2048 1024) :
    A3 8 4096 1024 :=
  let g : Vec Ideal S8x4096x2048 .f32 := extractStridedSlice S8x4096x2048 ![0, 0, 4096] p slices_S8x4096x6144_S8x4096x2048_0_0_4096
  addf (F := Ideal) (φ := .f32) x (mulf (F := Ideal) (φ := .f32) (broadcastInDim S8x4096x1024 ![0, 1, 2] bcast_S8x1x1024_S8x4096x1024_0_1_2 (broadcastInDim S8x1x1024 ![0, 2] bcast_S8x1024_S8x1x1024_0_2 (extractStridedSlice S8x1024 ![0, 2048] m slices_S8x6144_S8x1024_0_2048)))
    (Host.dotGeneral (φ₁ := .f32) (φ₂ := .f32) dot_S8x4096x2048_S2048x1024_S8x4096x1024_2_0_01_1_n_n none (mulf (shapeCast S8x4096x2048 (mulf a (broadcastInDim S8x4096x4x512 ![0, 1, 2, 3] bcast_S8x4096x4x1_S8x4096x4x512_0_1_2_3 (Host.rsqrt (addf (Host.divf (broadcastInDim S8x4096x4x1 ![0, 1, 2] bcast_S8x4096x4_S8x4096x4x1_0_1_2 (Host.reduceAdd (mulf a a) (constant S_ .f32 0x00000000#32) reducesTo_S8x4096x4x512_S8x4096x4_d3 h_S_)) (broadcastInDim S8x4096x4x1 ![] bcast_S_S8x4096x4x1 (constant S_ .f32 0x44000000#32))) (broadcastInDim S8x4096x4x1 ![] bcast_S_S8x4096x4x1 (constant S_ .f32 0x358637BD#32)))))) shapeCasts_S8x4096x4x512_S8x4096x2048) (mulf g (Host.divf (broadcastInDim S8x4096x2048 ![] bcast_S_S8x4096x2048 (constant S_ .f32 0x3F800000#32)) (addf (broadcastInDim S8x4096x2048 ![] bcast_S_S8x4096x2048 (constant S_ .f32 0x3F800000#32)) (Host.exp (Host.negf g)))))) w))

theorem tail_ix (a : S8x4096x4x512.Idx → EReal) (p : S8x4096x6144.Idx → EReal) (x : A3 8 4096 1024) (m : A2 8 6144) (w : A2 2048 1024)
    (b : Fin 8) (t : Fin 4096) (i : Fin 1024) : tail a p x m w (ix3 b t i) =
    x (ix3 b t i) + m (ix2 b ⟨2048 + i.val, by omega⟩) * ∑ z : Fin 2048,
      (a (ix4 b t ⟨z.val / 512, by omega⟩ ⟨z.val % 512, by omega⟩) * Ideal.rsqrt (Ideal.div
        (∑ y : Fin 512, a (ix4 b t ⟨z.val / 512, by omega⟩ y) * a (ix4 b t ⟨z.val / 512, by omega⟩ y)) (Ideal.ofBits .f32 0x44000000#32) + eps)
      * (p (ix3 b t ⟨4096 + z.val, by omega⟩) * Ideal.logistic (p (ix3 b t ⟨4096 + z.val, by omega⟩)))) * w (ix2 z i) := by
  unfold tail
  pointwise
  rfl

theorem res_ix (s : State Ideal) (b : Fin 8) (t : Fin 4096) (i : Fin 1024) (I : Inv X P M G W 32 s) :
    R_main_v218 (F := Ideal) s X M G W O (ix3 b t i) = outE X P M G W O b t i := by
  have ho : ∀ (b : Fin 8) (t : Fin 4096) (h : Fin 4) (e : Fin 512),
      shapeCast S8x4096x4x512 (transpose S8x32x128x4x512 [1, 0, 3, 2, 4] s.main_v163_9
        transposes_S32x8x4x128x512_S8x32x128x4x512_1_0_3_2_4) shapeCasts_S8x32x128x4x512_S8x4096x4x512 (ix4 b t h e)
        = oE X P M G W b t.val h e := fun b t h e => by
    pointwise
    rw [I.out _ _ _ _ _ (by show t.val / 128 < 32; omega)]
    congr 1
    show t.val / 128 * 128 + t.val % 128 = t.val
    omega
  refine (tail_ix _ (A_main_v31 (F := Ideal) X P M G W) X M O b t i).trans ?_
  simp only [ho, proj]
  rfl

end Cert.RefVal

end
-- ==== Proof.Exp.Kit.lean ====
/- The experts call up to its body: what the host leaves in every buffer before the grid starts, the two
   prefetched tables read off it, the blocks the windows stage, and the frame read back from a run.
   Everything is over any number format `F`, since the kernel and its idealization share one text. -/
module

public import proofs.«01_k».proof.Proof.Gen.ExpertsIdeal.Launch
public import proofs.«01_k».proof.Proof.Gen.ExpertsIdeal.Skeleton
public import Idealize.ShloMosaic.Lib.Pipeline.Kit
public import Idealize.ShloMosaic.Lib.Pipeline.FrameBody
public import Idealize.ShloMosaic.Lib.Ring
public import Idealize.ShloMosaic.Lib.Tactic
public import Idealize.ShloMosaic.Lib.Claim

@[expose] public section

set_option maxRecDepth 16384

noncomputable section

namespace Cert.Exp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ExpertsIdeal Cert.ExpertsIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result's window is written back at every grid point, whatever the tables hold. -/
theorem flush3 (a : (pcfg0 (F := F)).Adm) : ∀ t : Fin (cfg0 a).N, ((cfg0 a).win 3).flush t = true :=
  (fun t => (Pipeline.Window.flushOf_reads cc0_transform_3 reads0_3 hreads0_3 0 (by decide) (by decide) (Pipeline.Window.sep_of_coord cc0_transform_3 0 0 (fun _ => rfl) (by decide)) (P := 1) (m := 0) (by decide) rfl t).mpr (Nat.mod_one _) : ∀ t : Fin grid0.N, Pipeline.Window.flushOf grid0 true cc0_transform_3 t = true)

/-- The kernel body at point `t`, on the buffers the pipeline is on there. -/
abbrev bodyAt (a : (pcfg0 (F := F)).Adm) (t : Fin (cfg0 a).N) : Prog (TpuEff nD τ sig (Elt F) Λ₀ .tc) PUnit :=
  cc0_experts (grid0.coords t) (Memref.whole main_v26) (Memref.isWhole_whole _) (Memref.whole main_v28) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3))

/-- The host operations ahead of the grid, stretch by stretch. -/
abbrev hostOps : List (List (HloOp τ sig (Elt F))) := [hostOps0, hostOps0_1, hostOps0_2, hostOps0_3, hostOps0_4, hostOps0_5]

/-- What core `c`'s buffers hold when the grid starts. -/
abbrev V (c : Dev nD) (b : Ref sig .tc) : Buf (Elt F) ((c : Thread nD τ).loc b) :=
  StableHlo.after (List.flatten hostOps) (fun b => m (c, b)) b

set_option maxHeartbeats 800000 in
/-- The host operations, then the grid: the printed main function. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main hostOps
    (by simp only [List.Forall]; exact ⟨hostOps0_sub, hostOps0_1_sub, hostOps0_2_sub, hostOps0_3_sub, hostOps0_4_sub, hostOps0_5_sub⟩)
    (by simp only [List.Forall]; repeat' constructor) main_chain

/-- No host operation writes an argument. -/
theorem V_args (c : Dev nD) :
    V m c main_arg0 = m ((c : Thread nD τ).loc main_arg0) ∧ V m c main_arg1 = m ((c : Thread nD τ).loc main_arg1)
    ∧ V m c main_arg2 = m ((c : Thread nD τ).loc main_arg2) ∧ V m c main_arg3 = m ((c : Thread nD τ).loc main_arg3) := by
  refine ⟨?_, ?_, ?_, ?_⟩ <;>
    exact StableHlo.after_of_forall_not_mem _ _ (List.forall_iff_forall_mem.mp (by
      simp only [hostOps, hostOps0, hostOps0_1, hostOps0_2, hostOps0_3, hostOps0_4, hostOps0_5, List.flatten_cons, List.flatten_nil, List.append_nil, List.cons_append,
        List.nil_append, List.Forall, StableHlo.nullary_writes, StableHlo.unary_writes, StableHlo.binary_writes, StableHlo.ternary_writes, StableHlo.reshape_writes, StableHlo.unaryIndexed_writes, Finset.mem_singleton]
      repeat' apply And.intro
      all_goals exact StableHlo.devRef_ne_of_ne (by decide)))

/-- The tables' contents when the grid starts (there is one device). -/
def tbl : pre0.Contents (Elt F) := fun j => V m (0 : Dev nD) (pre0.ref j)
theorem V_pre (c : Dev nD) (j : Fin 2) : V m c (pre0.ref j) = tbl m j := by
  obtain rfl : c = 0 := Subsingleton.elim _ _; rfl

/-- Every block the tables point at lies inside its array. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

/-- The two tables as the body gets them: the tiles' experts, and the number of tiles in use. -/
abbrev teM : Memref sig .tc .smem S136 .i32 := Memref.whole main_v26
abbrev hteM : teM.IsWhole := Memref.isWhole_whole _
abbrev nuM : Memref sig .tc .smem S1 .i32 := Memref.whole main_v28
abbrev hnuM : nuM.IsWhole := Memref.isWhole_whole _

/-- A table's buffer on core `c`, and half of it held at `f`: the pipeline keeps the other half. -/
abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare.right} f

theorem PhiT_eq (c : Dev nD) : (Pipeline.ΦT pre0 (tbl m) c : sProp 𝕄) = iprop(tbPt c teM (tbl m 0) ∗ tbPt c nuM (tbl m 1)) := by
  unfold Pipeline.ΦT Pipeline.prefHeld
  rw [show (Finset.univ : Finset (Fin 2)) = insert (0 : Fin 2) {(1 : Fin 2)} from by decide,
    bigSep_insert (by decide), bigSep_singleton]
  rfl

/-- Window `w`'s block at point `t`, read off its array as the grid finds it. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- An input's buffer holds its block at every point, whether it was fetched there or earlier. -/
theorem before_of (hO : Ok m) {c : Dev nD} (dat : Dat τ (Elt F) Unit ℕ (UR sig nD τ) ℕ (cfgM m hO) c) (hA : ∀ w, dat.A w = V m c (Pipeline.arrRef spec0 w)) :
    ((∀ t, dat.after 0 t = iblk m hO c 0 t) → ∀ t d, dat.before 0 t d = iblk m hO c 0 t)
    ∧ ((∀ t, dat.after 1 t = iblk m hO c 1 t) → ∀ t d, dat.before 1 t d = iblk m hO c 1 t)
    ∧ ((∀ t, dat.after 2 t = iblk m hO c 2 t) → ∀ t d, dat.before 2 t d = iblk m hO c 2 t) := by
  refine ⟨fun hafter t d => ?_, fun hafter t d => ?_, fun hafter t d => ?_⟩
  · exact (dat.before_in_eq_fetched 0 rfl (fun _ => rfl) (fun _ _ _ => rfl) (fun t => by rw [hafter]; unfold Dat.blockOf iblk; rw [hA]; try rfl) t d).trans
      (by unfold Dat.fetched Dat.blockOf iblk; rw [hA]; try rfl)
  · exact (dat.before_in_eq_fetched 1 rfl (fun _ => rfl) (fun _ _ _ => rfl) (fun t => by rw [hafter]; unfold Dat.blockOf iblk; rw [hA]; try rfl) t d).trans
      (by unfold Dat.fetched Dat.blockOf iblk; rw [hA]; try rfl)
  · exact (dat.before_in_eq_fetched 2 rfl (fun _ => rfl) (fun _ _ _ => rfl) (fun t => by rw [hafter]; unfold Dat.blockOf iblk; rw [hA]; try rfl) t d).trans
      (by unfold Dat.fetched Dat.blockOf iblk; rw [hA]; try rfl)

/-- What a run of the pipeline says of the arguments: they end as they began. -/
theorem args_of (hO : Ok m) (dats : (p : Fin 1) → (c : Dev nD) → Dat τ (Elt F) Unit ℕ (UR sig nD τ) ℕ ((Pipeline.pin pcfgs fun _ => adm m hO) p) c)
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (by decide : main_arg0 ∈ Pipeline.restRefs sig spec0)).trans (V_args m c).1,
      ((h c).2 main_arg1 (by decide : main_arg1 ∈ Pipeline.restRefs sig spec0)).trans (V_args m c).2.1,
      ((h c).2 main_arg2 (by decide : main_arg2 ∈ Pipeline.restRefs sig spec0)).trans (V_args m c).2.2.1,
      ((h c).2 main_arg3 (by decide : main_arg3 ∈ Pipeline.restRefs sig spec0)).trans (V_args m c).2.2.2⟩) h

/-- One buffer of the result's window, through which its contents are stated. -/
abbrev VO : View sig .tc .vmem S4096x128 .f32 := (Memref.whole cc0_stg3_0 : Memref sig .tc .vmem S4096x128 .f32).view
/-- Each window's buffer at point `t`, and that it is a whole one. -/
abbrev ms0 (hO : Ok m) (t : Fin (cfgM m hO).N) : Memref sig .tc .vmem S4096x128 .f32 := spec0_0.stage ((cfgM m hO).slots t 0)
abbrev hs0 (hO : Ok m) (t : Fin (cfgM m hO).N) : (ms0 m hO t).IsWhole := hstage0_0 (((cfgM m hO).slots t 0).cast nbuf0_0)
abbrev ms1 (hO : Ok m) (t : Fin (cfgM m hO).N) : Memref sig .tc .vmem S1x1024x5632 .bf16 := spec0_1.stage ((cfgM m hO).slots t 1)
abbrev hs1 (hO : Ok m) (t : Fin (cfgM m hO).N) : (ms1 m hO t).IsWhole := hstage0_1 (((cfgM m hO).slots t 1).cast nbuf0_1)
abbrev ms2 (hO : Ok m) (t : Fin (cfgM m hO).N) : Memref sig .tc .vmem S1x2816x1024 .bf16 := spec0_2.stage ((cfgM m hO).slots t 2)
abbrev hs2 (hO : Ok m) (t : Fin (cfgM m hO).N) : (ms2 m hO t).IsWhole := hstage0_2 (((cfgM m hO).slots t 2).cast nbuf0_2)
abbrev ms3 (hO : Ok m) (t : Fin (cfgM m hO).N) : Memref sig .tc .vmem S4096x128 .f32 := spec0_3.stage ((cfgM m hO).slots t 3)
abbrev hs3 (hO : Ok m) (t : Fin (cfgM m hO).N) : (ms3 m hO t).IsWhole := hstage0_3 (((cfgM m hO).slots t 3).cast nbuf0_3)

end Cert.Exp

end
-- ==== Proof.Exp.Run.lean ====
/- The experts body run once over each of its two branches: a tile in use, and one that is not. -/
module

public import proofs.«01_k».proof.Proof.Exp.Kit

@[expose] public section

set_option maxRecDepth 16384

noncomputable section

namespace Cert.Exp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.ExpertsIdeal Cert.ExpertsIdeal.Gen

variable {F : FTy → Type} [FloatOps F]

local notation "𝕄" => MT nD τ sig Unit (Elt F) ℕ (UR sig nD τ) ℕ

/-- The number of tiles in use, as the body reads it off its table. -/
def nuWord (c : Dev nD) (xt1 : TbBuf (F := F) c nuM) : BitVec 32 :=
  nuM.view.readAt (Elt F) (Rect.unit (s := S1) ![0] S1.size inb_S1_S1_0).toLoadRect xt1 (Shape.Idx.first (by decide))

set_option maxHeartbeats 1000000 in
/-- A tile in use: the pieces its stores leave in the result's buffer, and that the body runs to them, every input left
    as it was. -/
noncomputable def runUsed (c : Dev nD) (i : grid0.Coords) (arg3 : Memref sig .tc .vmem S4096x128 .f32) (harg3 : arg3.IsWhole) (arg4 : Memref sig .tc .vmem S1x1024x5632 .bf16) (harg4 : arg4.IsWhole) (arg5 : Memref sig .tc .vmem S1x2816x1024 .bf16) (harg5 : arg5.IsWhole) (arg6 : Memref sig .tc .vmem S4096x128 .f32) (harg6 : arg6.IsWhole)
    (x0 : Vec F S4096x128 .f32) (x1 : Vec F S1x1024x5632 .bf16) (x2 : Vec F S1x2816x1024 .bf16) (xt0 : TbBuf (F := F) c teM) (xt1 : TbBuf (F := F) c nuM)
    (h1 : k0_cond1 i (nuWord c xt1) = 1#1) (h2 : ¬ k0_cond2 i (nuWord c xt1) = 1#1) :
    { L3 : List (View.Piece (Elt F) S4096x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ tbPt c teM xt0 ∗ tbPt c nuM xt1
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ tbPt c teM xt0 ∗ tbPt c nuM xt1) -∗ K ⟨⟩))
          ⊢ wp frame (wpE (defs₀ (F := F)) Variants.none c none) E (cc0_experts i teM hteM nuM hnuM arg3 harg3 arg4 harg4 arg5 harg5 arg6 harg6) K } := by
  refine ⟨?_, fun E K => ?run⟩
  case run =>
    simp only [cc0_experts_eq_skeleton]; unfold cc0_experts_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%d3, %f3, -, H3⟩, HT0, HT1, Hk⟩
    obtain rfl := harg3.eq_unread hf0; obtain rfl := harg4.eq_unread hf1; obtain rfl := harg5.eq_unread hf2
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HT0]; · iexact HT0
    iexact HT1

set_option maxHeartbeats 1000000 in
/-- A tile not in use: the one piece its store leaves in the result's buffer, and that the body runs to it, every input left
    as it was. -/
noncomputable def runIdle (c : Dev nD) (i : grid0.Coords) (arg3 : Memref sig .tc .vmem S4096x128 .f32) (harg3 : arg3.IsWhole) (arg4 : Memref sig .tc .vmem S1x1024x5632 .bf16) (harg4 : arg4.IsWhole) (arg5 : Memref sig .tc .vmem S1x2816x1024 .bf16) (harg5 : arg5.IsWhole) (arg6 : Memref sig .tc .vmem S4096x128 .f32) (harg6 : arg6.IsWhole)
    (x0 : Vec F S4096x128 .f32) (x1 : Vec F S1x1024x5632 .bf16) (x2 : Vec F S1x2816x1024 .bf16) (xt0 : TbBuf (F := F) c teM) (xt1 : TbBuf (F := F) c nuM)
    (h1 : ¬ k0_cond1 i (nuWord c xt1) = 1#1) (h2 : k0_cond2 i (nuWord c xt1) = 1#1) :
    { L3 : List (View.Piece (Elt F) S4096x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ tbPt c teM xt0 ∗ tbPt c nuM xt1
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ tbPt c teM xt0 ∗ tbPt c nuM xt1) -∗ K ⟨⟩))
          ⊢ wp frame (wpE (defs₀ (F := F)) Variants.none c none) E (cc0_experts i teM hteM nuM hnuM arg3 harg3 arg4 harg4 arg5 harg5 arg6 harg6) K } := by
  refine ⟨?_, fun E K => ?run⟩
  case run =>
    simp only [cc0_experts_eq_skeleton]; unfold cc0_experts_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%d3, %f3, -, H3⟩, HT0, HT1, Hk⟩
    obtain rfl := harg3.eq_unread hf0; obtain rfl := harg4.eq_unread hf1; obtain rfl := harg5.eq_unread hf2
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HT0]; · iexact HT0
    iexact HT1

/-- The two conditions are opposite. -/
theorem cond_iff (i : grid0.Coords) (v : BitVec 32) : k0_cond2 i v = 1#1 ↔ ¬ k0_cond1 i v = 1#1 := by
  have e : v.sle (BitVec.ofNat 32 (i 0).val) = !(BitVec.ofNat 32 (i 0).val).slt v := by
    simp only [BitVec.sle, BitVec.slt]; by_cases h : (BitVec.ofNat 32 (i 0).val).toInt < v.toInt <;> simp [h]; omega
  unfold k0_cond1 k0_cond2
  simp only [Scalar.cmpi, Scalar.extui, IntOp.cmpi, e]
  cases (BitVec.ofNat 32 (i 0).val).slt v <;> decide

/-- The eight strided pieces of a tile in use: piece `k` is the rows `8 r + k`. -/
theorem used_piece (c : Dev nD) (i : grid0.Coords) (arg3 : Memref sig .tc .vmem S4096x128 .f32) (harg3 : arg3.IsWhole) (arg4 : Memref sig .tc .vmem S1x1024x5632 .bf16) (harg4 : arg4.IsWhole) (arg5 : Memref sig .tc .vmem S1x2816x1024 .bf16) (harg5 : arg5.IsWhole) (arg6 : Memref sig .tc .vmem S4096x128 .f32) (harg6 : arg6.IsWhole)
    (x0 : Vec F S4096x128 .f32) (x1 : Vec F S1x1024x5632 .bf16) (x2 : Vec F S1x2816x1024 .bf16) (xt0 : TbBuf (F := F) c teM) (xt1 : TbBuf (F := F) c nuM)
    (h1 : k0_cond1 i (nuWord c xt1) = 1#1) (h2 : ¬ k0_cond2 i (nuWord c xt1) = 1#1) (k : Fin 8) :
    ∃ pc ∈ (runUsed c i arg3 harg3 arg4 harg4 arg5 harg5 arg6 harg6 x0 x1 x2 xt0 xt1 h1 h2).1,
      pc.1.off = ![k.val, 0] ∧ pc.1.size = S512x128.size ∧ pc.1.stride = ![8, 1] := by
  unfold runUsed
  fin_cases k
  · exact ⟨_, .tail _ (.tail _ (.tail _ (.tail _ (.tail _ (.tail _ (.tail _ (.head _))))))), rfl, rfl, rfl⟩
  · exact ⟨_, .tail _ (.tail _ (.tail _ (.tail _ (.tail _ (.tail _ (.head _)))))), rfl, rfl, rfl⟩
  · exact ⟨_, .tail _ (.tail _ (.tail _ (.tail _ (.tail _ (.head _))))), rfl, rfl, rfl⟩
  · exact ⟨_, .tail _ (.tail _ (.tail _ (.tail _ (.head _)))), rfl, rfl, rfl⟩
  · exact ⟨_, .tail _ (.tail _ (.tail _ (.head _))), rfl, rfl, rfl⟩
  · exact ⟨_, .tail _ (.tail _ (.head _)), rfl, rfl, rfl⟩
  · exact ⟨_, .tail _ (.head _), rfl, rfl, rfl⟩
  · exact ⟨_, .head _, rfl, rfl, rfl⟩

/-- They cover the block. -/
theorem used_cover (c : Dev nD) (i : grid0.Coords) (arg3 : Memref sig .tc .vmem S4096x128 .f32) (harg3 : arg3.IsWhole) (arg4 : Memref sig .tc .vmem S1x1024x5632 .bf16) (harg4 : arg4.IsWhole) (arg5 : Memref sig .tc .vmem S1x2816x1024 .bf16) (harg5 : arg5.IsWhole) (arg6 : Memref sig .tc .vmem S4096x128 .f32) (harg6 : arg6.IsWhole)
    (x0 : Vec F S4096x128 .f32) (x1 : Vec F S1x1024x5632 .bf16) (x2 : Vec F S1x2816x1024 .bf16) (xt0 : TbBuf (F := F) c teM) (xt1 : TbBuf (F := F) c nuM)
    (h1 : k0_cond1 i (nuWord c xt1) = 1#1) (h2 : ¬ k0_cond2 i (nuWord c xt1) = 1#1) (y : S4096x128.Idx) :
    ∃ pc ∈ (runUsed c i arg3 harg3 arg4 harg4 arg5 harg5 arg6 harg6 x0 x1 x2 xt0 xt1 h1 h2).1, y ∈ pc.1.set := by
  have b0 : (y 0).val < 4096 := (y 0).isLt
  have b1 : (y 1).val < 128 := (y 1).isLt
  obtain ⟨pc, hpc, ho, hs, ht⟩ := used_piece c i arg3 harg3 arg4 harg4 arg5 harg5 arg6 harg6 x0 x1 x2 xt0 xt1 h1 h2 ⟨(y 0).val % 8, Nat.mod_lt _ (by decide)⟩
  refine ⟨pc, hpc, (LoadRect.mem_set _).mpr fun a => ?_⟩
  rw [ho, hs, ht]
  match a with
  | ⟨0, _⟩ => exact ⟨(y 0).val / 8, by show _ / 8 < 512; omega, by show (y 0).val = (y 0).val % 8 + 8 * ((y 0).val / 8); omega⟩
  | ⟨1, _⟩ => exact ⟨(y 1).val, b1, by show (y 1).val = 0 + 1 * (y 1).val; omega⟩

/-- The one piece of a tile not in use covers the block. -/
theorem idle_cover (c : Dev nD) (i : grid0.Coords) (arg3 : Memref sig .tc .vmem S4096x128 .f32) (harg3 : arg3.IsWhole) (arg4 : Memref sig .tc .vmem S1x1024x5632 .bf16) (harg4 : arg4.IsWhole) (arg5 : Memref sig .tc .vmem S1x2816x1024 .bf16) (harg5 : arg5.IsWhole) (arg6 : Memref sig .tc .vmem S4096x128 .f32) (harg6 : arg6.IsWhole)
    (x0 : Vec F S4096x128 .f32) (x1 : Vec F S1x1024x5632 .bf16) (x2 : Vec F S1x2816x1024 .bf16) (xt0 : TbBuf (F := F) c teM) (xt1 : TbBuf (F := F) c nuM)
    (h1 : ¬ k0_cond1 i (nuWord c xt1) = 1#1) (h2 : k0_cond2 i (nuWord c xt1) = 1#1) (y : S4096x128.Idx) :
    ∃ pc ∈ (runIdle c i arg3 harg3 arg4 harg4 arg5 harg5 arg6 harg6 x0 x1 x2 xt0 xt1 h1 h2).1, y ∈ pc.1.set :=
  View.cover_of_tiledL (runIdle c i arg3 harg3 arg4 harg4 arg5 harg5 arg6 harg6 x0 x1 x2 xt0 xt1 h1 h2).1 S4096x128.size (by sl_kernel_rfl) y

end Cert.Exp

end
-- ==== Proof.Exp.Frame.lean ====
/- The experts call as a pipeline: what every window's buffer holds at every point, the body's obligation, and the whole
   program's run with its counters at zero. -/
module

public import proofs.«01_k».proof.Proof.Exp.Run

@[expose] public section

set_option maxRecDepth 16384

noncomputable section

namespace Cert.Exp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ExpertsIdeal Cert.ExpertsIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Point `t`'s tile is in use. -/
abbrev Used (c : Dev nD) (i : grid0.Coords) : Prop := k0_cond1 i (nuWord c (tbl m 1)) = 1#1

/-- What the pieces of a tile in use make of the block. -/
def usedOut (hO : Ok m) (c : Dev nD) (t : Fin (cfgM m hO).N) (h : Used m c (grid0.coords t)) : Vec F S4096x128 .f32 :=
  VO.read (Elt F) (VO.writes (Elt F) VO.junk (runUsed c (grid0.coords t) (ms0 m hO t) (hs0 m hO t) (ms1 m hO t) (hs1 m hO t) (ms2 m hO t) (hs2 m hO t) (ms3 m hO t) (hs3 m hO t) (iblk m hO c 0 t) (iblk m hO c 1 t) (iblk m hO c 2 t) (tbl m 0) (tbl m 1) h (fun h' => (cond_iff _ _).mp h' h)).1)

/-- What the one piece of a tile not in use makes of it. -/
def idleOut (hO : Ok m) (c : Dev nD) (t : Fin (cfgM m hO).N) (h : ¬ Used m c (grid0.coords t)) : Vec F S4096x128 .f32 :=
  VO.read (Elt F) (VO.writes (Elt F) VO.junk (runIdle c (grid0.coords t) (ms0 m hO t) (hs0 m hO t) (ms1 m hO t) (hs1 m hO t) (ms2 m hO t) (hs2 m hO t) (ms3 m hO t) (hs3 m hO t) (iblk m hO c 0 t) (iblk m hO c 1 t) (iblk m hO c 2 t) (tbl m 0) (tbl m 1) h ((cond_iff _ _).mpr h)).1)

/-- What the result's buffer holds after point `t`. -/
def outsAt (hO : Ok m) (c : Dev nD) (t : Fin (cfgM m hO).N) : Vec F S4096x128 .f32 :=
  if h : Used m c (grid0.coords t) then usedOut m hO c t h else idleOut m hO c t h

/-- The pipeline's data: the arrays as the grid finds them, each input's buffer at its block after the body, the result's
    at `outsAt`; the tables' halves pass through. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => outsAt m hO c t
  Φ _ := iprop(Pipeline.ΦA spec0 c ∗ Pipeline.ΦT pre0 (tbl m) c)
  q _ := fullShare
  owed _ := 0

theorem A_eq (hO : Ok m) (c : Dev nD) (w : Fin (cfgM m hO).W) : (dats m hO 0 c).A w = V m c (Pipeline.arrRef spec0 w) := by
  dsimp only [dats]
theorem after0 (hO : Ok m) (c : Dev nD) (t : Fin (cfgM m hO).N) : (dats m hO 0 c).after 0 t = iblk m hO c 0 t := by dsimp only [dats]; try rfl
theorem after1 (hO : Ok m) (c : Dev nD) (t : Fin (cfgM m hO).N) : (dats m hO 0 c).after 1 t = iblk m hO c 1 t := by dsimp only [dats]; try rfl
theorem after2 (hO : Ok m) (c : Dev nD) (t : Fin (cfgM m hO).N) : (dats m hO 0 c).after 2 t = iblk m hO c 2 t := by dsimp only [dats]; try rfl
theorem after3 (hO : Ok m) (c : Dev nD) (t : Fin (cfgM m hO).N) : (dats m hO 0 c).after 3 t = outsAt m hO c t := by dsimp only [dats]; try rfl

/-- What the body is called with at point `t`, window by window, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0 m hO t) fullShare ((dats m hO 0 c).before 0 t d))
    ∗ (∃ d, owns (c : Thread nD τ) (ms1 m hO t) fullShare ((dats m hO 0 c).before 1 t d))
    ∗ (∃ d, owns (c : Thread nD τ) (ms2 m hO t) fullShare ((dats m hO 0 c).before 2 t d))
    ∗ (∃ d, owns (c : Thread nD τ) (ms3 m hO t) fullShare ((dats m hO 0 c).before 3 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0 m hO t) fullShare ((dats m hO 0 c).after 0 t)
    ∗ owns (c : Thread nD τ) (ms1 m hO t) fullShare ((dats m hO 0 c).after 1 t)
    ∗ owns (c : Thread nD τ) (ms2 m hO t) fullShare ((dats m hO 0 c).after 2 t)
    ∗ owns (c : Thread nD τ) (ms3 m hO t) fullShare ((dats m hO 0 c).after 3 t))

set_option maxHeartbeats 1000000 in
/-- The body at any point, in use or not. -/
theorem sound_body (hO : Ok m) (c : Dev nD) (t : Fin (cfgM m hO).N) :
    bodyPre m hO c t ⊢ wp frame (wpE (defs₀ (F := F)) Variants.none c none) Set.univ (bodyAt (adm m hO) t) (fun _ => bodyPost m hO c t) := by
  unfold bodyPre bodyPost bodyAt
  have hb := before_of m hO (dats m hO 0 c) (A_eq m hO c)
  simp only [hb.1 (after0 m hO c), hb.2.1 (after1 m hO c), hb.2.2 (after2 m hO c)]
  rw [show (dats m hO 0 c).Φ t.succ = (dats m hO 0 c).Φ t.castSucc from rfl,
    show (dats m hO 0 c).owesAt () t.succ = (dats m hO 0 c).owesAt () t.castSucc from rfl,
    after0, after1, after2, after3]
  rw [show (dats m hO 0 c).Φ t.castSucc = iprop(Pipeline.ΦA spec0 c ∗ Pipeline.ΦT pre0 (tbl m) c) from rfl, PhiT_eq]
  unfold outsAt
  by_cases h : Used m c (grid0.coords t)
  · rw [dif_pos h]
    unfold usedOut
    iintro ⟨⟨HΦ, ⟨HT0, HT1⟩⟩, Ho, ⟨%d0, H0⟩, ⟨%d1, H1⟩, ⟨%d2, H2⟩, ⟨%d3, H3⟩⟩
    iapply ((runUsed c (grid0.coords t) _ _ _ _ _ _ _ _ (iblk m hO c 0 t) (iblk m hO c 1 t) (iblk m hO c 2 t) (tbl m 0) (tbl m 1) h (fun h' => (cond_iff _ _).mp h' h)).2 Set.univ _)
    isplitl [H0]; · iexact H0
    isplitl [H1]; · iexact H1
    isplitl [H2]; · iexact H2
    isplitl [H3]; · iexists _; iexact H3
    isplitl [HT0]; · iexact HT0
    isplitl [HT1]; · iexact HT1
    iintro ⟨H0, H1, H2, ⟨%e3, H3⟩, HT0, HT1⟩
    isplitl [HΦ HT0 HT1]
    · isplitl [HΦ]
      · iexact HΦ
      isplitl [HT0]; · iexact HT0
      iexact HT1
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (used_cover c _ _ _ _ _ _ _ _ _ _ _ _ _ _ _ _)
  · rw [dif_neg h]
    unfold idleOut
    iintro ⟨⟨HΦ, ⟨HT0, HT1⟩⟩, Ho, ⟨%d0, H0⟩, ⟨%d1, H1⟩, ⟨%d2, H2⟩, ⟨%d3, H3⟩⟩
    iapply ((runIdle c (grid0.coords t) _ _ _ _ _ _ _ _ (iblk m hO c 0 t) (iblk m hO c 1 t) (iblk m hO c 2 t) (tbl m 0) (tbl m 1) h ((cond_iff _ _).mpr h)).2 Set.univ _)
    isplitl [H0]; · iexact H0
    isplitl [H1]; · iexact H1
    isplitl [H2]; · iexact H2
    isplitl [H3]; · iexists _; iexact H3
    isplitl [HT0]; · iexact HT0
    isplitl [HT1]; · iexact HT1
    iintro ⟨H0, H1, H2, ⟨%e3, H3⟩, HT0, HT1⟩
    isplitl [HΦ HT0 HT1]
    · isplitl [HΦ]
      · iexact HΦ
      isplitl [HT0]; · iexact HT0
      iexact HT1
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (idle_cover c _ _ _ _ _ _ _ _ _ _ _ _ _ _ _ _)

/-- The body the pipeline calls at point `t`. -/
theorem defs₀_row (hO : Ok m) (t : Fin (cfgM m hO).N) :
    defs₀ (F := F) .tc (cfgM m hO).body ((cfgM m hO).bodyArgs t ((cfgM m hO).slots t)) = bodyAt (adm m hO) t := by
  unfold defs₀; rw [Defs.onTc_tc]

/-- A body's obligation when every window is either never idle at a point or written back there: it may then be stated
    without the idle condition. -/
theorem obligation_of {cfg : Cfg sig Λ₀} {c : Dev nD} (dat : Dat τ (Elt F) Unit ℕ (UR sig nD τ) ℕ cfg c)
    (hl : ∀ w t, cfg.idle w (cfg.grid.coords t) = false ∨ (cfg.win w).flush t = true)
    (h : ∀ t : Fin cfg.N, iprop(dat.Φ t.castSucc ∗ dat.owesAt () t.castSucc
        ∗ bigSep Finset.univ fun w : Fin cfg.W => iprop(∃ d, owns (c : Thread nD τ) ((cfg.win w).stage (cfg.slots t w)) fullShare (dat.before w t d)))
      ⊢ wp frame (wpE (defs₀ (F := F)) Variants.none c none) Set.univ (defs₀ (F := F) .tc cfg.body (cfg.bodyArgs t (cfg.slots t))) fun _ =>
          iprop(dat.Φ t.succ ∗ dat.owesAt () t.succ
            ∗ bigSep Finset.univ fun w : Fin cfg.W => owns (c : Thread nD τ) ((cfg.win w).stage (cfg.slots t w)) fullShare (dat.after w t))) :
    BodyObligation dat (defs₀ (F := F)) Variants.none () Set.univ := fun t => by
  refine triple_restated (h t) rfl .rfl fun _ => sep_mono .rfl (sep_mono .rfl (bigSep_mono fun w _ => ?_))
  have key : ∀ P : sProp 𝕄, P ⊢ P := fun _ => .rfl
  dsimp only
  rcases hl w t with e | e
  · rw [e]
    exact key _
  · rw [e]
    cases cfg.idle w (cfg.grid.coords t) <;> exact key _

/-- No input's window is idle, and the result's is written back at every point. -/
theorem live (hO : Ok m) (w : Fin (cfgM m hO).W) (t : Fin (cfgM m hO).N) :
    (cfgM m hO).idle w ((cfgM m hO).grid.coords t) = false ∨ ((cfgM m hO).win w).flush t = true := by
  match w with
  | ⟨0, _⟩ => exact .inl rfl
  | ⟨1, _⟩ => exact .inl rfl
  | ⟨2, _⟩ => exact .inl rfl
  | ⟨3, _⟩ => exact .inr (flush3 (adm m hO) t)

/-- The body's obligation at every point. -/
theorem body_obligation (hO : Ok m) (c : Dev nD) : BodyObligation (dats (F := F) m hO 0 c) (defs₀ (F := F)) Variants.none () Set.univ :=
  obligation_of (dats m hO 0 c) (live m hO) fun t => by
    rw [bigSep_W0, bigSep_W0, defs₀_row m hO]
    exact sound_body m hO c t

set_option backward.isDefEq.respectTransparency.types false in
/-- The program runs to the pipeline's post, and ends with every counter at zero. -/
theorem run_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hΦ := fun _ _ => rfl)

/-- The run's post without the counters. -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_quiescent m ρ hO)

/-- The frame: the arguments end as they began, and every counter at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (args_of m ρ hO (dats m hO) (run_main m ρ hO)) ((θ_run defs _ _).mono (fun _ h => h.2) (run_quiescent m ρ hO))

end Cert.Exp

end
-- ==== Proof.Exp.Count.lean ====
/- The look-ups of the experts call as whole numbers: how many tiles the experts before and at each one take,
   and the expert of a tile as the number of experts whose tiles end at or before it. -/
module

public import proofs.«01_k».proof.Pre_fits
public import proofs.«01_k».proof.Pre_used
public import proofs.«01_k».proof.Proof.Gen.Pre_fits
public import Idealize.ShloMosaic.Lib.Pipeline.ValueKit
public import Idealize.ShloMosaic.Lib.WordCmp
public import Idealize.ShloMosaic.Lib.Routing.Words

@[expose] public section

noncomputable section

namespace Cert.Count

open Idealize.ShloMosaic Idealize.ShloMosaic.WordCmp

abbrev W0 := (⟨0, ![]⟩ : Shape).Idx → BitVec 32
abbrev W1 (n : ℕ) := (⟨1, ![n]⟩ : Shape).Idx → BitVec 32

/-- The tile at which each expert's tiles end, from the tokens each expert gets: 512 tokens to a tile. -/
def ends (a : W1 8) : W1 8 :=
  Host.reduceWindow (s := ⟨1, ![8]⟩) (t := ⟨1, ![8]⟩) IntOp.addi ![8] ![1] ![7] ![0]
    (Routing.pyDiv Cert.Pre_fits.Gen.facts.bcast_S_S8
      (subi (addi a (broadcastInDim ⟨1, ![8]⟩ ![] Cert.Pre_fits.Gen.facts.bcast_S_S8 (constantI ⟨0, ![]⟩ 32 512#32)))
        (broadcastInDim ⟨1, ![8]⟩ ![] Cert.Pre_fits.Gen.facts.bcast_S_S8 (constantI ⟨0, ![]⟩ 32 1#32)))
      (constantI ⟨0, ![]⟩ 32 512#32))
    (broadcastInDim ⟨0, ![]⟩ ![] Cert.Pre_fits.Gen.facts.bcast_S_S_ (constantI ⟨0, ![]⟩ 32 0#32))
    Cert.Pre_fits.Gen.facts.reduceWindows_S8_S8_w8s1p7_0 Cert.Pre_fits.Gen.facts.h_S_

/-- Where expert `k`'s tiles end, as a whole number. -/
def en (a : W1 8) (k : Fin 8) : ℤ := (ends a (ix1 k)).toInt

/-- How many experts' tiles end at or before tile `i`. -/
def cnt (a : W1 8) (i : ℕ) : ℕ := ∑ k : Fin 8, if en a k ≤ (i : ℤ) then 1 else 0

/-- There is a tile in use, and no expert's tiles end after the last one's. -/
structure Fits (a : W1 8) : Prop where
  one : 1 ≤ en a 7
  le : ∀ k, en a k ≤ en a 7

/-- The last of eight words, cut out of the row. -/
theorem last_word (e : W1 8) (h : (⟨1, ![8]⟩ : Shape).Slices ![7] ⟨1, ![1]⟩) (h' : (⟨1, ![1]⟩ : Shape).ShapeCasts ⟨0, ![]⟩) (i : (⟨0, ![]⟩ : Shape).Idx) :
    shapeCast ⟨0, ![]⟩ (extractStridedSlice ⟨1, ![1]⟩ ![7] e h) h' i = e (ix1 7) := by
  show e _ = _
  refine congrArg e (funext fun a => Fin.ext ?_)
  obtain rfl : a = 0 := Subsingleton.elim _ _
  have := (Shape.reshapeEquiv h' i 0).isLt
  have h1 : (Shape.reshapeEquiv h' i 0).val < 1 := this
  show 7 + (Shape.reshapeEquiv h' i 0).val = 7
  omega

/-- The comparison of the last end with 1, read. -/
theorem one_le (a : W1 8) (h : (⟨1, ![8]⟩ : Shape).Slices ![7] ⟨1, ![1]⟩) (h' : (⟨1, ![1]⟩ : Shape).ShapeCasts ⟨0, ![]⟩)
    (hc : IntOp.cmpi .sge (shapeCast ⟨0, ![]⟩ (extractStridedSlice ⟨1, ![1]⟩ ![7] (ends a) h) h' ix0) 1#32 = 1#1) : 1 ≤ en a 7 := by
  rw [last_word, cmpi_sge_eq, ofBool_decide_eq_one_iff] at hc
  exact hc

theorem used (F : FTy → Type) [FloatOps F] [Cert.Pre_used.Facts] (x : FVec F Cert.Pre_used.S69632x1024 .f32) (a : W1 8)
    (g : FVec F Cert.Pre_used.S8x1024x5632 .f32) (d : FVec F Cert.Pre_used.S8x2816x1024 .f32)
    (h : Cert.Pre_used.fn (F := F) x a g d = fun _ => 1#1) : 1 ≤ en a 7 :=
  one_le a Cert.Pre_used.Facts.slices_S8_S1_7 Cert.Pre_used.Facts.shapeCasts_S1_S_ (congrFun h ix0)

theorem fits (F : FTy → Type) [FloatOps F] [Cert.Pre_fits.Facts] (x : FVec F Cert.Pre_fits.S69632x1024 .f32) (a : W1 8)
    (g : FVec F Cert.Pre_fits.S8x1024x5632 .f32) (d : FVec F Cert.Pre_fits.S8x2816x1024 .f32)
    (h0 : (Cert.Pre_fits.fn (F := F) x a g d).1 = fun _ => 1#1)
    (h1 : (Cert.Pre_fits.fn (F := F) x a g d).2 = fun _ => 1#1) : Fits a where
  one := one_le a Cert.Pre_fits.Facts.slices_S8_S1_7 Cert.Pre_fits.Facts.shapeCasts_S1_S_ (congrFun h0 ix0)
  le k := by
    have h : IntOp.cmpi .sle (ends a (ix1 k)) (broadcastInDim ⟨1, ![8]⟩ ![] Cert.Pre_fits.Facts.bcast_S_S8 (shapeCast ⟨0, ![]⟩ (extractStridedSlice ⟨1, ![1]⟩ ![7] (ends a) Cert.Pre_fits.Facts.slices_S8_S1_7)
      Cert.Pre_fits.Facts.shapeCasts_S1_S_) (ix1 k)) = 1#1 := congrFun h1 (ix1 k)
    rw [broadcastInDim, last_word, cmpi_sle_eq, ofBool_decide_eq_one_iff] at h
    exact h

theorem ite_le (P : Prop) [Decidable P] : (if P then 1 else 0 : ℕ) ≤ 1 := by split_ifs <;> omega

theorem cnt_le (a : W1 8) (i : ℕ) : cnt a i ≤ 8 :=
  (Finset.sum_le_sum fun k _ => ite_le _).trans (by simp)

/-- A tile in use has an expert; a tile past them has none. -/
theorem cnt_lt {a : W1 8} {i : ℕ} (h : (i : ℤ) < en a 7) : cnt a i < 8 := by
  unfold cnt
  rw [Fin.sum_univ_castSucc]
  have : ¬ en a (Fin.last 7) ≤ (i : ℤ) := by rw [not_le]; exact h
  rw [if_neg this, Nat.add_zero]
  exact lt_of_le_of_lt (Finset.sum_le_sum fun k _ => ite_le _) (by simp)

theorem cnt_eq {a : W1 8} (hf : Fits a) {i : ℕ} (h : ¬ (i : ℤ) < en a 7) : cnt a i = 8 := by
  unfold cnt
  rw [Finset.sum_congr rfl fun k _ => if_pos ((hf.le k).trans (not_lt.mp h))]
  simp

theorem fold_word (S : Finset (Fin 8)) (x : Fin 8 → BitVec 32) (f : Fin 8 → ℕ) (h : ∀ k, x k = BitVec.ofNat 32 (f k)) :
    S.fold IntOp.addi 0#32 x = BitVec.ofNat 32 (∑ k ∈ S, f k) := by
  induction S using Finset.cons_induction with
  | empty => simp
  | cons a S ha ih =>
    rw [Finset.fold_cons, Finset.sum_cons, ih, h a]
    exact (BitVec.ofNat_add ..).symm

/-- A row of eight words that are 0 or 1, added up. -/
theorem reduce_word {N : ℕ} (x : (⟨2, ![N, 8]⟩ : Shape).Idx → BitVec 32) (h' : (⟨2, ![N, 8]⟩ : Shape).ReducesTo [1] ⟨1, ![N]⟩)
    (h : (⟨2, ![N, 8]⟩ : Shape).Reduces [1] ⟨1, ![N]⟩) (hu : 0 < (⟨0, ![]⟩ : Shape).numel) (t : Fin N) (f : Fin 8 → ℕ)
    (hx : ∀ k, x (ix2 t k) = BitVec.ofNat 32 (f k)) :
    Host.reduce IntOp.addi x (constantI ⟨0, ![]⟩ 32 0#32) h' hu (ix1 t) = BitVec.ofNat 32 (∑ k, f k) := by
  rw [Host.reduce_eq_fold_single _ _ _ _ h]
  refine fold_word _ _ _ fun k => (congrArg x ?_).trans (hx k)
  funext c
  refine Fin.ext ?_
  refine (h.lift_val (ix1 t) k c).trans ?_
  fin_cases c
  · rfl
  · rfl

/-- The number of experts ending at or before a tile, as both programs compute it. -/
theorem cmp_word (a : W1 8) (k : Fin 8) (i : ℕ) (hi : i < 2 ^ 31) :
    (IntOp.cmpi .sge (BitVec.ofNat 32 i) (ends a (ix1 k))).setWidth 32 = BitVec.ofNat 32 (if en a k ≤ (i : ℤ) then 1 else 0) := by
  rw [cmpi_sge_eq, toInt_ofNat_of_lt (by simpa using hi)]
  by_cases h : en a k ≤ (i : ℤ)
  · rw [if_pos h, decide_eq_true (show (ends a (ix1 k)).toInt ≤ (i : ℤ) from h)]; rfl
  · rw [if_neg h, decide_eq_false (show ¬ (ends a (ix1 k)).toInt ≤ (i : ℤ) from h)]; rfl

end Cert.Count

end
-- ==== Proof.Exp.Tab.lean ====
/- What the host hands the grid of the experts call: the two tables, the tokens cut into rows of 128 lanes, and the
   weights; and that the tables keep every block inside its array. -/
module

public import proofs.«01_k».proof.Proof.Exp.Kit
public import proofs.«01_k».proof.Proof.Exp.Count
public import Idealize.ShloMosaic.Lib.StableHlo.RunRead
public import Idealize.ShloMosaic.Lib.Pipeline.ValueKit

@[expose] public section

set_option maxRecDepth 16384

noncomputable section

namespace Cert.Exp

open Idealize.ShloMosaic Idealize.ShloMosaic.TcCoe Idealize.ShloMosaic.StableHlo Idealize.ShloMosaic.WordCmp
open Cert.ExpertsIdeal Cert.ExpertsIdeal.Gen Cert.Count

variable {F : FTy → Type} [FloatOps F]

/-- The number of tiles in use. -/
def lastT (e : IVec S8 32) : IVec S_ 32 := shapeCast S_ (extractStridedSlice S1 ![7] e slices_S8_S1_7) shapeCasts_S1_S_
/-- The experts whose tiles end at or before each tile, and no more than seven. -/
def overT (e : IVec S8 32) : IVec S136 32 :=
  minsi (Host.reduce IntOp.addi (extui 32 (cmpi .sge
      (broadcastInDim S136x8 ![0, 1] bcast_S136x1_S136x8_0_1 (broadcastInDim S136x1 ![0] bcast_S136_S136x1_0 (iotaInDim S136 32 0)))
      (broadcastInDim S136x8 ![0, 1] bcast_S1x8_S136x8_0_1 (broadcastInDim S1x8 ![1] bcast_S8_S1x8_1 e))) natLt_1_32)
    (constantI S_ 32 0#32) reducesTo_S136x8_S136_d1 h_S_)
    (broadcastInDim S136 ![] bcast_S_S136 (constantI S_ 32 7#32))
/-- The expert of every tile; the tiles past the last one all take that of one tile, the one at `st`. -/
def exT (e : IVec S8 32) (st : Fin 1 → ℤ) : IVec S136 32 :=
  select (cmpi .slt (iotaInDim S136 32 0) (broadcastInDim S136 ![] bcast_S_S136 (lastT e))) (overT e)
    (broadcastInDim S136 ![] bcast_S_S136 (shapeCast S_ (Host.dynamicSlice S1 (overT e) st sliceFits_S136_S1) shapeCasts_S1_S_))

variable (m : (ℓ : Loc nD τ sig) → Buf (Elt F) ℓ) (c : Dev nD)

set_option maxHeartbeats 1600000 in
theorem V_rest : V m c main_v27 = shapeCast S557056x128 (m ((c : Thread nD τ).loc main_arg0) : FVec F S69632x1024 .f32) shapeCasts_S69632x1024_S557056x128
    ∧ V m c main_v29 = truncf .bf16 (m ((c : Thread nD τ).loc main_arg2) : FVec F S8x1024x5632 .f32) bitsLt_bf16_f32
    ∧ V m c main_v30 = truncf .bf16 (m ((c : Thread nD τ).loc main_arg3) : FVec F S8x2816x1024 .f32) bitsLt_bf16_f32 := by
  refine ⟨?_, ?_, ?_⟩ <;>
    (simp only [V, hostOps, hostOps0, hostOps0_1, hostOps0_2, hostOps0_3, hostOps0_4, hostOps0_5, List.flatten_cons, List.flatten_nil, List.append_nil,
      List.cons_append, List.nil_append]; after_reads_simp) <;> rfl

set_option maxHeartbeats 1600000 in
theorem V_nu : V m c main_v28 = shapeCast S1 (lastT (ends (m ((c : Thread nD τ).loc main_arg1)))) shapeCasts_S_S1 := by
  simp only [V, hostOps, hostOps0, hostOps0_1, hostOps0_2, hostOps0_3, hostOps0_4, hostOps0_5, List.flatten_cons, List.flatten_nil, List.append_nil,
      List.cons_append, List.nil_append]
  after_reads_simp
  simp only [TRef.ofBuf, TRef.toBuf, cast_cast, cast_eq, id]
  unfold lastT ends Routing.pyDiv
  rfl

set_option maxHeartbeats 1600000 in
theorem V_ex : ∃ st, V m c main_v26 = exT (ends (m ((c : Thread nD τ).loc main_arg1))) st := by
  simp only [V, hostOps, hostOps0, hostOps0_1, hostOps0_2, hostOps0_3, hostOps0_4, hostOps0_5, List.flatten_cons, List.flatten_nil, List.append_nil,
      List.cons_append, List.nil_append]
  after_reads_simp [unaryIndexed_result_read]
  simp only [TRef.ofBuf, TRef.toBuf, cast_cast, cast_eq, id]
  unfold exT overT lastT ends Routing.pyDiv
  exact ⟨_, rfl⟩

/-- A tile's expert before it is kept below eight. -/
theorem over_word (a : W1 8) (i : Fin 136) :
    overT (ends a) (ix1 i) = IntOp.minsi (BitVec.ofNat 32 (cnt a i.val)) 7#32 := by
  unfold overT
  refine congrArg (fun z => IntOp.minsi z 7#32) ?_
  refine reduce_word _ reducesTo_S136x8_S136_d1 (by decide) h_S_ i _ fun k => ?_
  refine Eq.trans ?_ (cmp_word a k i.val (by omega))
  pointwise

theorem over_eq (a : W1 8) (i : Fin 136) : overT (ends a) (ix1 i) = BitVec.ofNat 32 (min (cnt a i.val) 7) := by
  rw [over_word]
  have h := cnt_le a i.val
  generalize cnt a i.val = n at h ⊢
  interval_cases n <;> rfl

theorem over_lt (a : W1 8) (i : S136.Idx) : (overT (ends a) i).toNat < 8 := by
  obtain ⟨k, rfl⟩ : ∃ k : Fin 136, i = ix1 k := ⟨i 0, by funext d; obtain rfl : d = 0 := Subsingleton.elim _ _; rfl⟩
  rw [over_eq]
  have h : min (cnt a k.val) 7 ≤ 7 := min_le_right _ _
  generalize min (cnt a k.val) 7 = n at h ⊢
  interval_cases n <;> decide

theorem pick_lt (o : IVec S136 32) (ho : ∀ i, (o i).toNat < 8) (p : IVec S136 1) (st : Fin 1 → ℤ) (i : S136.Idx) :
    (select p o (broadcastInDim S136 ![] bcast_S_S136 (shapeCast S_ (Host.dynamicSlice S1 o st sliceFits_S136_S1) shapeCasts_S1_S_)) i).toNat < 8 := by
  show (if p i = 1#1 then o i else o _).toNat < 8
  split_ifs
  · exact ho _
  · exact ho _

/-- Every tile's expert is one of the eight. -/
theorem ex_lt (a : W1 8) (st : Fin 1 → ℤ) (i : S136.Idx) : (exT (ends a) st i).toNat < 8 := pick_lt _ (over_lt a) _ st i

/-- A tile in use has the expert whose tiles it lies among. -/
theorem ex_used (a : W1 8) (st : Fin 1 → ℤ) (i : Fin 136) (h : (i.val : ℤ) < en a 7) :
    exT (ends a) st (ix1 i) = BitVec.ofNat 32 (cnt a i.val) := by
  unfold exT
  have hc : IntOp.cmpi .slt (BitVec.ofNat 32 i.val) (lastT (ends a) ix0) = 1#1 := by
    unfold lastT
    rw [last_word, cmpi_slt_eq, ofBool_decide_eq_one_iff, toInt_ofNat_of_lt (by omega)]
    exact h
  show (if IntOp.cmpi .slt (BitVec.ofNat 32 i.val) (lastT (ends a) _) = 1#1 then _ else _ : BitVec 32) = _
  rw [if_pos (by convert hc), over_eq, min_eq_left (by have := cnt_lt h; omega)]

theorem nu_word (e : IVec S8 32) (i : S1.Idx) : shapeCast S1 (lastT e) shapeCasts_S_S1 i = e (ix1 7) :=
  last_word e slices_S8_S1_7 shapeCasts_S1_S_ (Shape.reshapeEquiv shapeCasts_S_S1 i)

/-- A tile is never past itself, and the last tile in use is not negative. -/
theorem min_le (k : ℕ) (hk : k < 136) (n : BitVec 32) (hn : 1 ≤ n.toInt) : (IntOp.minsi (BitVec.ofNat 32 k) (IntOp.subi n 1#32)).toNat ≤ k := by
  unfold IntOp.minsi IntOp.subi
  have h1 : (n - 1#32).toInt = n.toInt - 1 := by
    have := BitVec.toInt_lt (x := n)
    rw [BitVec.toInt_sub]
    have h1 : (1#32).toInt = 1 := by decide
    rw [h1, Int.bmod_eq_of_le] <;> norm_num at * <;> omega
  have h2 : (BitVec.ofNat 32 k).toInt = k := toInt_ofNat_of_lt (by omega)
  split_ifs with h
  · rw [toNat_ofNat_of_lt (by omega)]
  · rw [BitVec.slt_iff_toInt_lt, h1, h2] at h
    have h3 : ((n - 1#32).toNat : ℤ) = (n - 1#32).toInt := by
      rw [BitVec.toInt_eq_toNat_of_lt]
      have := (BitVec.toInt_pos_iff (x := n - 1#32)).mp
      by_contra hc
      have := BitVec.toInt_neg_iff (x := n - 1#32)
      omega
    omega

/-- Tables with such entries keep every block inside its array. -/
theorem ok_of (tb : pre0.Contents (Elt F)) (h0 : ∀ j : S136.Idx, ((tb 0 : IVec S136 32) j).toNat < 8)
    (h1 : ∀ j : S1.Idx, 1 ≤ ((tb 1 : IVec S1 32) j).toInt) : ok0 tb := by
  refine ⟨fun i => ⟨?_, .inl rfl⟩, fun i => ⟨?_, .inr (Affine.block_words_dvd (of_decide_eq_true rfl) (by decide))⟩,
    fun i => ⟨?_, .inr (Affine.block_words_dvd (of_decide_eq_true rfl) (by decide))⟩⟩
  · have hi : (i 0).val < 136 := (i 0).isLt
    intro a
    fin_cases a
    · have := min_le (i 0).val hi _ (h1 ((Rect.unit (s := S1) ![0] S1.size inb_S1_S1_0).emb (Shape.Idx.first (numel1_S1.symm ▸ Nat.one_pos))))
      exact (Nat.mul_le_mul_right 4096 (Nat.add_le_add_right this 1)).trans (by show ((i 0).val + 1) * 4096 ≤ 557056; omega)
    · show (0 + 1) * 128 ≤ 128
      omega
  · intro a
    fin_cases a
    · have := h0 ((Rect.unit (s := S136) (k0_off1 i) S1.size (k0_off1_inb i)).emb (Shape.Idx.first (numel1_S1.symm ▸ Nat.one_pos)))
      exact (Nat.mul_le_mul_right 1 this).trans (by show 8 * 1 ≤ 8; omega)
    · show (0 + 1) * 1024 ≤ 1024
      omega
    · show (0 + 1) * 5632 ≤ 5632
      omega
  · intro a
    fin_cases a
    · have := h0 ((Rect.unit (s := S136) (k0_off1 i) S1.size (k0_off1_inb i)).emb (Shape.Idx.first (numel1_S1.symm ▸ Nat.one_pos)))
      exact (Nat.mul_le_mul_right 1 this).trans (by show 8 * 1 ≤ 8; omega)
    · show (0 + 1) * 2816 ≤ 2816
      omega
    · show (0 + 1) * 1024 ≤ 1024
      omega

theorem ok_of_used (hf : 1 ≤ en (m (((0 : Dev nD) : Thread nD τ).loc main_arg1)) 7) : Ok m := by
  obtain ⟨st, hst⟩ := V_ex m 0
  refine ok_of _ (fun j => ?_) (fun j => ?_)
  · have h : (tbl m 0 : IVec S136 32) = exT _ st := hst
    rw [h]
    exact ex_lt _ st j
  · have h : (tbl m 1 : IVec S1 32) = _ := V_nu m 0
    rw [h, nu_word]
    exact hf

end Cert.Exp

end
-- ==== Proof.Exp.Kern.lean ====
/- One tile of the kernel: the eleven column blocks it adds up, and what they add up to at an index. -/
module

public import Idealize.ShloMosaic.Lib.Pipeline.ValueKit
public import proofs.«01_k».proof.Proof.Gen.ExpertsIdeal.Skeleton

@[expose] public section

set_option maxRecDepth 16384

noncomputable section

namespace Cert.Tile

open Idealize.ShloMosaic Cert.ExpertsIdeal Cert.ExpertsIdeal.Gen

section Any

variable {F : FTy → Type} [FloatOps F]

/-- One product of the tokens with 256 columns. -/
def prod (T : Vec F S512x1024 .bf16) (w : Vec F S1x1024x256 .bf16) : Vec F S512x256 .f32 :=
  matmul dot_S512x1024_S1024x256_S512x256_1_0_0_1_n_n none T
    (shapeCast S1024x256 w shapeCasts_S1x1024x256_S1024x256 : Vec F S1024x256 .bf16) (constant S512x256 .f32 0x00000000#32)

/-- A block of hidden columns. -/
def hidden (T : Vec F S512x1024 .bf16) (g u : Vec F S1x1024x256 .bf16) : Vec F S512x256 .bf16 :=
  truncf .bf16 (mulf (mulf (prod T g) (logistic (prod T g))) (prod T u)) bitsLt_bf16_f32

/-- One block added on. -/
def step (T : Vec F S512x1024 .bf16) (acc : Vec F S512x1024 .f32) (g u : Vec F S1x1024x256 .bf16) (d : Vec F S1x256x1024 .bf16) :
    Vec F S512x1024 .f32 :=
  addf acc (matmul dot_S512x256_S256x1024_S512x1024_1_0_0_1_n_n none (hidden T g u)
    (shapeCast S256x1024 d shapeCasts_S1x256x1024_S256x1024 : Vec F S256x1024 .bf16) (constant S512x1024 .f32 0x00000000#32))

end Any

theorem prod_ix (T : Vec Ideal S512x1024 .bf16) (w : Vec Ideal S1x1024x256 .bf16) (r : Fin 512) (z : Fin 256) :
    prod T w (ix2 r z) = ∑ k : Fin 1024, T (ix2 r k) * w (ix3 0 k z) := by
  unfold prod
  pointwise

theorem hidden_ix (T : Vec Ideal S512x1024 .bf16) (g u : Vec Ideal S1x1024x256 .bf16) (r : Fin 512) (z : Fin 256) :
    hidden T g u (ix2 r z) = prod T g (ix2 r z) * Ideal.logistic (prod T g (ix2 r z)) * prod T u (ix2 r z) := by
  unfold hidden
  pointwise

theorem step_ix (T : Vec Ideal S512x1024 .bf16) (acc : Vec Ideal S512x1024 .f32) (g u : Vec Ideal S1x1024x256 .bf16)
    (d : Vec Ideal S1x256x1024 .bf16) (r : Fin 512) (j : Fin 1024) :
    step T acc g u d (ix2 r j) = acc (ix2 r j) + ∑ z : Fin 256, hidden T g u (ix2 r z) * d (ix3 0 z j) := by
  unfold step
  pointwise

/-- Gated by its own logistic. -/
def silu (a : EReal) : EReal := a * Ideal.logistic a

variable (X : (⟨2, ![512, 1024]⟩ : Shape).Idx → EReal) (W : (⟨3, ![1, 1024, 5632]⟩ : Shape).Idx → EReal)
  (D : (⟨3, ![1, 2816, 1024]⟩ : Shape).Idx → EReal)

/-- What hidden column `z` adds to row `r`, column `j`. -/
def term (r : Fin 512) (j : Fin 1024) (z : ℕ) : EReal :=
  if h : z < 2816 then silu (∑ k : Fin 1024, X (ix2 r k) * W (ix3 0 k ⟨z, by omega⟩))
    * (∑ k : Fin 1024, X (ix2 r k) * W (ix3 0 k ⟨2816 + z, by omega⟩)) * D (ix3 0 ⟨z, h⟩ j) else 0

/-- The columns up to `n` added up. -/
def IsAcc (n : ℕ) (acc : S512x1024.Idx → EReal) : Prop := ∀ r j, acc (ix2 r j) = ∑ z ∈ Finset.range n, term X W D r j z

theorem acc_zero : IsAcc X W D 0 (k0_pay3 (F := Ideal)) := fun r j => by
  rw [Finset.range_zero, Finset.sum_empty]
  unfold k0_pay3
  pointwise

variable {X W D}

theorem acc_step {n : ℕ} (hn : n + 256 ≤ 2816) {acc : S512x1024.Idx → EReal} (h : IsAcc X W D n acc)
    {g u : S1x1024x256.Idx → EReal} {d : S1x256x1024.Idx → EReal}
    (hg : ∀ k (z : Fin 256), g (ix3 0 k z) = W (ix3 0 k ⟨n + z.val, by omega⟩))
    (hu : ∀ k (z : Fin 256), u (ix3 0 k z) = W (ix3 0 k ⟨2816 + (n + z.val), by omega⟩))
    (hd : ∀ (z : Fin 256) j, d (ix3 0 z j) = D (ix3 0 ⟨n + z.val, by omega⟩ j)) :
    IsAcc X W D (n + 256) (step (F := Ideal) X acc g u d) := fun r j => by
  rw [step_ix, h r j, Finset.sum_range_add, Finset.sum_range (n := 256)]
  refine congrArg (_ + ·) (Finset.sum_congr rfl fun z _ => ?_)
  rw [hidden_ix, prod_ix, prod_ix, hd]
  simp only [hg, hu]
  unfold term silu
  rw [dif_pos (by omega)]

/-- The eleven blocks, one after the other, as the kernel's parts compute them. -/
theorem chain {F : FTy → Type} [FloatOps F] (a0 a1 a2 a3 a4 a5 a6 a7 : Vec F S512x128 .f32)
    (g0 g1 g2 g3 g4 g5 g6 g7 g8 g9 g10 u0 u1 u2 u3 u4 u5 u6 u7 u8 u9 u10 : Vec F S1x1024x256 .bf16)
    (d0 d1 d2 d3 d4 d5 d6 d7 d8 d9 d10 : Vec F S1x256x1024 .bf16) :
    k0_pay14 (k0_pay2 a0 a1 a2 a3 a4 a5 a6 a7)
      (k0_pay13 (k0_pay2 a0 a1 a2 a3 a4 a5 a6 a7)
        (k0_pay11 (k0_pay2 a0 a1 a2 a3 a4 a5 a6 a7)
          (k0_pay8 (k0_pay2 a0 a1 a2 a3 a4 a5 a6 a7)
            (k0_pay6 (k0_pay2 a0 a1 a2 a3 a4 a5 a6 a7) (k0_pay3 (F := F)) (k0_pay4 a0 a1 a2 a3 a4 a5 a6 a7 g0 u0) (k0_pay5 d0)
              (constant S512x1024 .f32 0x00000000#32) g1 u1 d1 g2 u2 d2)
            (k0_pay7 g3) (constant S512x256 .f32 0x00000000#32) u3 d3 g4 u4 d4)
          (k0_pay9 (k0_pay2 a0 a1 a2 a3 a4 a5 a6 a7) g5) (k0_pay10 (k0_pay2 a0 a1 a2 a3 a4 a5 a6 a7) u5) d5 g6 u6 d6)
        (k0_pay12 (k0_pay2 a0 a1 a2 a3 a4 a5 a6 a7) g7 u7) d7 g8 u8 d8 g9 u9 d9)
      g10 u10 d10
    = (let T := k0_pay2 a0 a1 a2 a3 a4 a5 a6 a7
       step T (step T (step T (step T (step T (step T (step T (step T (step T (step T (step T (k0_pay3 (F := F)) g0 u0 d0)
        g1 u1 d1) g2 u2 d2) g3 u3 d3) g4 u4 d4) g5 u5 d5) g6 u6 d6) g7 u7 d7) g8 u8 d8) g9 u9 d9) g10 u10 d10) := rfl

end Cert.Tile

end
-- ==== Proof.Exp.Out.lean ====
/- The block a tile leaves: the swiglu of its tokens when it is in use, zeros when it is not. -/
module

public import proofs.«01_k».proof.Proof.Exp.Run
public import proofs.«01_k».proof.Proof.Exp.Kern
public import Idealize.ShloMosaic.Lib.WholeRead

@[expose] public section

set_option maxRecDepth 16384

noncomputable section

namespace Cert.Exp

open Idealize.ShloMosaic Idealize.ShloMosaic.TcCoe Cert.ExpertsIdeal Cert.ExpertsIdeal.Gen Cert.Tile

/-- A block of 4096 rows of 128 as 512 tokens of 1024. -/
def tok (x : (⟨2, ![4096, 128]⟩ : Shape).Idx → EReal) (i : (⟨2, ![512, 1024]⟩ : Shape).Idx) : EReal :=
  have h0 : (i 0).val < 512 := (i 0).isLt
  have h1 : (i 1).val < 1024 := (i 1).isLt
  x (ix2 ⟨8 * (i 0).val + (i 1).val / 128, by omega⟩ ⟨(i 1).val % 128, Nat.mod_lt _ (by decide)⟩)

/-- The tokens joined from their eight strips. -/
theorem join_ix (a0 a1 a2 a3 a4 a5 a6 a7 : Vec Ideal S512x128 .f32) (x : S4096x128.Idx → EReal)
    (h : ∀ (r : Fin 512) (l : Fin 128) (k : Fin 8),
      (![a0, a1, a2, a3, a4, a5, a6, a7] k : S512x128.Idx → EReal) (ix2 r l) = x (ix2 ⟨8 * r.val + k.val, by omega⟩ l)) :
    k0_pay2 a0 a1 a2 a3 a4 a5 a6 a7 = tok x := by
  funext i
  obtain ⟨r, j, rfl⟩ : ∃ (r : Fin 512) (j : Fin 1024), i = ix2 r j := ⟨i 0, i 1, eq_ix2 i⟩
  have e : ∀ (k : Fin 8) (l : Fin 128), j.val = 128 * k.val + l.val → tok x (ix2 r j) = x (ix2 ⟨8 * r.val + k.val, by omega⟩ l) := by
    intro k l hj
    unfold tok
    refine congrArg x (congrArg₂ ix2 (Fin.ext ?_) (Fin.ext ?_))
    · show 8 * r.val + j.val / 128 = 8 * r.val + k.val; omega
    · show j.val % 128 = l.val; omega
  unfold k0_pay2
  pointwise
  split_ifs
  all_goals first
    | exact absurd rfl ‹¬ _ = _›
    | exact (h r _ 0).trans (e 0 _ (by simp)).symm
    | exact (h r _ 1).trans (e 1 _ (by simp; omega)).symm
    | exact (h r _ 2).trans (e 2 _ (by simp; omega)).symm
    | exact (h r _ 3).trans (e 3 _ (by simp; omega)).symm
    | exact (h r _ 4).trans (e 4 _ (by simp; omega)).symm
    | exact (h r _ 5).trans (e 5 _ (by simp; omega)).symm
    | exact (h r _ 6).trans (e 6 _ (by simp; omega)).symm
    | exact (h r _ 7).trans (e 7 _ (by simp; omega)).symm

section Load

variable {M : Memref sig .tc .vmem S1x1024x5632 .bf16} (h : M.IsWhole) (x : S1x1024x5632.Idx → EReal)
variable {N : Memref sig .tc .vmem S1x2816x1024 .bf16} (hN : N.IsWhole) (y : S1x2816x1024.Idx → EReal)

/-- A load of 256 columns, -/
theorem cols_ix (o : ℕ) (inb : ∀ a, (![0, 0, o] : Fin 3 → Nat) a + S1x1024x256.size a ≤ S1x1024x5632.size a) (k : Fin 1024) (z : Fin 256) (q : Fin 5632) (e : o + z.val = q.val) :
    (M.view.readAt (Elt Ideal) (Rect.unit (s := S1x1024x5632) ![0, 0, o] S1x1024x256.size inb).toLoadRect (h.unread x) : S1x1024x256.Idx → EReal) (ix3 0 k z)
      = x (ix3 0 k q) := by
  refine (h.readAt_unread _ _ _).trans (congrArg x (funext fun a => Fin.ext ?_))
  match a with
  | ⟨0, _⟩ => rfl
  | ⟨1, _⟩ => show 0 + 1 * k.val = k.val; omega
  | ⟨2, _⟩ => show o + 1 * z.val = q.val; omega

/-- and of 256 rows. -/
theorem rows_ix (o : ℕ) (inb : ∀ a, (![0, o, 0] : Fin 3 → Nat) a + S1x256x1024.size a ≤ S1x2816x1024.size a) (z : Fin 256) (j : Fin 1024) (q : Fin 2816) (e : o + z.val = q.val) :
    (N.view.readAt (Elt Ideal) (Rect.unit (s := S1x2816x1024) ![0, o, 0] S1x256x1024.size inb).toLoadRect (hN.unread y) : S1x256x1024.Idx → EReal) (ix3 0 z j)
      = y (ix3 0 q j) := by
  refine (hN.readAt_unread _ _ _).trans (congrArg y (funext fun a => Fin.ext ?_))
  match a with
  | ⟨0, _⟩ => rfl
  | ⟨1, _⟩ => show o + 1 * z.val = q.val; omega
  | ⟨2, _⟩ => show 0 + 1 * j.val = j.val; omega

end Load

/-- A load of every eighth row. -/
theorem row8_ix {M : Memref sig .tc .vmem S4096x128 .f32} (h : M.IsWhole) (x : S4096x128.Idx → EReal) (k : Fin 8)
    (B : LoadRect S4096x128) (hs : B.size = S512x128.size) (ho : B.off = ![k.val, 0]) (ht : B.stride = ![8, 1]) (r : Fin 512) (l : Fin 128) :
    M.view.readAt (Elt Ideal) B (h.unread x) (fun a => Fin.cast (congrFun hs a).symm ((ix2 r l : S512x128.Idx) a)) = x (ix2 ⟨8 * r.val + k.val, by omega⟩ l) := by
  refine (h.readAt_unread _ _ _).trans (congrArg x (funext fun a => Fin.ext ?_))
  match a with
  | ⟨0, _⟩ => show B.off 0 + B.stride 0 * r.val = 8 * r.val + k.val; rw [ho, ht]; show k.val + 8 * r.val = _; omega
  | ⟨1, _⟩ => show B.off 1 + B.stride 1 * l.val = l.val; rw [ho, ht]; show 0 + 1 * l.val = _; omega

variable (c : Dev nD) (i : grid0.Coords) (arg3 : Memref sig .tc .vmem S4096x128 .f32) (harg3 : arg3.IsWhole) (arg4 : Memref sig .tc .vmem S1x1024x5632 .bf16) (harg4 : arg4.IsWhole) (arg5 : Memref sig .tc .vmem S1x2816x1024 .bf16) (harg5 : arg5.IsWhole) (arg6 : Memref sig .tc .vmem S4096x128 .f32) (harg6 : arg6.IsWhole)
    (x0 : Vec Ideal S4096x128 .f32) (x1 : Vec Ideal S1x1024x5632 .bf16) (x2 : Vec Ideal S1x2816x1024 .bf16) (xt0 : TbBuf (F := Ideal) c teM) (xt1 : TbBuf (F := Ideal) c nuM)

theorem toks : runUsed.sl.r_1 (F := Ideal) c arg3 harg3 x0 = tok x0 := by
  unfold runUsed.sl.r_1
  refine join_ix _ _ _ _ _ _ _ _ x0 fun r l k => ?_
  fin_cases k
  · exact row8_ix harg3 x0 0 _ rfl rfl rfl r l
  · exact row8_ix harg3 x0 1 _ rfl rfl rfl r l
  · exact row8_ix harg3 x0 2 _ rfl rfl rfl r l
  · exact row8_ix harg3 x0 3 _ rfl rfl rfl r l
  · exact row8_ix harg3 x0 4 _ rfl rfl rfl r l
  · exact row8_ix harg3 x0 5 _ rfl rfl rfl r l
  · exact row8_ix harg3 x0 6 _ rfl rfl rfl r l
  · exact row8_ix harg3 x0 7 _ rfl rfl rfl r l

/-- The sum a tile in use ends with. -/
abbrev accT : S512x1024.Idx → EReal :=
  k0_pay14 (F := Ideal) (runUsed.sl.r_1 c arg3 harg3 x0) (runUsed.sl.r_12 c arg3 harg3 arg4 harg4 arg5 harg5 x0 x1 x2) (runUsed.sl.r_13 c arg4 harg4 x1)
    (arg4.view.readAt (Elt Ideal) (Rect.unit (s := S1x1024x5632) ![0, 0, 5376] S1x1024x256.size inb_S1x1024x5632_S1x1024x256_0_0_5376).toLoadRect (harg4.unread x1))
    (arg5.view.readAt (Elt Ideal) (Rect.unit (s := S1x2816x1024) ![0, 2560, 0] S1x256x1024.size inb_S1x2816x1024_S1x256x1024_0_2560_0).toLoadRect (harg5.unread x2))

theorem acc_val : IsAcc (tok x0) x1 x2 2816 (accT c arg3 harg3 arg4 harg4 arg5 harg5 x0 x1 x2) := by
  have hT := toks c arg3 harg3 x0
  unfold runUsed.sl.r_1 at hT
  unfold accT
  unfold runUsed.sl.r_12 runUsed.sl.r_13 runUsed.sl.r_9 runUsed.sl.r_10 runUsed.sl.r_11 runUsed.sl.r_6 runUsed.sl.r_7 runUsed.sl.r_8
  unfold runUsed.sl.r_5 runUsed.sl.r_4 runUsed.sl.r_3 runUsed.sl.r_2 runUsed.sl.r_1
  refine (congrArg (IsAcc (tok x0) x1 x2 2816) (chain _ _ _ _ _ _ _ _ _ _ _ _ _ _ _ _ _ _ _ _ _ _ _ _ _ _ _ _ _ _ _ _ _ _ _ _ _ _ _ _ _)).mpr ?_
  dsimp only
  rw [hT]
  show IsAcc (tok x0) x1 x2 (0 + 256 + 256 + 256 + 256 + 256 + 256 + 256 + 256 + 256 + 256 + 256) _
  iterate 11
    refine acc_step (by omega) ?_ (fun k z => cols_ix harg4 x1 _ _ k z _ (by dsimp only <;> omega)) (fun k z => cols_ix harg4 x1 _ _ k z _ (by dsimp only; omega)) (fun z j => rows_ix harg5 x2 _ _ z j _ (by dsimp only <;> omega))
  exact acc_zero _ _ _

/-- A tile's block at an index: row `8 r + k`, lane `l` is row `r`, column `128 k + l`. -/
def blockG (y : S4096x128.Idx) : EReal :=
  have h0 : (y 0).val < 4096 := (y 0).isLt
  have h1 : (y 1).val < 128 := (y 1).isLt
  ∑ z ∈ Finset.range 2816, term (tok x0) x1 x2 ⟨(y 0).val / 8, by omega⟩ ⟨128 * ((y 0).val % 8) + (y 1).val, by omega⟩ z

theorem piece_val (k : Fin 8) (B : Rect S4096x128) (hs : B.size = S512x128.size) (ho : B.off = ![k.val, 0]) (ht : B.stride = ![8, 1])
    (r : Fin 512) (l : Fin 128) (x : B.shape.Idx) (hr : (x (0 : Fin 2)).val = r.val) (hl : (x (1 : Fin 2)).val = l.val) :
    (∑ z ∈ Finset.range 2816, term (tok x0) x1 x2 r ⟨128 * k.val + l.val, by omega⟩ z) = blockG x0 x1 x2 (B.emb x) := by
  have e0 : ((B.emb x) 0).val = k.val + 8 * r.val := by
    show B.off 0 + B.stride 0 * _ = _
    rw [ho, ht, ← hr]; rfl
  have e1 : ((B.emb x) 1).val = l.val := by
    show B.off 1 + B.stride 1 * _ = _
    rw [ho, ht, ← hl]; exact (Nat.zero_add _).trans (Nat.one_mul _)
  unfold blockG
  dsimp only
  have key : ∀ {r r' : Fin 512} {j j' : Fin 1024}, r.val = r'.val → j.val = j'.val →
      (∑ z ∈ Finset.range 2816, term (tok x0) x1 x2 r j z) = ∑ z ∈ Finset.range 2816, term (tok x0) x1 x2 r' j' z := by
    intro r r' j j' h h'; rw [Fin.ext h, Fin.ext h']
  refine key ?_ ?_
  · show r.val = _ / 8; rw [e0]; omega
  · show _ = 128 * (_ % 8) + _; rw [e0, e1]; show 128 * k.val + l.val = _; omega

set_option maxHeartbeats 1000000 in
theorem used_val (v : View sig .tc .vmem S4096x128 .f32) (f : v.ty.Contents (Elt Ideal)) (h1 : k0_cond1 i (nuWord c xt1) = 1#1) (h2 : ¬ k0_cond2 i (nuWord c xt1) = 1#1) (y : S4096x128.Idx) :
    v.read (Elt Ideal) (v.writes (Elt Ideal) f (runUsed c i arg3 harg3 arg4 harg4 arg5 harg5 arg6 harg6 x0 x1 x2 xt0 xt1 h1 h2).1) y = blockG x0 x1 x2 y := by
  refine View.read_writes_apply_of_pieces v f (blockG x0 x1 x2) _ ?_ y (used_cover c i arg3 harg3 arg4 harg4 arg5 harg5 arg6 harg6 x0 x1 x2 xt0 xt1 h1 h2 y)
  have hA := acc_val c arg3 harg3 arg4 harg4 arg5 harg5 x0 x1 x2
  unfold runUsed
  dsimp only
  unfold runUsed.sl.r_14
  have cut : ∀ (k : Fin 8) (w : S512x128.Idx → EReal) (B : Rect S4096x128) (hs : B.size = S512x128.size) (ho : B.off = ![k.val, 0]) (ht : B.stride = ![8, 1]),
      (∀ (r : Fin 512) (l : Fin 128), w (ix2 r l) = accT c arg3 harg3 arg4 harg4 arg5 harg5 x0 x1 x2 (ix2 r ⟨128 * k.val + l.val, by omega⟩)) →
      ∀ x : B.shape.Idx, w (fun a => Fin.cast (congrFun hs a) (x a)) = blockG x0 x1 x2 (B.emb x) := by
    intro k w B hs ho ht hw x
    obtain ⟨r, l, e⟩ : ∃ (r : Fin 512) (l : Fin 128), (fun a => Fin.cast (congrFun hs a) (x a) : S512x128.Idx) = ix2 r l := ⟨_, _, eq_ix2 _⟩
    rw [e, hw r l, hA]
    exact piece_val x0 x1 x2 k B hs ho ht r l x (congrArg Fin.val (congrFun e 0)) (congrArg Fin.val (congrFun e 1))
  intro p hp
  simp only [List.mem_cons, List.not_mem_nil, or_false] at hp
  rcases hp with rfl | rfl | rfl | rfl | rfl | rfl | rfl | rfl
  · exact cut 7 _ _ rfl rfl rfl fun r l => by unfold k0_pay22; pointwise
  · exact cut 6 _ _ rfl rfl rfl fun r l => by unfold k0_pay21; pointwise
  · exact cut 5 _ _ rfl rfl rfl fun r l => by unfold k0_pay20; pointwise
  · exact cut 4 _ _ rfl rfl rfl fun r l => by unfold k0_pay19; pointwise
  · exact cut 3 _ _ rfl rfl rfl fun r l => by unfold k0_pay18; pointwise
  · exact cut 2 _ _ rfl rfl rfl fun r l => by unfold k0_pay17; pointwise
  · exact cut 1 _ _ rfl rfl rfl fun r l => by unfold k0_pay16; pointwise
  · exact cut 0 _ _ rfl rfl rfl fun r l => by unfold k0_pay15; pointwise

theorem idle_val (v : View sig .tc .vmem S4096x128 .f32) (f : v.ty.Contents (Elt Ideal)) (h1 : ¬ k0_cond1 i (nuWord c xt1) = 1#1) (h2 : k0_cond2 i (nuWord c xt1) = 1#1) (y : S4096x128.Idx) :
    v.read (Elt Ideal) (v.writes (Elt Ideal) f (runIdle c i arg3 harg3 arg4 harg4 arg5 harg5 arg6 harg6 x0 x1 x2 xt0 xt1 h1 h2).1) y = 0 := by
  refine View.read_writes_apply_of_pieces v f (fun _ => (0 : EReal)) _ ?_ y (idle_cover c i arg3 harg3 arg4 harg4 arg5 harg5 arg6 harg6 x0 x1 x2 xt0 xt1 h1 h2 y)
  unfold runIdle
  intro p hp
  obtain rfl := List.mem_singleton.mp hp
  intro x
  exact Ideal.ofBits_zero_f32

end Cert.Exp

end
-- ==== Proof.Exp.Spec.lean ====
/- What the experts call computes, in plain sums: a token's swiglu by its tile's expert, and zeros past the last tile. -/
module

public import proofs.«01_k».proof.Proof.Exp.Kern
public import proofs.«01_k».proof.Proof.Exp.Count

@[expose] public section

set_option maxRecDepth 16384

noncomputable section

namespace Cert.Swiglu

open Idealize.ShloMosaic Cert.ExpertsIdeal Cert.ExpertsIdeal.Gen Cert.Tile Cert.Count

variable (X : (⟨2, ![69632, 1024]⟩ : Shape).Idx → EReal) (A : W1 8) (W : (⟨3, ![8, 1024, 5632]⟩ : Shape).Idx → EReal)
  (D : (⟨3, ![8, 2816, 1024]⟩ : Shape).Idx → EReal)

/-- What hidden column `z` of expert `e` adds to token `t`, column `j`. -/
def part (t : Fin 69632) (e : Fin 8) (j : Fin 1024) (z : Fin 2816) : EReal :=
  silu (∑ k : Fin 1024, X (ix2 t k) * W (ix3 e k ⟨z.val, by omega⟩))
    * (∑ k : Fin 1024, X (ix2 t k) * W (ix3 e k ⟨2816 + z.val, by omega⟩)) * D (ix3 e z j)

/-- A token through one expert. -/
def through (t : Fin 69632) (e : Fin 8) (j : Fin 1024) : EReal := ∑ z, part X W D t e j z

/-- A token through the expert of its tile. -/
def outE (t : Fin 69632) (j : Fin 1024) : EReal :=
  ∑ e : Fin 8, if cnt A (t.val / 512) = e.val then through X W D t e j else 0

theorem outE_none (t : Fin 69632) (j : Fin 1024) (h : cnt A (t.val / 512) = 8) : outE X A W D t j = 0 :=
  Finset.sum_eq_zero fun e _ => if_neg (by omega)

theorem outE_one (t : Fin 69632) (j : Fin 1024) (e : Fin 8) (h : cnt A (t.val / 512) = e.val) : outE X A W D t j = through X W D t e j := by
  unfold outE
  rw [Finset.sum_eq_single e (fun e' _ hne => if_neg fun h' => hne (Fin.ext (h'.symm.trans h))) (fun h' => absurd (Finset.mem_univ _) h'), if_pos h]

/-- The rows of 1024 laid out as rows of 128. -/
theorem rows_at (Y : Vec Ideal S69632x1024 .f32) (a : Fin 557056) (b : Fin 128) :
    (shapeCast S557056x128 Y shapeCasts_S69632x1024_S557056x128 : S557056x128.Idx → EReal) (ix2 a b)
      = Y (ix2 ⟨a.val / 8, by omega⟩ ⟨128 * (a.val % 8) + b.val, by omega⟩) := by
  pointwise
  exact congrArg Y (congrArg (ix2 _) (Fin.ext (by show _ * 128 + _ = 128 * _ + _; rw [Nat.mul_comm])))

end Cert.Swiglu

end
-- ==== Proof.Exp.Blocks.lean ====
/- The blocks the experts call stages, read at an index, over any contents of its tables. -/
module

public import proofs.«01_k».proof.Proof.Exp.Frame
public import proofs.«01_k».proof.Proof.Exp.Tab
public import proofs.«01_k».proof.Proof.Exp.Out
public import proofs.«01_k».proof.Proof.Exp.Spec

@[expose] public section

set_option maxRecDepth 16384

noncomputable section

namespace Cert.Exp

open Idealize.ShloMosaic Idealize.ShloMosaic.TcCoe Idealize.ShloMosaic.WordCmp
open Cert.ExpertsIdeal Cert.ExpertsIdeal.Gen Cert.Count Cert.Tile Cert.Swiglu

section Read

variable (a : (pcfg0 (F := Ideal)).Adm) (t : Fin (cfg0 a).N)

theorem read0 (f : S557056x128.Idx → EReal) (p : Fin 4096) (l : Fin 128) (q : Fin 557056)
    (h : cc0_transform_0 inb_S1_S1_0 numel1_S1 a.1 (grid0.coords t) 0 * 4096 + p.val = q.val) :
    (((cfg0 a).win 0).blk t).view.read (Elt Ideal) f (ix2 p l : S4096x128.Idx) = f (ix2 q l) := by
  refine congrArg f (funext fun d => Fin.ext ?_)
  match d with
  | ⟨0, _⟩ => show _ * 4096 + 1 * p.val = q.val; rw [one_mul]; exact h
  | ⟨1, _⟩ => show 0 * 128 + 1 * l.val = l.val; omega

theorem read1 (f : S8x1024x5632.Idx → EReal) (k : Fin 1024) (z : Fin 5632) (e : Fin 8)
    (h : cc0_transform_1 k0_off1_inb numel1_S1 a.1 (grid0.coords t) 0 = e.val) :
    (((cfg0 a).win 1).blk t).view.read (Elt Ideal) f (ix3 0 k z : S1x1024x5632.Idx) = f (ix3 e k z) := by
  refine congrArg f (funext fun d => Fin.ext ?_)
  match d with
  | ⟨0, _⟩ => show _ * 1 + 1 * 0 = e.val; rw [mul_one, mul_zero, add_zero]; exact h
  | ⟨1, _⟩ => show 0 * 1024 + 1 * k.val = k.val; omega
  | ⟨2, _⟩ => show 0 * 5632 + 1 * z.val = z.val; omega

theorem read2 (f : S8x2816x1024.Idx → EReal) (z : Fin 2816) (j : Fin 1024) (e : Fin 8)
    (h : cc0_transform_2 k0_off1_inb numel1_S1 a.1 (grid0.coords t) 0 = e.val) :
    (((cfg0 a).win 2).blk t).view.read (Elt Ideal) f (ix3 0 z j : S1x2816x1024.Idx) = f (ix3 e z j) := by
  refine congrArg f (funext fun d => Fin.ext ?_)
  match d with
  | ⟨0, _⟩ => show _ * 1 + 1 * 0 = e.val; rw [mul_one, mul_zero, add_zero]; exact h
  | ⟨1, _⟩ => show 0 * 2816 + 1 * z.val = z.val; omega
  | ⟨2, _⟩ => show 0 * 1024 + 1 * j.val = j.val; omega

/-- Where the result's block lies. -/
theorem emb3 (y : S4096x128.Idx) (q : Fin 557056) (l : Fin 128) (hq : (grid0.coords t 0).val * 4096 + (y 0).val = q.val) (hl : (y 1).val = l.val) :
    ((((cfg0 a).win 3).blk t).view.emb y : S557056x128.Idx) = ix2 q l := by
  have hi : (grid0.coords t 0).val < 136 := (grid0.coords t 0).isLt
  funext d
  refine Fin.ext ?_
  match d with
  | ⟨0, _⟩ =>
    show (BitVec.ofNat 32 (grid0.coords t 0).val).toNat * 4096 + 1 * (y 0).val = q.val
    rw [toNat_ofNat_of_lt (by omega), one_mul, hq]
  | ⟨1, _⟩ =>
    show 0 * 128 + 1 * (y 1).val = l.val
    omega

/-- The smaller of a tile in use and the last one in use is the tile. -/
theorem min_eq (k : ℕ) (hk : k < 136) (n : BitVec 32) (h : (k : ℤ) < n.toInt) :
    (IntOp.minsi (BitVec.ofNat 32 k) (IntOp.subi n 1#32)).toNat = k := by
  unfold IntOp.minsi IntOp.subi
  have e1 : (n - 1#32).toInt = n.toInt - 1 := by
    have := BitVec.toInt_lt (x := n)
    rw [BitVec.toInt_sub]
    have h1 : (1#32).toInt = 1 := by decide
    rw [h1, Int.bmod_eq_of_le] <;> norm_num at * <;> omega
  have e2 : (BitVec.ofNat 32 k).toInt = k := toInt_ofNat_of_lt (by omega)
  split_ifs with h'
  · rw [toNat_ofNat_of_lt (by omega)]
  · rw [BitVec.slt_iff_toInt_lt, e1, e2] at h'
    have h3 : n - 1#32 = BitVec.ofNat 32 k := BitVec.eq_of_toInt_eq (by rw [e1, e2]; omega)
    rw [h3, toNat_ofNat_of_lt (by omega)]

theorem map0 (pf : pre0.Contents (Elt Ideal)) (i : grid0.Coords) (h1 : ∀ j : S1.Idx, ((i 0).val : ℤ) < ((pf 1 : IVec S1 32) j).toInt) :
    cc0_transform_0 inb_S1_S1_0 numel1_S1 pf i 0 = (i 0).val :=
  min_eq _ (i 0).isLt _ (h1 ((Rect.unit (s := S1) ![0] S1.size inb_S1_S1_0).emb (Shape.Idx.first (numel1_S1.symm ▸ Nat.one_pos))))

/-- A tile is in use when the number in use is past it. -/
theorem cond_word (i : grid0.Coords) (n : BitVec 32) : k0_cond1 i n = 1#1 ↔ ((i 0).val : ℤ) < n.toInt := by
  have hi : (i 0).val < 136 := (i 0).isLt
  have bit : ∀ b : BitVec 1, Scalar.cmpi .ne (Scalar.extui b : BitVec 32) 0#32 = b := by decide
  refine (Eq.congr_left (bit (Scalar.cmpi .slt (BitVec.ofNat 32 (i 0).val) n))).trans ?_
  show IntOp.cmpi .slt (BitVec.ofNat 32 (i 0).val) n = 1#1 ↔ _
  rw [cmpi_slt_eq, ofBool_decide_eq_one_iff, toInt_ofNat_of_lt (by omega)]

theorem word_at (c : Dev nD) (x : TbBuf (F := Ideal) c nuM) : ∃ j : S1.Idx, nuWord c x = (x : IVec S1 32) j := ⟨_, rfl⟩

theorem map12 (pf : pre0.Contents (Elt Ideal)) (i : grid0.Coords) (e : ℕ) (h0 : ((pf 0 : IVec S136 32) (ix1 ⟨(i 0).val, (i 0).isLt⟩)).toNat = e) :
    cc0_transform_1 k0_off1_inb numel1_S1 pf i 0 = e ∧ cc0_transform_2 k0_off1_inb numel1_S1 pf i 0 = e := by
  have hi : (i 0).val < 136 := (i 0).isLt
  have key : ∀ x : S136.Idx, (x 0).val = (i 0).val → ((pf 0 : IVec S136 32) x).toNat = e := by
    intro x hx
    rw [← h0]
    refine congrArg (fun x => ((pf 0 : IVec S136 32) x).toNat) (funext fun d => ?_)
    obtain rfl : d = 0 := Subsingleton.elim _ _
    exact Fin.ext hx
  have hx : ((Rect.unit (s := S136) (k0_off1 i) S1.size (k0_off1_inb i)).emb (Shape.Idx.first (numel1_S1.symm ▸ Nat.one_pos)) 0).val = (i 0).val := by
    show (BitVec.ofNat 32 (i 0).val).toNat + 1 * 0 = _
    rw [toNat_ofNat_of_lt (by omega), Nat.mul_zero, Nat.add_zero]
  exact ⟨key _ hx, key _ hx⟩

/-- What a tile in use makes of the tokens and weights: its tokens through its expert. -/
theorem block_val (X : (⟨2, ![69632, 1024]⟩ : Shape).Idx → EReal) (W : (⟨3, ![8, 1024, 5632]⟩ : Shape).Idx → EReal)
    (D : (⟨3, ![8, 2816, 1024]⟩ : Shape).Idx → EReal) (e : Fin 8)
    (h0 : cc0_transform_0 inb_S1_S1_0 numel1_S1 a.1 (grid0.coords t) 0 = (grid0.coords t 0).val)
    (h1 : cc0_transform_1 k0_off1_inb numel1_S1 a.1 (grid0.coords t) 0 = e.val)
    (h2 : cc0_transform_2 k0_off1_inb numel1_S1 a.1 (grid0.coords t) 0 = e.val)
    (y : S4096x128.Idx) (T : Fin 69632) (j : Fin 1024) (hT : T.val = 512 * (grid0.coords t 0).val + (y 0).val / 8)
    (hj : j.val = 128 * ((y 0).val % 8) + (y 1).val) :
    blockG ((((cfg0 a).win 0).blk t).view.read (Elt Ideal) (shapeCast S557056x128 (X : Vec Ideal S69632x1024 .f32) shapeCasts_S69632x1024_S557056x128))
      ((((cfg0 a).win 1).blk t).view.read (Elt Ideal) W) ((((cfg0 a).win 2).blk t).view.read (Elt Ideal) D) y = through X W D T e j := by
  have hi : (grid0.coords t 0).val < 136 := (grid0.coords t 0).isLt
  have y0 : (y 0).val < 4096 := (y 0).isLt
  have y1 : (y 1).val < 128 := (y 1).isLt
  unfold blockG through
  dsimp only
  rw [Finset.sum_range]
  refine Finset.sum_congr rfl fun z _ => ?_
  unfold term part
  rw [dif_pos z.isLt]
  have tk : ∀ k : Fin 1024, tok ((((cfg0 a).win 0).blk t).view.read (Elt Ideal) (shapeCast S557056x128 (X : Vec Ideal S69632x1024 .f32) shapeCasts_S69632x1024_S557056x128))
      (ix2 (⟨(y 0).val / 8, by omega⟩ : Fin 512) k) = X (ix2 T k) := by
    intro k
    refine (read0 a t _ (⟨8 * ((y 0).val / 8) + k.val / 128, by omega⟩ : Fin 4096) (⟨k.val % 128, by omega⟩ : Fin 128)
      ⟨(grid0.coords t 0).val * 4096 + (8 * ((y 0).val / 8) + k.val / 128), by omega⟩ (by rw [h0])).trans ?_
    refine (rows_at X _ _).trans (congrArg X ?_)
    congr 1
    · exact Fin.ext (by show ((grid0.coords t 0).val * 4096 + (8 * ((y 0).val / 8) + k.val / 128)) / 8 = T.val; omega)
    · exact Fin.ext (by show 128 * (((grid0.coords t 0).val * 4096 + (8 * ((y 0).val / 8) + k.val / 128)) % 8) + k.val % 128 = k.val; omega)
  have ej : (⟨128 * ((y 0).val % 8) + (y 1).val, by omega⟩ : Fin 1024) = j := Fin.ext hj.symm
  rw [ej]
  refine congr (congrArg HMul.hMul (congr (congrArg HMul.hMul (congrArg silu ?_)) ?_)) (read2 a t D z j e h2)
  · exact Finset.sum_congr rfl fun k _ => congr (congrArg HMul.hMul (tk k)) (read1 a t W k _ e h1)
  · exact Finset.sum_congr rfl fun k _ => congr (congrArg HMul.hMul (tk k)) (read1 a t W k _ e h1)

end Read

end Cert.Exp

end
-- ==== Proof.Exp.Final.lean ====
/- The experts call's result: every token through the expert of its tile. -/
module

public import proofs.«01_k».proof.Proof.Exp.Blocks

@[expose] public section

set_option maxRecDepth 16384

noncomputable section

namespace Cert.Exp

open Idealize.ShloMosaic Idealize.ShloMosaic.TcCoe Idealize.ShloMosaic.WordCmp
open Cert.ExpertsIdeal Cert.ExpertsIdeal.Gen Cert.Count Cert.Tile Cert.Swiglu

variable (m : (ℓ : Loc nD τ sig) → Buf (Elt Ideal) ℓ) (hO : Ok m) (c : Dev nD)

/-- The call's four arguments. -/
abbrev aX : (⟨2, ![69632, 1024]⟩ : Shape).Idx → EReal := m ((c : Thread nD τ).loc main_arg0)
abbrev aA : W1 8 := m ((c : Thread nD τ).loc main_arg1)
abbrev aW : (⟨3, ![8, 1024, 5632]⟩ : Shape).Idx → EReal := m ((c : Thread nD τ).loc main_arg2)
abbrev aD : (⟨3, ![8, 2816, 1024]⟩ : Shape).Idx → EReal := m ((c : Thread nD τ).loc main_arg3)

theorem tbl1 (j : S1.Idx) : (tbl m 1 : IVec S1 32) j = ends (aA m c) (ix1 7) := by
  obtain rfl : c = 0 := Subsingleton.elim _ _
  exact (congrFun (V_nu m 0) j).trans (nu_word _ j)

theorem tbl0 (i : Fin 136) (h : (i.val : ℤ) < en (aA m c) 7) : (tbl m 0 : IVec S136 32) (ix1 i) = BitVec.ofNat 32 (cnt (aA m c) i.val) := by
  obtain rfl : c = 0 := Subsingleton.elim _ _
  obtain ⟨st, hst⟩ := V_ex m 0
  exact (congrFun hst (ix1 i)).trans (ex_used _ st i h)

theorem used_iff (i : grid0.Coords) : Used m c i ↔ ((i 0).val : ℤ) < en (aA m c) 7 := by
  obtain ⟨j, hj⟩ := word_at c (tbl m 1)
  have e : nuWord c (tbl m 1) = ends (aA m c) (ix1 7) := hj.trans (tbl1 m c j)
  unfold Used
  rw [e]
  exact cond_word i _

theorem blk0 (t : Fin (cfgM m hO).N) : iblk m hO c 0 t
    = (((cfg0 (adm m hO)).win 0).blk t).view.read (Elt Ideal) (shapeCast S557056x128 (aX m c : Vec Ideal S69632x1024 .f32) shapeCasts_S69632x1024_S557056x128) :=
  congrArg (fun f => (((cfg0 (adm m hO)).win 0).blk t).view.read (Elt Ideal) f) (V_rest m c).1

theorem blk1 (t : Fin (cfgM m hO).N) : iblk m hO c 1 t = (((cfg0 (adm m hO)).win 1).blk t).view.read (Elt Ideal) (aW m c) :=
  congrArg (fun f => (((cfg0 (adm m hO)).win 1).blk t).view.read (Elt Ideal) f) (V_rest m c).2.1

theorem blk2 (t : Fin (cfgM m hO).N) : iblk m hO c 2 t = (((cfg0 (adm m hO)).win 2).blk t).view.read (Elt Ideal) (aD m c) :=
  congrArg (fun f => (((cfg0 (adm m hO)).win 2).blk t).view.read (Elt Ideal) f) (V_rest m c).2.2

/-- What a point leaves in the result's block. -/
theorem out_val (hf : Fits (aA m c)) (t : Fin (cfgM m hO).N) (y : S4096x128.Idx) (T : Fin 69632) (j : Fin 1024)
    (hT : T.val = 512 * (grid0.coords t 0).val + (y 0).val / 8) (hj : j.val = 128 * ((y 0).val % 8) + (y 1).val) :
    outsAt m hO c t y = outE (aX m c) (aA m c) (aW m c) (aD m c) T j := by
  have hi : (grid0.coords t 0).val < 136 := (grid0.coords t 0).isLt
  have y0 : (y 0).val < 4096 := (y 0).isLt
  have eT : T.val / 512 = (grid0.coords t 0).val := by omega
  unfold outsAt
  by_cases h : Used m c (grid0.coords t)
  · rw [dif_pos h]
    have hu := (used_iff m c _).mp h
    have hc := cnt_lt hu
    have hw : cnt (aA m c) (grid0.coords t 0).val < 2 ^ 32 := by omega
    have hm := map12 (tbl m) (grid0.coords t) (cnt (aA m c) (grid0.coords t 0).val)
      ((congrArg BitVec.toNat (tbl0 m c ⟨(grid0.coords t 0).val, hi⟩ hu)).trans (toNat_ofNat_of_lt hw))
    rw [outE_one _ _ _ _ T j ⟨_, hc⟩ (by rw [eT])]
    unfold usedOut
    refine (used_val c _ _ _ _ _ _ _ _ _ _ _ _ _ _ VO VO.junk h _ y).trans ?_
    rw [blk0, blk1, blk2]
    exact block_val (adm m hO) t _ _ _ ⟨_, hc⟩ (map0 (tbl m) _ fun j => by rw [tbl1 m c]; exact hu) hm.1 hm.2 y T j hT hj
  · rw [dif_neg h]
    have hu := fun h' => h ((used_iff m c (grid0.coords t)).mpr h')
    rw [outE_none _ _ _ _ T j (by rw [eT]; exact cnt_eq hf hu)]
    unfold idleOut
    exact idle_val c _ _ _ _ _ _ _ _ _ _ _ _ _ _ VO VO.junk h _ y

/-- The result array: the rows of the tokens, 128 entries at a time. -/
def resG (y : S557056x128.Idx) : EReal :=
  have h0 : (y 0).val < 557056 := (y 0).isLt
  have h1 : (y 1).val < 128 := (y 1).isLt
  outE (aX m c) (aA m c) (aW m c) (aD m c) ⟨(y 0).val / 8, by omega⟩ ⟨128 * ((y 0).val % 8) + (y 1).val, by omega⟩

theorem resG_ix (q : Fin 557056) (l : Fin 128) (T : Fin 69632) (j : Fin 1024) (hT : T.val = q.val / 8) (hj : j.val = 128 * (q.val % 8) + l.val) :
    resG m c (ix2 q l) = outE (aX m c) (aA m c) (aW m c) (aD m c) T j := by
  have e1 : T = ⟨q.val / 8, by omega⟩ := Fin.ext hT
  have e2 : j = ⟨128 * (q.val % 8) + l.val, by omega⟩ := Fin.ext hj
  rw [e1, e2]; rfl

/-- The point whose tile is `k`. -/
theorem point (k : ℕ) (hk : k < 136) : ∃ t : Fin grid0.N, (grid0.coords t 0).val = k := by
  have : ∀ k : Fin 136, ∃ t : Fin grid0.N, (grid0.coords t 0).val = k.val := by decide +kernel
  exact this ⟨k, hk⟩

/-- A point's block is the result's, at the place it is written to. -/
theorem block_eq (hf : Fits (aA m c)) (t : Fin (cfgM m hO).N) (y : S4096x128.Idx) :
    outsAt m hO c t y = resG m c ((((cfg0 (adm m hO)).win 3).blk t).view.emb y) := by
  have hi : (grid0.coords t 0).val < 136 := (grid0.coords t 0).isLt
  have y0 : (y 0).val < 4096 := (y 0).isLt
  have y1 : (y 1).val < 128 := (y 1).isLt
  refine (out_val m hO c hf t y ⟨512 * (grid0.coords t 0).val + (y 0).val / 8, by omega⟩
    ⟨128 * ((y 0).val % 8) + (y 1).val, by omega⟩ rfl rfl).trans ?_
  refine Eq.symm ((congrArg (resG m c) (emb3 (adm m hO) t y ⟨(grid0.coords t 0).val * 4096 + (y 0).val, by omega⟩
    ⟨(y 1).val, y1⟩ rfl rfl)).trans (resG_ix m c _ _ _ _ ?_ ?_))
  · show 512 * (grid0.coords t 0).val + (y 0).val / 8 = ((grid0.coords t 0).val * 4096 + (y 0).val) / 8
    omega
  · show 128 * ((y 0).val % 8) + (y 1).val = 128 * (((grid0.coords t 0).val * 4096 + (y 0).val) % 8) + (y 1).val
    omega

/-- Every entry of the result lies in the block of its tile. -/
theorem block_cover (a : (pcfg0 (F := Ideal)).Adm) (q : Fin 557056) (l : Fin 128) : ∃ (t : Fin grid0.N) (y : S4096x128.Idx),
    ((((cfg0 a).win 3).blk t).view.emb y : S557056x128.Idx) = ix2 q l := by
  obtain ⟨t, ht⟩ := point (q.val / 4096) (by omega)
  exact ⟨t, ix2 ⟨q.val % 4096, by omega⟩ l, emb3 a t _ q l (by rw [ht]; show q.val / 4096 * 4096 + q.val % 4096 = _; omega) rfl⟩

theorem block_mem (a : (pcfg0 (F := Ideal)).Adm) (i : S557056x128.Idx) :
    ∃ t : Fin (cfg0 a).N, ((cfg0 a).win 3).flush t = true ∧ i ∈ (((cfg0 a).win 3).blk t).view.set := by
  obtain ⟨t, y, e⟩ := block_cover a (i 0) (i 1)
  exact ⟨t, flush3 a t, Eq.mp (congrArg (fun z => z ∈ (((cfg0 a).win 3).blk t).view.set) (e.trans (eq_ix2 i).symm)) (View.emb_mem_set _ _)⟩

/-- An array whose every block is right is right. -/
theorem arr_of (a : (pcfg0 (F := Ideal)).Adm) (dat : Pipeline.Dat τ (Elt Ideal) Unit ℕ (UR sig nD τ) ℕ (cfg0 a) c) (G : S557056x128.Idx → EReal)
    (h : ∀ (t : Fin (cfg0 a).N) (y : S4096x128.Idx), (dat.after 3 t : S4096x128.Idx → EReal) y = G ((((cfg0 a).win 3).blk t).view.emb y)) :
    dat.arrAt 3 (cfg0 a).N = G :=
  dat.arrAt_eq_of_emb 3 G (fun t _ y => h t y) (block_mem a)

theorem final (hf : Fits (aA m c)) : (dats m hO 0 c).arrAt 3 (cfgM m hO).N = resG m c :=
  arr_of c (adm m hO) (dats m hO 0 c) (resG m c) fun t y => (congrFun (after3 m hO c t) y).trans (block_eq m hO c hf t y)

/-- The idealized experts call's run: its result, its arguments as they were, its counters at zero. -/
theorem run_value (hO : Ok m) (ρ : Dev nD → PrngReg) (hf : ∀ c, Fits (aA m c)) :
    θ_run defs (onTc (τ := τ) (main (F := Ideal))) (s₀ m ρ) (fun r => ∀ c : Dev nD, r.2.mem ((c : Thread nD τ).loc main_v31) = resG m c) :=
  (θ_run defs _ _).mono (fun _ h c => ((h c).1 3).trans (final m hO c (hf c))) (run_main m ρ hO)

end Cert.Exp

end
-- ==== Proof.Exp.Ref.lean ====
/- The reference's result at an index: every expert's swiglu of every token, gated by whether it is the token's. -/
module

public import Idealize.ShloMosaic.Lib.Pipeline.ValueKit
public import proofs.«01_k».proof.Proof.Gen.ExpertsRefIdeal.Run
public import proofs.«01_k».proof.Proof.Exp.Spec

@[expose] public section

set_option maxRecDepth 16384

noncomputable section

namespace Cert.ExpRef

open Idealize.ShloMosaic Idealize.ShloMosaic.WordCmp
open Cert.ExpertsRefIdeal Cert.ExpertsRefIdeal.Gen Cert.Count Cert.Tile Cert.Swiglu

section Any

variable {F : FTy → Type} [FloatOps F]

/-- The tokens times an expert's gate and up columns. -/
def cols (x : FVec F S69632x1024 .f32) (w : FVec F S1024x5632 .f32) : FVec F S69632x5632 .f32 :=
  Host.dotGeneral dot_S69632x1024_S1024x5632_S69632x5632_1_0_0_1_n_n none x w

/-- The tokens through one expert. -/
def sw (x : FVec F S69632x1024 .f32) (w : FVec F S1024x5632 .f32) (d : FVec F S2816x1024 .f32) : FVec F S69632x1024 .f32 :=
  let g : FVec F S69632x2816 .f32 := extractStridedSlice S69632x2816 ![0, 0] (cols x w) slices_S69632x5632_S69632x2816_0_0
  Host.dotGeneral dot_S69632x2816_S2816x1024_S69632x1024_1_0_0_1_n_n none
    (mulf (mulf g (Host.divf (broadcastInDim S69632x2816 ![] bcast_S_S69632x2816 (constant S_ .f32 0x3F800000#32))
      (addf (broadcastInDim S69632x2816 ![] bcast_S_S69632x2816 (constant S_ .f32 0x3F800000#32)) (Host.exp (Host.negf g)))))
      (extractStridedSlice S69632x2816 ![0, 2816] (cols x w) slices_S69632x5632_S69632x2816_0_2816)) d

/-- The same, gated. -/
def one (q : FVec F S69632x8 .f32) (x : FVec F S69632x1024 .f32) (W : FVec F S8x1024x5632 .f32) (D : FVec F S8x2816x1024 .f32) (e : ℕ)
    (hq : S69632x8.Slices ![0, e] S69632x1) (hW : S8x1024x5632.Slices ![e, 0, 0] S1x1024x5632)
    (hD : S8x2816x1024.Slices ![e, 0, 0] S1x2816x1024) : FVec F S69632x1024 .f32 :=
  mulf (broadcastInDim S69632x1024 ![0, 1] bcast_S69632x1_S69632x1024_0_1 (extractStridedSlice S69632x1 ![0, e] q hq))
    (sw x (shapeCast S1024x5632 (extractStridedSlice S1x1024x5632 ![e, 0, 0] W hW) shapeCasts_S1x1024x5632_S1024x5632)
      (shapeCast S2816x1024 (extractStridedSlice S1x2816x1024 ![e, 0, 0] D hD) shapeCasts_S1x2816x1024_S2816x1024))

/-- The number of experts whose tiles end at or before a token's tile. -/
def expert (e : IVec S8 32) : IVec S69632 32 :=
  Host.reduce IntOp.addi (extui 32 (cmpi .sge
    (broadcastInDim S69632x8 ![0, 1] bcast_S69632x1_S69632x8_0_1 (broadcastInDim S69632x1 ![0] bcast_S69632_S69632x1_0
      (Routing.pyDiv bcast_S_S69632 (iotaInDim S69632 32 0) (constantI S_ 32 512#32))))
    (broadcastInDim S69632x8 ![0, 1] bcast_S1x8_S69632x8_0_1 (broadcastInDim S1x8 ![1] bcast_S8_S1x8_1 e))) natLt_1_32)
    (constantI S_ 32 0#32) reducesTo_S69632x8_S69632_d1 h_S_

/-- The gates: one at the token's expert. -/
def gates (w : IVec S69632 32) : FVec F S69632x8 .f32 :=
  uitofp .f32 (cmpi .eq (broadcastInDim S69632x8 ![0, 1] bcast_S69632x1_S69632x8_0_1 (broadcastInDim S69632x1 ![0] bcast_S69632_S69632x1_0 w))
    (broadcastInDim S69632x8 ![0, 1] bcast_S1x8_S69632x8_0_1 (iotaInDim S1x8 32 1)))

/-- The whole of the reference. -/
def all (x : FVec F S69632x1024 .f32) (a : W1 8) (W : FVec F S8x1024x5632 .f32) (D : FVec F S8x2816x1024 .f32) : FVec F S557056x128 .f32 :=
  let q : FVec F S69632x8 .f32 := gates (expert (ends a))
  shapeCast S557056x128 (addf (addf (addf (addf (addf (addf (addf (addf (broadcastInDim S69632x1024 ![] bcast_S_S69632x1024 (constant S_ .f32 0x00000000#32))
    (one q x W D 0 slices_S69632x8_S69632x1_0_0 slices_S8x1024x5632_S1x1024x5632_0_0_0 slices_S8x2816x1024_S1x2816x1024_0_0_0))
    (one q x W D 1 slices_S69632x8_S69632x1_0_1 slices_S8x1024x5632_S1x1024x5632_1_0_0 slices_S8x2816x1024_S1x2816x1024_1_0_0))
    (one q x W D 2 slices_S69632x8_S69632x1_0_2 slices_S8x1024x5632_S1x1024x5632_2_0_0 slices_S8x2816x1024_S1x2816x1024_2_0_0))
    (one q x W D 3 slices_S69632x8_S69632x1_0_3 slices_S8x1024x5632_S1x1024x5632_3_0_0 slices_S8x2816x1024_S1x2816x1024_3_0_0))
    (one q x W D 4 slices_S69632x8_S69632x1_0_4 slices_S8x1024x5632_S1x1024x5632_4_0_0 slices_S8x2816x1024_S1x2816x1024_4_0_0))
    (one q x W D 5 slices_S69632x8_S69632x1_0_5 slices_S8x1024x5632_S1x1024x5632_5_0_0 slices_S8x2816x1024_S1x2816x1024_5_0_0))
    (one q x W D 6 slices_S69632x8_S69632x1_0_6 slices_S8x1024x5632_S1x1024x5632_6_0_0 slices_S8x2816x1024_S1x2816x1024_6_0_0))
    (one q x W D 7 slices_S69632x8_S69632x1_0_7 slices_S8x1024x5632_S1x1024x5632_7_0_0 slices_S8x2816x1024_S1x2816x1024_7_0_0))
    shapeCasts_S69632x1024_S557056x128

end Any

theorem cols_ix (x : FVec Ideal S69632x1024 .f32) (w : FVec Ideal S1024x5632 .f32) (t : Fin 69632) (z : Fin 5632) :
    cols x w (ix2 t z) = ∑ k : Fin 1024, x (ix2 t k) * w (ix2 k z) := by
  unfold cols
  pointwise

theorem sw_ix (x : FVec Ideal S69632x1024 .f32) (w : FVec Ideal S1024x5632 .f32) (d : FVec Ideal S2816x1024 .f32) (t : Fin 69632) (j : Fin 1024) :
    sw x w d (ix2 t j) = ∑ z : Fin 2816, silu (cols x w (ix2 t ⟨z.val, by omega⟩)) * cols x w (ix2 t ⟨2816 + z.val, by omega⟩) * d (ix2 z j) := by
  unfold sw silu
  pointwise
  rfl

theorem one_ix (q : FVec Ideal S69632x8 .f32) (x : FVec Ideal S69632x1024 .f32) (W : FVec Ideal S8x1024x5632 .f32) (D : FVec Ideal S8x2816x1024 .f32)
    (e : Fin 8) (hq : S69632x8.Slices ![0, e.val] S69632x1) (hW : S8x1024x5632.Slices ![e.val, 0, 0] S1x1024x5632)
    (hD : S8x2816x1024.Slices ![e.val, 0, 0] S1x2816x1024) (t : Fin 69632) (j : Fin 1024) :
    one q x W D e.val hq hW hD (ix2 t j) = q (ix2 t e) * through x W D t e j := by
  have hw : ∀ (k : Fin 1024) (z : Fin 5632), (shapeCast S1024x5632 (extractStridedSlice S1x1024x5632 ![e.val, 0, 0] W hW) shapeCasts_S1x1024x5632_S1024x5632
      : FVec Ideal S1024x5632 .f32) (ix2 k z) = W (ix3 e k z) := fun k z => by pointwise
  have hd : ∀ (z : Fin 2816) (j : Fin 1024), (shapeCast S2816x1024 (extractStridedSlice S1x2816x1024 ![e.val, 0, 0] D hD) shapeCasts_S1x2816x1024_S2816x1024
      : FVec Ideal S2816x1024 .f32) (ix2 z j) = D (ix3 e z j) := fun z j => by pointwise
  have hg : (broadcastInDim S69632x1024 ![0, 1] bcast_S69632x1_S69632x1024_0_1 (extractStridedSlice S69632x1 ![0, e.val] q hq)
      : FVec Ideal S69632x1024 .f32) (ix2 t j) = q (ix2 t e) := by pointwise
  unfold one through part
  refine congr (congrArg HMul.hMul hg) ?_
  rw [sw_ix]
  simp only [cols_ix, hw, hd]

/-- A token's expert, as a word. -/
theorem expert_ix (a : W1 8) (t : Fin 69632) : expert (ends a) (ix1 t) = BitVec.ofNat 32 (cnt a (t.val / 512)) := by
  unfold expert
  refine reduce_word _ reducesTo_S69632x8_S69632_d1 (by decide) h_S_ t _ fun k => ?_
  refine Eq.trans ?_ (cmp_word a k (t.val / 512) (by omega))
  have hp : Routing.pyDiv bcast_S_S69632 (iotaInDim S69632 32 0) (constantI S_ 32 512#32) (ix1 t) = BitVec.ofNat 32 (t.val / 512) :=
    Routing.pyDiv_ap bcast_S_S69632 _ _ (ix1 t) (a := t.val) (b := 512) rfl rfl (by omega) (by omega) (by omega)
  rw [← hp]
  pointwise

/-- A token's gates. -/
theorem gates_ix (a : W1 8) (t : Fin 69632) (e : Fin 8) :
    gates (F := Ideal) (expert (ends a)) (ix2 t e) = (if cnt a (t.val / 512) = e.val then 1 else 0 : EReal) := by
  have hx := expert_ix a t
  have hc := cnt_le a (t.val / 512)
  generalize expert (ends a) = w at hx ⊢
  have h : gates (F := Ideal) w (ix2 t e) = (((IntOp.cmpi .eq (w (ix1 t)) (BitVec.ofNat 32 e.val)).toNat : ℝ) : EReal) := by
    unfold gates
    pointwise
    rfl
  rw [h, hx, cmpi_eq_eq_toNat, toNat_ofNat_of_lt (by omega), toNat_ofNat_of_lt (by omega)]
  split_ifs with h'
  · simp [h']
  · simp [h']

theorem all_ix (x : FVec Ideal S69632x1024 .f32) (a : W1 8) (W : FVec Ideal S8x1024x5632 .f32) (D : FVec Ideal S8x2816x1024 .f32) (q : Fin 557056) (l : Fin 128) :
    all x a W D (ix2 q l) = outE x a W D ⟨q.val / 8, by omega⟩ ⟨128 * (q.val % 8) + l.val, by omega⟩ := by
  unfold all
  refine (rows_at _ q l).trans ?_
  generalize (⟨q.val / 8, _⟩ : Fin 69632) = t
  generalize (⟨128 * (q.val % 8) + l.val, _⟩ : Fin 1024) = j
  have g : ∀ e : Fin 8, gates (F := Ideal) (expert (ends a)) (ix2 t e) * through x W D t e j
      = if cnt a (t.val / 512) = e.val then through x W D t e j else 0 := fun e => by
    rw [gates_ix]
    split_ifs
    · exact one_mul _
    · exact zero_mul _
  unfold outE
  rw [Fin.sum_univ_eight, ← g 0, ← g 1, ← g 2, ← g 3, ← g 4, ← g 5, ← g 6, ← g 7,
    ← one_ix (gates (expert (ends a))) x W D 0 slices_S69632x8_S69632x1_0_0 slices_S8x1024x5632_S1x1024x5632_0_0_0 slices_S8x2816x1024_S1x2816x1024_0_0_0,
    ← one_ix (gates (expert (ends a))) x W D 1 slices_S69632x8_S69632x1_0_1 slices_S8x1024x5632_S1x1024x5632_1_0_0 slices_S8x2816x1024_S1x2816x1024_1_0_0,
    ← one_ix (gates (expert (ends a))) x W D 2 slices_S69632x8_S69632x1_0_2 slices_S8x1024x5632_S1x1024x5632_2_0_0 slices_S8x2816x1024_S1x2816x1024_2_0_0,
    ← one_ix (gates (expert (ends a))) x W D 3 slices_S69632x8_S69632x1_0_3 slices_S8x1024x5632_S1x1024x5632_3_0_0 slices_S8x2816x1024_S1x2816x1024_3_0_0,
    ← one_ix (gates (expert (ends a))) x W D 4 slices_S69632x8_S69632x1_0_4 slices_S8x1024x5632_S1x1024x5632_4_0_0 slices_S8x2816x1024_S1x2816x1024_4_0_0,
    ← one_ix (gates (expert (ends a))) x W D 5 slices_S69632x8_S69632x1_0_5 slices_S8x1024x5632_S1x1024x5632_5_0_0 slices_S8x2816x1024_S1x2816x1024_5_0_0,
    ← one_ix (gates (expert (ends a))) x W D 6 slices_S69632x8_S69632x1_0_6 slices_S8x1024x5632_S1x1024x5632_6_0_0 slices_S8x2816x1024_S1x2816x1024_6_0_0,
    ← one_ix (gates (expert (ends a))) x W D 7 slices_S69632x8_S69632x1_0_7 slices_S8x1024x5632_S1x1024x5632_7_0_0 slices_S8x2816x1024_S1x2816x1024_7_0_0]
  have z : (broadcastInDim S69632x1024 ![] bcast_S_S69632x1024 (constant S_ .f32 0x00000000#32) : FVec Ideal S69632x1024 .f32) (ix2 t j) = (0 : EReal) := by
    pointwise
  have s : ∀ b0 b1 b2 b3 b4 b5 b6 b7 : EReal, (0 : EReal) + b0 + b1 + b2 + b3 + b4 + b5 + b6 + b7 = b0 + b1 + b2 + b3 + b4 + b5 + b6 + b7 :=
    fun b0 b1 b2 b3 b4 b5 b6 b7 => by rw [zero_add]
  refine Eq.trans ?_ (s _ _ _ _ _ _ _ _)
  rw [← z]
  rfl

open Idealize.ShloMosaic.TcCoe Idealize.SL.Sem in
set_option maxHeartbeats 1600000 in
/-- The reference's run. -/
theorem run {F : FTy → Type} [FloatOps F] (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v129) = all (m ((c.tc : Thread nD τ).loc main_arg0)) (m ((c.tc : Thread nD τ).loc main_arg1))
        (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ⟨(h c).1.trans ?_, (h c).2⟩) (Value.run m ρ)
  unfold Value.res_main_v100 Value.res_main_v120 Value.res_main_v121 Value.res_main_v106 Value.res_main_v107 Value.res_main_v92 Value.res_main_v93
    Value.res_main_v78 Value.res_main_v79 Value.res_main_v64 Value.res_main_v65 Value.res_main_v50 Value.res_main_v51 Value.res_main_v36 Value.res_main_v37
    Value.res_main_v22 Value.res_main_v23
  have hv : Value.res_main_v15 (StableHlo.launchContents m c) = gates (expert (ends (m ((c.tc : Thread nD τ).loc main_arg1)))) := by
    unfold Value.res_main_v15 gates expert ends Routing.pyDiv
    rfl
  rw [hv]
  unfold all one sw cols
  rfl

end Cert.ExpRef

end
-- ==== Proof.lean ====
/- The claims: the six programs' frames, the named decays, the retention sub-layer's value and the experts call's. -/
module

public import proofs.«01_k».proof.Defs
public import proofs.«01_k».proof.Proof.Gen.Retention.Frame
public import proofs.«01_k».proof.Proof.Gen.RetentionIdeal.Frame
public import proofs.«01_k».proof.Proof.Gen.RetentionIdeal.Value
public import proofs.«01_k».proof.Proof.Gen.RetentionRefIdeal.Run
public import proofs.«01_k».proof.Proof.Gen.RetentionRefIdeal.Step
public import proofs.«01_k».proof.Proof.Gen.Experts
public import proofs.«01_k».proof.Proof.Gen.Pre_fits
public import proofs.«01_k».proof.Proof.Ret.Finite
public import proofs.«01_k».proof.Proof.Ret.Final
public import proofs.«01_k».proof.Proof.Ret.RefRun
public import proofs.«01_k».proof.Proof.Ret.RefVal
public import proofs.«01_k».proof.Proof.Exp.Final
public import proofs.«01_k».proof.Proof.Exp.Ref
public import Idealize.ShloMosaic.Lib.Quiescent
public import Idealize.ShloMosaic.Adequacy
public import Idealize.ShloMosaic.Init

@[expose] public section

set_option maxRecDepth 16384

noncomputable section

namespace Cert.Proof

open Idealize.ShloMosaic Idealize.SL.Sem Cert.Spec Cert.Chunk Cert.Tiles

instance : Cert.Pre_finite.Facts := Cert.Finite.facts

/-- The reference runs, keeps its arguments, and has no semaphore to leave raised. -/
theorem frame_ref : Cert.quiescent_RetentionRefIdeal (hRetentionRefIdeal := Cert.RetentionRefIdeal.Gen.facts) := fun m ρ _ =>
  (θ_run Cert.RetentionRefIdeal.defs _ _).mono (fun r h => ⟨fun c => (h c).2, sem_eq_zero_of_no_sems (by decide) r.2⟩)
    (Cert.RefRun.run (F := Ideal) m ρ)

/-- The state of the reference's scan after `n` trips. -/
theorem scan (m : (ℓ : Loc Cert.RetentionRefIdeal.nD Cert.RetentionRefIdeal.τ Cert.RetentionRefIdeal.sig) → Buf (Elt Ideal) ℓ)
    (c : Dev Cert.RetentionRefIdeal.nD) (X : A3 8 4096 1024) (P : (⟨2, ![8, 4096]⟩ : Shape).Idx → BitVec 32) (M : A2 8 6144) (G : A1 1024)
    (W : A2 1024 6144) (H : Fin4 X M G W) (h : Cert.RefRun.first (F := Ideal) m c = Cert.RetentionRefIdeal.Step.init (F := Ideal) X P M G W) :
    ∀ n, n ≤ 32 → Cert.RefVal.Inv X P M G W n (Cert.RefRun.states (F := Ideal) m c n)
  | 0, _ => by
    show Cert.RefVal.Inv X P M G W 0 (Cert.RefRun.first (F := Ideal) m c)
    rw [h]
    exact Cert.RefVal.inv_init X P M G W
  | n + 1, hn => Cert.RefVal.inv_step P H ⟨n, hn⟩ _ (scan m c X P M G W H h n (Nat.le_of_succ_le hn))

/-- The kernel over the extended reals and the reference end at the same array: the sub-layer's `outE`. -/
theorem algebraic : Cert.algebraic_RetentionIdeal_RetentionRefIdeal_pre_finite (hRetentionIdeal := Cert.RetentionIdeal.Gen.facts)
    (hRetentionRefIdeal := Cert.RetentionRefIdeal.Gen.facts) := by
  intro m g m' g' hp ha
  have H : ∀ c, Fin4 (aX m c) (aM m c) (aG m c) (aW m c) := fun c =>
    Cert.Finite.fin4 _ _ _ _ _ _ (hp c).1 (hp c).2.1 (hp c).2.2.1 (hp c).2.2.2
  refine ⟨fun c y => outE (aX m c) (aP m c) (aM m c) (aG m c) (aW m c) (aO m c) (y 0) (y 1) (y 2),
    (θ_run _ _ _).mono (fun r h c => ⟨(h c).1.trans (Cert.Final.final m c (H c)), (h c).2⟩)
      (Cert.RetentionIdeal.Value.run_blocks (F := Ideal) m g),
    (θ_run _ _ _).mono (fun r h c => ⟨(h c).1.trans ?_, (h c).2⟩) (Cert.RefRun.run (F := Ideal) m' g')⟩
  obtain ⟨e0, e1, e2, e3, e4, e5⟩ := ha c
  have I := scan m' c (aX m c) (aP m c) (aM m c) (aG m c) (aW m c) (H c)
    (show Cert.RetentionRefIdeal.Step.init (F := Ideal) _ _ _ _ _ = _ by rw [e0, e1, e2, e3, e4]) 32 le_rfl
  rw [e0, e2, e3, e4, e5]
  funext y
  have hy : y = ix3 (y 0) (y 1) (y 2) := funext fun | ⟨0, _⟩ => rfl | ⟨1, _⟩ => rfl | ⟨2, _⟩ => rfl
  rw [hy]
  exact Cert.RefVal.res_ix (X := aX m c) (P := aP m c) (M := aM m c) (G := aG m c) (W := aW m c) (O := aO m c) (b := y 0) (t := y 1) (i := y 2) (I := I)

/-- Each decay's word is the named number's. -/
theorem preserves : Cert.preserves_Retention_RetentionIdeal :=
  ⟨IdealRules.named_const.statement Cert.RetentionIdeal.κ "decay0" .f32 0x399ACCA1#32 _ rfl,
    IdealRules.named_const.statement Cert.RetentionIdeal.κ "decay1" .f32 0x3C9160A5#32 _ rfl,
    IdealRules.named_const.statement Cert.RetentionIdeal.κ "decay2" .f32 0x3E097FCE#32 _ rfl,
    IdealRules.named_const.statement Cert.RetentionIdeal.κ "decay3" .f32 0x3EBBFC5D#32 _ rfl⟩

instance usedFacts : Cert.Pre_used.Facts where
  bcast_S_S8 := Cert.Pre_fits.Gen.bcast_S_S8
  bcast_S_S_ := Cert.Pre_fits.Gen.bcast_S_S_
  reduceWindows_S8_S8_w8s1p7_0 := Cert.Pre_fits.Gen.reduceWindows_S8_S8_w8s1p7_0
  h_S_ := Cert.Pre_fits.Gen.h_S_
  slices_S8_S1_7 := Cert.Pre_fits.Gen.slices_S8_S1_7
  shapeCasts_S1_S_ := Cert.Pre_fits.Gen.shapeCasts_S1_S_

/-- Under `fits`, the groups end where the call needs them to. -/
theorem fits_ideal (m : (ℓ : Loc Cert.ExpertsIdeal.nD Cert.ExpertsIdeal.τ Cert.ExpertsIdeal.sig) → Buf (Elt Ideal) ℓ) (h : Cert.Pre_ExpertsIdeal_fits m)
    (c : Dev Cert.ExpertsIdeal.nD) : Cert.Count.Fits (Cert.Exp.aA m c) :=
  Cert.Count.fits Ideal _ _ _ _ (h c).1 (h c).2

/-- The two programs of the experts call differ in nothing: the kernel's body and its launch are the same, -/
theorem defs_experts : Cert.Experts.defs (F := Bits) = Cert.ExpertsIdeal.defs (F := Bits) := by
  refine congrArg (Pipeline.defs (Cert.Experts.pcfgs (F := Bits))) ?_
  unfold Cert.Experts.defs₀ Cert.ExpertsIdeal.defs₀
  refine congrArg (Defs.onTc (Λ := Cert.Experts.Λ₀)) (funext fun l => funext fun a => ?_)
  match l, a with
  | 0, (t, s) => rfl
  | ⟨_ + 1, h⟩, _ => exact absurd h (Nat.not_lt.2 (Nat.le_add_left _ _))

set_option maxHeartbeats 4000000 in
/-- and so is the host's code. -/
theorem main_experts : Cert.Experts.main (F := Bits) = Cert.ExpertsIdeal.main (F := Bits) := by
  funext c
  unfold Cert.Experts.main Cert.ExpertsIdeal.main
  rfl

set_option maxHeartbeats 4000000 in
/-- So the run over any number format is the run over words. -/
theorem frame_experts : Cert.quiescent_Experts := fun m ρ h => by
  have hO : Cert.Exp.Ok (F := Bits) m := Cert.Exp.ok_of_used m (Cert.Count.used Bits _ _ _ _ (h 0))
  rw [defs_experts, main_experts]
  exact Cert.Exp.frame (F := Bits) m ρ hO

theorem frame_experts_ideal : Cert.quiescent_ExpertsIdeal := fun m ρ h =>
  Cert.Exp.frame (F := Ideal) m ρ (Cert.Exp.ok_of_used m (Cert.Count.used Ideal _ _ _ _ (h 0)))

theorem frame_experts_fits : Cert.quiescent_ExpertsIdeal_pre_fits := fun m ρ h =>
  Cert.Exp.frame (F := Ideal) m ρ (Cert.Exp.ok_of_used m (fits_ideal m h 0).one)

theorem frame_experts_ref : Cert.quiescent_ExpertsRefIdeal := fun m ρ _ =>
  (θ_run Cert.ExpertsRefIdeal.defs _ _).mono (fun r h => ⟨fun c => (h c).2, sem_eq_zero_of_no_sems (by decide) r.2⟩)
    (Cert.ExpRef.run (F := Ideal) m ρ)

/-- The experts call and its reference end at the same array: every token through the expert of its tile. -/
theorem algebraic_experts : Cert.algebraic_ExpertsIdeal_ExpertsRefIdeal_pre_fits := by
  intro m g m' g' hp ha
  have hO : Cert.Exp.Ok m := Cert.Exp.ok_of_used m (fits_ideal m hp 0).one
  refine ⟨fun c => Cert.Exp.resG m c,
    (θ_run _ _ _).mono (fun r h c => ⟨h.1 c, h.2.1 c⟩)
      (θ_run_and (Cert.Exp.run_value m hO g (fits_ideal m hp)) (Cert.Exp.frame (F := Ideal) m g hO)),
    (θ_run _ _ _).mono (fun r h c => ⟨(h c).1.trans ?_, (h c).2⟩) (Cert.ExpRef.run (F := Ideal) m' g')⟩
  obtain ⟨e0, e1, e2, e3⟩ := ha c
  rw [e0, e1, e2, e3]
  funext y
  have hy : y = ix2 (y 0) (y 1) := funext fun | ⟨0, _⟩ => rfl | ⟨1, _⟩ => rfl
  rw [hy]
  exact Cert.ExpRef.all_ix (Cert.Exp.aX m c) (Cert.Exp.aA m c) (Cert.Exp.aW m c) (Cert.Exp.aD m c) (y 0) (y 1)

theorem claim : Cert.Claim := ⟨Cert.Retention.Gen.facts, Cert.RetentionIdeal.Gen.facts, Cert.RetentionRefIdeal.Gen.facts,
  Cert.Experts.Gen.facts, Cert.ExpertsIdeal.Gen.facts, Cert.ExpertsRefIdeal.Gen.facts, Cert.Finite.facts, usedFacts, Cert.Pre_fits.Gen.facts,
  fun m ρ _ => Cert.Retention.Gen.frame m ρ, fun m ρ _ => Cert.RetentionIdeal.Gen.frame m ρ, fun m ρ _ => Cert.RetentionIdeal.Gen.frame m ρ,
  frame_ref, fun m ρ _ => frame_ref m ρ trivial, frame_experts, frame_experts_ideal, frame_experts_fits, frame_experts_ref,
  fun m ρ _ => frame_experts_ref m ρ trivial, preserves, algebraic, trivial, algebraic_experts⟩

end Cert.Proof

end
